-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_formed [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_well_formed [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_formed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "neg" .f32 0xFF61B1E6#32 ⊥
  ∧ IdealRules.named_const.Statement Cert.KernelIdeal.κ "pos" .f32 0x7F61B1E6#32 ⊤
  ∧ IdealRules.named_const.Statement Cert.KernelIdeal.κ "neg" .bf16 0xFF62#16 ⊥

def algebraic_KernelIdeal_ReferenceIdeal_pre_well_formed [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_formed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_well_formed : Cert.Pre_well_formed.Facts),
    quiescent_Kernel (hKernel := hKernel)
    ∧ quiescent_KernelIdeal (hKernelIdeal := hKernelIdeal)
    ∧ quiescent_KernelIdeal_pre_well_formed (hKernelIdeal := hKernelIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ preserves_Kernel_KernelIdeal
    ∧ algebraic_KernelIdeal_ReferenceIdeal_pre_well_formed (hKernelIdeal := hKernelIdeal) (hReferenceIdeal := hReferenceIdeal) (hPre_well_formed := hPre_well_formed)
-- ==== Pre_well_formed.lean ====
abbrev S320000x128 : Shape := ⟨2, ![320000, 128]⟩
abbrev S320000 : Shape := ⟨1, ![320000]⟩
abbrev S64x128 : Shape := ⟨2, ![64, 128]⟩
abbrev S64 : Shape := ⟨1, ![64]⟩
abbrev S_ : Shape := ⟨0, ![]⟩
abbrev S319999 : Shape := ⟨1, ![319999]⟩

class Facts : Prop where
  bcast_S_S320000x128 : S_.BroadcastsInDim S320000x128 (![] : Fin 0 → Fin S320000x128.rank)
  reducesTo_S320000x128_S_d0_1 : S320000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S320000 : S_.BroadcastsInDim S320000 (![] : Fin 0 → Fin S320000.rank)
  reducesTo_S320000_S_d0 : S320000.ReducesTo [0] S_
  slices_S320000_S319999_0 : S320000.Slices ![0] S319999
  slices_S320000_S319999_1 : S320000.Slices ![1] S319999
  reducesTo_S319999_S_d0 : S319999.ReducesTo [0] S_

variable [Facts]

def fn_part1 {F : FTy → Type} [FloatOps F] (main_arg1 : IVec S320000 32) (main_v13 : IVec S_ 1) (main_v15 : IVec S320000 1) (main_c_5 : IVec S_ 32) : IVec S_ 1 :=
  let main_v16 : IVec S320000 32 := broadcastInDim S320000 ![] bcast_S_S320000 main_c_5
  let main_v17 : IVec S320000 1 := cmpi .slt main_arg1 main_v16
  let main_v18 : IVec S320000 1 := andi main_v15 main_v17
  let main_c_6 : IVec S_ 1 := constantI S_ 1 1#1
  let main_v19 : IVec S_ 1 := (fun x v => Host.reduce IntOp.andi x v reducesTo_S320000_S_d0 h_S_) main_v18 main_c_6
  let main_v20 : IVec S319999 32 := (extractStridedSlice S319999 ![0] · slices_S320000_S319999_0) main_arg1
  let main_v21 : IVec S319999 32 := (extractStridedSlice S319999 ![1] · slices_S320000_S319999_1) main_arg1
  let main_v22 : IVec S319999 1 := cmpi .sle main_v20 main_v21
  let main_c_7 : IVec S_ 1 := constantI S_ 1 1#1
  let main_v23 : IVec S_ 1 := (fun x v => Host.reduce IntOp.andi x v reducesTo_S319999_S_d0 h_S_) main_v22 main_c_7
  let main_v24 : IVec S_ 1 := andi main_v13 main_v19
  let main_v25 : IVec S_ 1 := andi main_v24 main_v23
  main_v25

def fn {F : FTy → Type} [FloatOps F] (main_arg0 : FVec F S320000x128 .f32) (main_arg1 : IVec S320000 32) (main_arg2 : FVec F S64x128 .f32) (main_arg3 : FVec F S64 .f32) (main_arg4 : FVec F S64 .f32) : IVec S_ 1 :=
  let main_v0 : FVec F S320000x128 .f32 := Host.absf main_arg0
  let main_cst : FVec F S_ .f32 := constant S_ .f32 0x7F800000#32
  let main_v1 : FVec F S320000x128 .f32 := broadcastInDim S320000x128 ![] bcast_S_S320000x128 main_cst
  let main_v2 : IVec S320000x128 1 := cmpf .olt main_v0 main_v1
  let main_c : IVec S_ 1 := constantI S_ 1 1#1
  let main_v3 : IVec S_ 1 := (fun x v => Host.reduce IntOp.andi x v reducesTo_S320000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_c_4 : IVec S_ 32 := constantI S_ 32 0#32
  let main_v14 : IVec S320000 32 := broadcastInDim S320000 ![] bcast_S_S320000 main_c_4
  let main_v15 : IVec S320000 1 := cmpi .sge main_arg1 main_v14
  let main_c_5 : IVec S_ 32 := constantI S_ 32 10000#32
  fn_part1 (F := F) main_arg1 main_v13 main_v15 main_c_5
-- ==== Kernel.lean ====
abbrev S320000x128 : Shape := ⟨2, ![320000, 128]⟩
abbrev S320000 : Shape := ⟨1, ![320000]⟩
abbrev S64x128 : Shape := ⟨2, ![64, 128]⟩
abbrev S64 : Shape := ⟨1, ![64]⟩
abbrev S320000x1 : Shape := ⟨2, ![320000, 1]⟩
abbrev S1250 : Shape := ⟨1, ![1250]⟩
abbrev S_ : Shape := ⟨0, ![]⟩
abbrev S1256 : Shape := ⟨1, ![1256]⟩
abbrev S1256x1 : Shape := ⟨2, ![1256, 1]⟩
abbrev S128x64 : Shape := ⟨2, ![128, 64]⟩
abbrev S1x64 : Shape := ⟨2, ![1, 64]⟩
abbrev S1256x1x64 : Shape := ⟨3, ![1256, 1, 64]⟩
abbrev S1x128 : Shape := ⟨2, ![1, 128]⟩
abbrev S512x128 : Shape := ⟨2, ![512, 128]⟩
abbrev S512x1 : Shape := ⟨2, ![512, 1]⟩
abbrev S2x1x64 : Shape := ⟨3, ![2, 1, 64]⟩
abbrev S1024x64 : Shape := ⟨2, ![1024, 64]⟩
abbrev S512x64 : Shape := ⟨2, ![512, 64]⟩
abbrev S256x64 : Shape := ⟨2, ![256, 64]⟩
abbrev S256x1 : Shape := ⟨2, ![256, 1]⟩
abbrev S1x1 : Shape := ⟨2, ![1, 1]⟩
abbrev S1x1x64 : Shape := ⟨3, ![1, 1, 64]⟩
abbrev S1256x64 : Shape := ⟨2, ![1256, 64]⟩
abbrev S1255x1 : Shape := ⟨2, ![1255, 1]⟩
abbrev S1255x64 : Shape := ⟨2, ![1255, 64]⟩
abbrev S2x1 : Shape := ⟨2, ![2, 1]⟩
abbrev S1254x1 : Shape := ⟨2, ![1254, 1]⟩
abbrev S2x64 : Shape := ⟨2, ![2, 64]⟩
abbrev S1254x64 : Shape := ⟨2, ![1254, 64]⟩
abbrev S4x1 : Shape := ⟨2, ![4, 1]⟩
abbrev S1252x1 : Shape := ⟨2, ![1252, 1]⟩
abbrev S4x64 : Shape := ⟨2, ![4, 64]⟩
abbrev S1252x64 : Shape := ⟨2, ![1252, 64]⟩
abbrev S8x1 : Shape := ⟨2, ![8, 1]⟩
abbrev S1248x1 : Shape := ⟨2, ![1248, 1]⟩
abbrev S8x64 : Shape := ⟨2, ![8, 64]⟩
abbrev S1248x64 : Shape := ⟨2, ![1248, 64]⟩
abbrev S16x1 : Shape := ⟨2, ![16, 1]⟩
abbrev S1240x1 : Shape := ⟨2, ![1240, 1]⟩
abbrev S16x64 : Shape := ⟨2, ![16, 64]⟩
abbrev S1240x64 : Shape := ⟨2, ![1240, 64]⟩
abbrev S32x1 : Shape := ⟨2, ![32, 1]⟩
abbrev S1224x1 : Shape := ⟨2, ![1224, 1]⟩
abbrev S32x64 : Shape := ⟨2, ![32, 64]⟩
abbrev S1224x64 : Shape := ⟨2, ![1224, 64]⟩
abbrev S64x1 : Shape := ⟨2, ![64, 1]⟩
abbrev S1192x1 : Shape := ⟨2, ![1192, 1]⟩
abbrev S64x64 : Shape := ⟨2, ![64, 64]⟩
abbrev S1192x64 : Shape := ⟨2, ![1192, 64]⟩
abbrev S128x1 : Shape := ⟨2, ![128, 1]⟩
abbrev S1128x1 : Shape := ⟨2, ![1128, 1]⟩
abbrev S1128x64 : Shape := ⟨2, ![1128, 64]⟩
abbrev S1000x1 : Shape := ⟨2, ![1000, 1]⟩
abbrev S1000x64 : Shape := ⟨2, ![1000, 64]⟩
abbrev S744x1 : Shape := ⟨2, ![744, 1]⟩
abbrev S744x64 : Shape := ⟨2, ![744, 64]⟩
abbrev S1024x1 : Shape := ⟨2, ![1024, 1]⟩
abbrev S232x1 : Shape := ⟨2, ![232, 1]⟩
abbrev S232x64 : Shape := ⟨2, ![232, 64]⟩
abbrev S256x128 : Shape := ⟨2, ![256, 128]⟩
abbrev S255x1 : Shape := ⟨2, ![255, 1]⟩
abbrev S255x128 : Shape := ⟨2, ![255, 128]⟩
abbrev S254x1 : Shape := ⟨2, ![254, 1]⟩
abbrev S2x128 : Shape := ⟨2, ![2, 128]⟩
abbrev S254x128 : Shape := ⟨2, ![254, 128]⟩
abbrev S252x1 : Shape := ⟨2, ![252, 1]⟩
abbrev S4x128 : Shape := ⟨2, ![4, 128]⟩
abbrev S252x128 : Shape := ⟨2, ![252, 128]⟩
abbrev S248x1 : Shape := ⟨2, ![248, 1]⟩
abbrev S8x128 : Shape := ⟨2, ![8, 128]⟩
abbrev S248x128 : Shape := ⟨2, ![248, 128]⟩
abbrev S240x1 : Shape := ⟨2, ![240, 1]⟩
abbrev S16x128 : Shape := ⟨2, ![16, 128]⟩
abbrev S240x128 : Shape := ⟨2, ![240, 128]⟩
abbrev S224x1 : Shape := ⟨2, ![224, 1]⟩
abbrev S32x128 : Shape := ⟨2, ![32, 128]⟩
abbrev S224x128 : Shape := ⟨2, ![224, 128]⟩
abbrev S192x1 : Shape := ⟨2, ![192, 1]⟩
abbrev S192x128 : Shape := ⟨2, ![192, 128]⟩
abbrev S128x128 : Shape := ⟨2, ![128, 128]⟩

abbrev nBuf : Space → Nat
  | .hbm => 35
  | .vmem => 49
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S64x128, .f32⟩
  | .hbm, ⟨3, _⟩ => ⟨S64, .f32⟩
  | .hbm, ⟨4, _⟩ => ⟨S64, .f32⟩
  | .hbm, ⟨5, _⟩ => ⟨S320000x1, .i32⟩
  | .hbm, ⟨6, _⟩ => ⟨S1250, .i32⟩
  | .hbm, ⟨7, _⟩ => ⟨S_, .i32⟩
  | .hbm, ⟨8, _⟩ => ⟨S_, .i32⟩
  | .hbm, ⟨9, _⟩ => ⟨S1256, .i32⟩
  | .hbm, ⟨10, _⟩ => ⟨S1250, .i32⟩
  | .hbm, ⟨11, _⟩ => ⟨S_, .i32⟩
  | .hbm, ⟨12, _⟩ => ⟨S_, .i32⟩
  | .hbm, ⟨13, _⟩ => ⟨S1256, .i32⟩
  | .hbm, ⟨14, _⟩ => ⟨S1256x1, .i32⟩
  | .hbm, ⟨15, _⟩ => ⟨S1256x1, .i32⟩
  | .hbm, ⟨16, _⟩ => ⟨S128x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1256x1x64, .f32⟩
  | .hbm, ⟨22, _⟩ => ⟨S1256x1x64, .f32⟩
  | .hbm, ⟨23, _⟩ => ⟨S1256x1x64, .f32⟩
  | .hbm, ⟨24, _⟩ => ⟨S1256x1x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S1256x1x64, .f32⟩
  | .hbm, ⟨29, _⟩ => ⟨S1256x1x64, .f32⟩
  | .hbm, ⟨30, _⟩ => ⟨S128x64, .f32⟩
  | .hbm, ⟨31, _⟩ => ⟨S128x64, .f32⟩
  | .hbm, ⟨32, _⟩ => ⟨S1x128, .f32⟩
  | .hbm, ⟨33, _⟩ => ⟨S1x128, .f32⟩
  | .hbm, ⟨34, _⟩ => ⟨S320000x128, .f32⟩
  | .local _ .vmem, ⟨0, _⟩ => ⟨S512x128, .f32⟩
  | .local _ .vmem, ⟨1, _⟩ => ⟨S512x128, .f32⟩
  | .local _ .vmem, ⟨2, _⟩ => ⟨S128x64, .f32⟩
  | .local _ .vmem, ⟨3, _⟩ => ⟨S512x1, .i32⟩
  | .local _ .vmem, ⟨4, _⟩ => ⟨S512x1, .i32⟩
  | .local _ .vmem, ⟨5, _⟩ => ⟨S1x64, .f32⟩
  | .local _ .vmem, ⟨6, _⟩ => ⟨S1x64, .f32⟩
  | .local _ .vmem, ⟨7, _⟩ => ⟨S2x1x64, .f32⟩
  | .local _ .vmem, ⟨8, _⟩ => ⟨S2x1x64, .f32⟩
  | .local _ .vmem, ⟨9, _⟩ => ⟨S2x1x64, .f32⟩
  | .local _ .vmem, ⟨10, _⟩ => ⟨S2x1x64, .f32⟩
  | .local _ .vmem, ⟨11, _⟩ => ⟨S2x1x64, .f32⟩
  | .local _ .vmem, ⟨12, _⟩ => ⟨S2x1x64, .f32⟩
  | .local _ .vmem, ⟨13, _⟩ => ⟨S2x1x64, .f32⟩
  | .local _ .vmem, ⟨14, _⟩ => ⟨S2x1x64, .f32⟩
  | .local _ .vmem, ⟨15, _⟩ => ⟨S1024x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1256x1, .i32⟩
  | .local _ .vmem, ⟨21, _⟩ => ⟨S1256x1, .i32⟩
  | .local _ .vmem, ⟨22, _⟩ => ⟨S1256x1x64, .f32⟩
  | .local _ .vmem, ⟨23, _⟩ => ⟨S1256x1x64, .f32⟩
  | .local _ .vmem, ⟨24, _⟩ => ⟨S1256x1x64, .f32⟩
  | .local _ .vmem, ⟨25, _⟩ => ⟨S1256x1x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1256x1x64, .f32⟩
  | .local _ .vmem, ⟨30, _⟩ => ⟨S1256x1x64, .f32⟩
  | .local _ .vmem, ⟨31, _⟩ => ⟨S512x128, .f32⟩
  | .local _ .vmem, ⟨32, _⟩ => ⟨S512x128, .f32⟩
  | .local _ .vmem, ⟨33, _⟩ => ⟨S128x64, .f32⟩
  | .local _ .vmem, ⟨34, _⟩ => ⟨S512x1, .i32⟩
  | .local _ .vmem, ⟨35, _⟩ => ⟨S512x1, .i32⟩
  | .local _ .vmem, ⟨36, _⟩ => ⟨S1x128, .f32⟩
  | .local _ .vmem, ⟨37, _⟩ => ⟨S1x128, .f32⟩
  | .local _ .vmem, ⟨38, _⟩ => ⟨S1x1x64, .f32⟩
  | .local _ .vmem, ⟨39, _⟩ => ⟨S1x1x64, .f32⟩
  | .local _ .vmem, ⟨40, _⟩ => ⟨S1x1x64, .f32⟩
  | .local _ .vmem, ⟨41, _⟩ => ⟨S1x1x64, .f32⟩
  | .local _ .vmem, ⟨42, _⟩ => ⟨S1x1x64, .f32⟩
  | .local _ .vmem, ⟨43, _⟩ => ⟨S1x1x64, .f32⟩
  | .local _ .vmem, ⟨44, _⟩ => ⟨S1x1x64, .f32⟩
  | .local _ .vmem, ⟨45, _⟩ => ⟨S1x1x64, .f32⟩
  | .local _ .vmem, ⟨46, _⟩ => ⟨S512x128, .f32⟩
  | .local _ .vmem, ⟨47, _⟩ => ⟨S512x128, .f32⟩
  | .local _ .vmem, ⟨48, _⟩ => ⟨S512x128, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call2_v0_0 : Ref sig .tc := ⟨.hbm, 19, rfl⟩
abbrev main_call2_v0_1 : Ref sig .tc := ⟨.hbm, 20, rfl⟩
abbrev main_call2_v0_2 : Ref sig .tc := ⟨.hbm, 21, rfl⟩
abbrev main_call2_v0_3 : Ref sig .tc := ⟨.hbm, 22, rfl⟩
abbrev main_call2_v0_4 : Ref sig .tc := ⟨.hbm, 23, rfl⟩
abbrev main_call2_v0_5 : Ref sig .tc := ⟨.hbm, 24, rfl⟩
abbrev main_call2_v1_0 : Ref sig .tc := ⟨.hbm, 25, rfl⟩
abbrev main_call2_v1_1 : Ref sig .tc := ⟨.hbm, 26, rfl⟩
abbrev main_call2_v1_2 : Ref sig .tc := ⟨.hbm, 27, rfl⟩
abbrev main_call2_v1_3 : Ref sig .tc := ⟨.hbm, 28, rfl⟩
abbrev main_call2_v1_4 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_v10 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg13_0 : Ref sig .tc := ⟨.vmem, 29, rfl⟩
abbrev cc1_stg14_0 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg5_1 : Ref sig .tc := ⟨.vmem, 39, rfl⟩
abbrev cc2_stg6_0 : Ref sig .tc := ⟨.vmem, 40, rfl⟩
abbrev cc2_stg6_1 : Ref sig .tc := ⟨.vmem, 41, rfl⟩
abbrev cc2_stg7_0 : Ref sig .tc := ⟨.vmem, 42, rfl⟩
abbrev cc2_stg7_1 : Ref sig .tc := ⟨.vmem, 43, rfl⟩
abbrev cc2_stg8_0 : Ref sig .tc := ⟨.vmem, 44, rfl⟩
abbrev cc2_stg8_1 : Ref sig .tc := ⟨.vmem, 45, rfl⟩
abbrev cc2_stg9_0 : Ref sig .tc := ⟨.vmem, 46, rfl⟩
abbrev cc2_stg9_1 : Ref sig .tc := ⟨.vmem, 47, rfl⟩
abbrev cc2_scratch0 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem13_0 : DmaSem sig := 28
abbrev cc1_sem14_0 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem2_1 : DmaSem sig := 34
abbrev cc2_sem3_0 : DmaSem sig := 35
abbrev cc2_sem4_0 : DmaSem sig := 36
abbrev cc2_sem5_0 : DmaSem sig := 37
abbrev cc2_sem5_1 : DmaSem sig := 38
abbrev cc2_sem6_0 : DmaSem sig := 39
abbrev cc2_sem6_1 : DmaSem sig := 40
abbrev cc2_sem7_0 : DmaSem sig := 41
abbrev cc2_sem7_1 : DmaSem sig := 42
abbrev cc2_sem8_0 : DmaSem sig := 43
abbrev cc2_sem8_1 : DmaSem sig := 44
abbrev cc2_sem9_0 : DmaSem sig := 45
abbrev cc2_sem9_1 : DmaSem sig := 46

abbrev nD : Nat := 1
abbrev τ : Topo := Topo.v7x

variable {F : FTy → Type} [FloatOps F]

abbrev grid0 : Pipeline.Grid := ⟨1, ![626], ![false]⟩

def k0_off1 (i : grid0.Coords) : Fin 2 → Nat :=
  let arg0 : BitVec 32 := BitVec.ofNat 32 (i 0).val
  let c1_i32 : BitVec 32 := 1#32
  let v0 : BitVec 32 := Scalar.subi arg0 c1_i32
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi v0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c512_i32 : BitVec 32 := 512#32
  let v11 : BitVec 32 := Scalar.muli v10 c512_i32
  let v12 : Index := Scalar.indexCast v11
  let c0 : Index := 0#32
  ![v12.toNat, 0]
def k0_off2 (i : grid0.Coords) : Fin 2 → Nat :=
  let arg0 : BitVec 32 := BitVec.ofNat 32 (i 0).val
  let c2_i32_61 : BitVec 32 := 2#32
  let c0_i32_62 : BitVec 32 := 0#32
  let v124 : BitVec 1 := Scalar.cmpi .eq c2_i32_61 c0_i32_62
  let c1_i32_63 : BitVec 32 := 1#32
  let v125 : BitVec 32 := Scalar.select v124 c1_i32_63 c2_i32_61
  let v126 : BitVec 32 := Scalar.remsi arg0 v125
  let c0_i32_65 : BitVec 32 := 0#32
  let v128 : BitVec 1 := Scalar.cmpi .slt v126 c0_i32_65
  let c0_i32_66 : BitVec 32 := 0#32
  let v129 : BitVec 1 := Scalar.cmpi .slt v125 c0_i32_66
  let v130 : BitVec 1 := Scalar.xori v128 v129
  let c0_i32_64 : BitVec 32 := 0#32
  let v127 : BitVec 1 := Scalar.cmpi .ne v126 c0_i32_64
  let v131 : BitVec 1 := Scalar.andi v130 v127
  let v132 : BitVec 32 := Scalar.addi v126 v125
  let v133 : BitVec 32 := Scalar.select v131 v132 v126
  let c512_i32_67 : BitVec 32 := 512#32
  let v134 : BitVec 32 := Scalar.muli v133 c512_i32_67
  let v135 : Index := Scalar.indexCast v134
  let c0_68 : Index := 0#32
  ![v135.toNat, 0]
def cc0_transform_0 (i : grid0.Coords) : Fin 2 → Nat :=
  let arg0 : BitVec 32 := BitVec.ofNat 32 (i 0).val
  let c624_i32 : BitVec 32 := 624#32
  let v0 : BitVec 32 := Scalar.minsi arg0 c624_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 1 → Memref sig .tc .vmem S1x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1256x1 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1256x1 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1256x1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1256x1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1256x1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1256x1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1256x1x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1256x1x64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev grid2 : Pipeline.Grid := ⟨1, ![626], ![false]⟩

def k2_off1 (i : grid2.Coords) : Fin 2 → Nat :=
  let arg0 : BitVec 32 := BitVec.ofNat 32 (i 0).val
  let c1_i32 : BitVec 32 := 1#32
  let v3 : BitVec 32 := Scalar.subi arg0 c1_i32
  let c2_i32 : BitVec 32 := 2#32
  let c0_i32 : BitVec 32 := 0#32
  let v4 : BitVec 1 := Scalar.cmpi .eq c2_i32 c0_i32
  let c1_i32_3 : BitVec 32 := 1#32
  let v5 : BitVec 32 := Scalar.select v4 c1_i32_3 c2_i32
  let v6 : BitVec 32 := Scalar.remsi v3 v5
  let c0_i32_5 : BitVec 32 := 0#32
  let v8 : BitVec 1 := Scalar.cmpi .slt v6 c0_i32_5
  let c0_i32_6 : BitVec 32 := 0#32
  let v9 : BitVec 1 := Scalar.cmpi .slt v5 c0_i32_6
  let v10 : BitVec 1 := Scalar.xori v8 v9
  let c0_i32_4 : BitVec 32 := 0#32
  let v7 : BitVec 1 := Scalar.cmpi .ne v6 c0_i32_4
  let v11 : BitVec 1 := Scalar.andi v10 v7
  let v12 : BitVec 32 := Scalar.addi v6 v5
  let v13 : BitVec 32 := Scalar.select v11 v12 v6
  let c256_i32 : BitVec 32 := 256#32
  let v14 : BitVec 32 := Scalar.muli v13 c256_i32
  let v15 : Index := Scalar.indexCast v14
  let c0_7 : Index := 0#32
  ![v15.toNat, 0]
def k2_off2 (i : grid2.Coords) : Fin 2 → Nat :=
  let arg0 : BitVec 32 := BitVec.ofNat 32 (i 0).val
  let c2_i32_124 : BitVec 32 := 2#32
  let c0_i32_125 : BitVec 32 := 0#32
  let v443 : BitVec 1 := Scalar.cmpi .eq c2_i32_124 c0_i32_125
  let c1_i32_126 : BitVec 32 := 1#32
  let v444 : BitVec 32 := Scalar.select v443 c1_i32_126 c2_i32_124
  let v445 : BitVec 32 := Scalar.remsi arg0 v444
  let c0_i32_128 : BitVec 32 := 0#32
  let v447 : BitVec 1 := Scalar.cmpi .slt v445 c0_i32_128
  let c0_i32_129 : BitVec 32 := 0#32
  let v448 : BitVec 1 := Scalar.cmpi .slt v444 c0_i32_129
  let v449 : BitVec 1 := Scalar.xori v447 v448
  let c0_i32_127 : BitVec 32 := 0#32
  let v446 : BitVec 1 := Scalar.cmpi .ne v445 c0_i32_127
  let v450 : BitVec 1 := Scalar.andi v449 v446
  let v451 : BitVec 32 := Scalar.addi v445 v444
  let v452 : BitVec 32 := Scalar.select v450 v451 v445
  let c256_i32_130 : BitVec 32 := 256#32
  let v453 : BitVec 32 := Scalar.muli v452 c256_i32_130
  let v454 : Index := Scalar.indexCast v453
  let c0_131 : Index := 0#32
  ![v454.toNat, 0]
def cc2_transform_0 (i : grid2.Coords) : Fin 2 → Nat :=
  let arg0 : BitVec 32 := BitVec.ofNat 32 (i 0).val
  let c624_i32 : BitVec 32 := 624#32
  let v0 : BitVec 32 := Scalar.minsi arg0 c624_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.subi v0 c2_i32_0
  let c0_i32 : BitVec 32 := 0#32
  let v2 : BitVec 32 := Scalar.maxsi v1 c0_i32
  let c0_i32_1 : BitVec 32 := 0#32
  let c0_i32_2 : BitVec 32 := 0#32
  let c0_i32_3 : BitVec 32 := 0#32
  ![v2.toNat, c0_i32_1.toNat, c0_i32_2.toNat]

def cc2_transform_6 (i : grid2.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc2_transform_7 (i : grid2.Coords) : Fin 3 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.subi v0 c2_i32_0
  let c0_i32 : BitVec 32 := 0#32
  let v2 : BitVec 32 := Scalar.maxsi v1 c0_i32
  let c0_i32_1 : BitVec 32 := 0#32
  let c0_i32_2 : BitVec 32 := 0#32
  let c0_i32_3 : BitVec 32 := 0#32
  ![v2.toNat, c0_i32_1.toNat, c0_i32_2.toNat]

def cc2_transform_8 (i : grid2.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc2_transform_9 (i : grid2.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage2_0 : Fin 2 → Memref sig .tc .vmem S512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x1x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S512x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]
-- ==== KernelIdeal.lean ====
variable {F : FTy → Type} [FloatOps F] [Named F]
def κ : String → Option EReal := fun
  | "neg" => some ⊥
  | "pos" => some ⊤
  | _ => none
-- ==== ReferenceIdeal.lean ====
abbrev S320000x128 : Shape := ⟨2, ![320000, 128]⟩
abbrev S320000 : Shape := ⟨1, ![320000]⟩
abbrev S64x128 : Shape := ⟨2, ![64, 128]⟩
abbrev S64 : Shape := ⟨1, ![64]⟩
abbrev S128x64 : Shape := ⟨2, ![128, 64]⟩
abbrev S320000x64 : Shape := ⟨2, ![320000, 64]⟩
abbrev S_ : Shape := ⟨0, ![]⟩
abbrev S1x64 : Shape := ⟨2, ![1, 64]⟩
abbrev S10000 : Shape := ⟨1, ![10000]⟩
abbrev S1x320000x1 : Shape := ⟨3, ![1, 320000, 1]⟩
abbrev S10000x1x1 : Shape := ⟨3, ![10000, 1, 1]⟩
abbrev S10000x320000x1 : Shape := ⟨3, ![10000, 320000, 1]⟩
abbrev S1x320000x64 : Shape := ⟨3, ![1, 320000, 64]⟩
abbrev S10000x320000x64 : Shape := ⟨3, ![10000, 320000, 64]⟩
abbrev S10000x64 : Shape := ⟨2, ![10000, 64]⟩
abbrev S320000x1 : Shape := ⟨2, ![320000, 1]⟩

abbrev nBuf : Space → Nat
  | .hbm => 68
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S64x128, .f32⟩
  | .hbm, ⟨3, _⟩ => ⟨S64, .f32⟩
  | .hbm, ⟨4, _⟩ => ⟨S64, .f32⟩
  | .hbm, ⟨5, _⟩ => ⟨S128x64, .f32⟩
  | .hbm, ⟨6, _⟩ => ⟨S320000x64, .f32⟩
  | .hbm, ⟨7, _⟩ => ⟨S_, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S1x64, .f32⟩
  | .hbm, ⟨13, _⟩ => ⟨S320000x64, .f32⟩
  | .hbm, ⟨14, _⟩ => ⟨S320000x64, .f32⟩
  | .hbm, ⟨15, _⟩ => ⟨S320000x64, .f32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S1x64, .f32⟩
  | .hbm, ⟨22, _⟩ => ⟨S320000x64, .f32⟩
  | .hbm, ⟨23, _⟩ => ⟨S320000x64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S1x64, .f32⟩
  | .hbm, ⟨29, _⟩ => ⟨S320000x64, .f32⟩
  | .hbm, ⟨30, _⟩ => ⟨S320000x64, .f32⟩
  | .hbm, ⟨31, _⟩ => ⟨S1x64, .f32⟩
  | .hbm, ⟨32, _⟩ => ⟨S320000x64, .f32⟩
  | .hbm, ⟨33, _⟩ => ⟨S320000x64, .f32⟩
  | .hbm, ⟨34, _⟩ => ⟨S1x64, .f32⟩
  | .hbm, ⟨35, _⟩ => ⟨S320000x64, .f32⟩
  | .hbm, ⟨36, _⟩ => ⟨S320000x64, .f32⟩
  | .hbm, ⟨37, _⟩ => ⟨S_, .f32⟩
  | .hbm, ⟨38, _⟩ => ⟨S320000x64, .f32⟩
  | .hbm, ⟨39, _⟩ => ⟨S320000x64, .f32⟩
  | .hbm, ⟨40, _⟩ => ⟨S10000, .i32⟩
  | .hbm, ⟨41, _⟩ => ⟨S1x320000x1, .i32⟩
  | .hbm, ⟨42, _⟩ => ⟨S10000x1x1, .i32⟩
  | .hbm, ⟨43, _⟩ => ⟨S10000x320000x1, .i32⟩
  | .hbm, ⟨44, _⟩ => ⟨S10000x320000x1, .i32⟩
  | .hbm, ⟨45, _⟩ => ⟨S10000x320000x1, .i1⟩
  | .hbm, ⟨46, _⟩ => ⟨S1x320000x64, .f32⟩
  | .hbm, ⟨47, _⟩ => ⟨S_, .f32⟩
  | .hbm, ⟨48, _⟩ => ⟨S_, .f32⟩
  | .hbm, ⟨49, _⟩ => ⟨S10000x320000x64, .i1⟩
  | .hbm, ⟨50, _⟩ => ⟨S10000x320000x64, .f32⟩
  | .hbm, ⟨51, _⟩ => ⟨S10000x320000x64, .f32⟩
  | .hbm, ⟨52, _⟩ => ⟨S10000x320000x64, .f32⟩
  | .hbm, ⟨53, _⟩ => ⟨S_, .f32⟩
  | .hbm, ⟨54, _⟩ => ⟨S10000x64, .f32⟩
  | .hbm, ⟨55, _⟩ => ⟨S_, .f32⟩
  | .hbm, ⟨56, _⟩ => ⟨S10000x64, .f32⟩
  | .hbm, ⟨57, _⟩ => ⟨S10000x64, .f32⟩
  | .hbm, ⟨58, _⟩ => ⟨S_, .i32⟩
  | .hbm, ⟨59, _⟩ => ⟨S320000, .i32⟩
  | .hbm, ⟨60, _⟩ => ⟨S320000, .i1⟩
  | .hbm, ⟨61, _⟩ => ⟨S_, .i32⟩
  | .hbm, ⟨62, _⟩ => ⟨S320000, .i32⟩
  | .hbm, ⟨63, _⟩ => ⟨S320000, .i32⟩
  | .hbm, ⟨64, _⟩ => ⟨S320000, .i32⟩
  | .hbm, ⟨65, _⟩ => ⟨S320000x1, .i32⟩
  | .hbm, ⟨66, _⟩ => ⟨S320000x64, .f32⟩
  | .hbm, ⟨67, _⟩ => ⟨S320000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_c : Ref sig .tc := ⟨.hbm, 58, rfl⟩
abbrev main_v40 : Ref sig .tc := ⟨.hbm, 59, rfl⟩
abbrev main_v41 : Ref sig .tc := ⟨.hbm, 60, rfl⟩
abbrev main_c_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== Proof.Lazy.lean ====
/- PROOF DATA WITH FREE FIRST POINTS. A skewed pipeline hands its body, at the first grid point, a scratch buffer that
   nothing has written: what the body then leaves in some output's staging buffer is not determined. Such a buffer
   is never written back at that point, so the array's final contents are determined all the same. This module
   states that once: relational data that pin what the body leaves except at points marked free, and the fact
   that the arrays end as exact data say as soon as no free point writes its block back. -/
module

public import Idealize.ShloMosaic.Lib.Pipeline.FrameBody
public import Idealize.ShloMosaic.Lib.Pipeline.RegionsLoop
public import Idealize.ShloMosaic.Lib.Pipeline.FrameSuffix
public import Idealize.ShloMosaic.Lib.Pipeline.ArrRel
public import Idealize.ShloMosaic.Lib.Tactic

@[expose] public section

noncomputable section

namespace Cert.Lazy

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {nD : Nat} {τ : Topo} {sig : RefSig} {Val : EltTy → Type} {Λ₀ : Idealize.SL.Sem.Labels}
variable {Ix : Type} [DecidableEq Ix] {Name : Type} [DecidableEq Name] {U : Type} [URA U] {Lvl : Type}
variable {cfg : Cfg sig Λ₀} {c : Dev nD} (dat : Dat τ Val Ix Name U Lvl cfg c)
variable (free : Fin cfg.W → Fin cfg.N → Bool)

local notation "𝕄" => MT nD τ sig Ix Val Name U Lvl

/-- Exact data `dat` with the contents left at free points forgotten: an input's buffer is left as found, an output's
    holds what `dat` says wherever the point is not free for it. -/
def lazy : RDat τ Val Ix Name U Lvl cfg c where
  A := dat.A
  after w t Y X := ((cfg.win w).isOut = false → X = Y) ∧ ((cfg.win w).isOut = true → free w t = false → X = dat.after w t)
  Φ := dat.Φ
  q := dat.q
  owed := dat.owed
  recorded := dat.recorded

/-- An input's buffer holds a fetched block whenever the body runs. -/
theorem finds_in [∀ e, Nonempty (Val e)] (w : Fin cfg.W) (hw : (cfg.win w).isOut = false)
    (hclip : ∀ t t' : Fin cfg.N, (cfg.win w).index t = (cfg.win w).index t' →
      (cfg.win w).clip (cfg.grid.coords t) = (cfg.win w).clip (cfg.grid.coords t'))
    (t : Fin cfg.N) (Y : (cfg.win w).block.Idx → Val (cfg.win w).elt) (h : (lazy dat free).Finds w t Y) :
    ∃ d, Y = (lazy dat free).fetched w t d :=
  (lazy dat free).finds_in_eq_fetched w hw hclip (fun _ _ _ h => h.1 hw) t Y h

/-- An output that the point before neither writes back nor leaves free holds what that point left. -/
theorem finds_acc (w : Fin cfg.W) (hw : (cfg.win w).isOut = true) (t : Fin cfg.N) (ht : t.val ≠ 0)
    (hf : (cfg.win w).flush ⟨t.val - 1, Nat.lt_of_le_of_lt (Nat.sub_le _ _) t.isLt⟩ = false)
    (hfr : free w ⟨t.val - 1, Nat.lt_of_le_of_lt (Nat.sub_le _ _) t.isLt⟩ = false)
    (Y : (cfg.win w).block.Idx → Val (cfg.win w).elt) (h : (lazy dat free).Finds w t Y) :
    Y = dat.after w ⟨t.val - 1, Nat.lt_of_le_of_lt (Nat.sub_le _ _) t.isLt⟩ := by
  rcases ((lazy dat free).finds_of_pos ((cfg.win w).fetch_out hw t) ht Y).mp h with h | ⟨Y', -, hY⟩
  · rw [hf] at h; exact absurd h Bool.false_ne_true
  · exact hY.2 hw hfr

/-- The array of a window with no free write-back holds, after the write-backs below `n`, what the exact data say. -/
theorem arrAt_eq [∀ e, Nonempty (Val e)] (w : Fin cfg.W) (n : Nat)
    (hfree : ∀ u : Fin cfg.N, (cfg.win w).flush u = true → free w u = false)
    (G : Buf Val ((cfg.win w).arr.view.loc (c.tc : Thread nD τ))) (h : (lazy dat free).ArrAt w n G) : G = dat.arrAt w n := by
  obtain ⟨X, hX, hA⟩ := h.exists_exact
  refine hA dat.after fun u hu hf => ?_
  obtain ⟨Y, -, hY⟩ := hX u hu hf
  have hw : (cfg.win w).isOut = true := by
    cases hh : (cfg.win w).isOut with
    | true => rfl
    | false => rw [(cfg.win w).flush_in hh] at hf; exact absurd hf Bool.false_ne_true
  exact (hY.2 hw (hfree u hf)).symm

/-- So all the arrays end as the exact data say. -/
theorem arraysAt_post [∀ e, Nonempty (Val e)] (n : Nat)
    (hfree : ∀ (w : Fin cfg.W) (u : Fin cfg.N), (cfg.win w).flush u = true → free w u = false) :
    (lazy dat free).arraysAt n ⊢ (dat.arrays (dat.arrAt · n) : sProp 𝕄) :=
  BI.bigSep_mono fun w _ =>
    show iprop(∃ F, ⌜(lazy dat free).ArrAt w n F⌝ ∗ (cfg.win w).arr.view.loc (c.tc : Thread nD τ) ↦[(cfg.win w).arr.view.set]{dat.share w} F)
        ⊢ ((cfg.win w).arr.view.loc (c.tc : Thread nD τ) ↦[(cfg.win w).arr.view.set]{dat.share w} dat.arrAt w n : sProp 𝕄) from by
      iintro ⟨%F, %hF, H⟩; rw [arrAt_eq dat free w n (hfree w) F hF]; iexact H

end Cert.Lazy

end
-- ==== Proof.KernelIdeal.Body0.lean ====
/- The first kernel's body on whole staging buffers, run once for every grid point: what it leaves in each output's
   buffer and in the scratch slot that it stores into, from the buffers it was handed. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The condition under which the body resets its two accumulators: the grid coordinate is zero. -/
abbrev cond0 (i : grid0.Coords) : Prop :=
  (Scalar.cmpi .ne (Scalar.extui (Scalar.cmpi .eq (BitVec.ofNat 32 (i 0).val) 0#32)) 0#32) = 1#1

theorem cond0_iff (t : Fin cfg0.N) : cond0 (grid0.coords t) ↔ t.val = 0 := by
  have ht : t.val < 626 := Nat.lt_of_lt_of_eq t.isLt N_0
  have e0 : (grid0.coords t 0).val = t.val / 1 % 626 := Pipeline.Grid.coords_val t 0 (by decide) rfl
  simp only [cond0, e0]
  word_cmp

/-- The scratch slot that the body reads and the one that it stores into. -/
abbrev slotR0 (i : grid0.Coords) : Rect S1024x64 := Rect.unit (s := S1024x64) (k0_off1 i) S512x64.size (k0_off1_inb i)
abbrev slotW0 (i : grid0.Coords) : Rect S1024x64 := Rect.unit (s := S1024x64) (k0_off2 i) S512x64.size (k0_off2_inb i)
/-- The two halves of a (2,1,64) buffer. -/
abbrev lo0 : Rect S2x1x64 := Rect.unit (s := S2x1x64) ![0, 0, 0] S1x1x64.size inb_S2x1x64_S1x1x64_0_0_0
abbrev hi0 : Rect S2x1x64 := Rect.unit (s := S2x1x64) ![1, 0, 0] S1x1x64.size inb_S2x1x64_S1x1x64_1_0_0

/-- What the four output buffers hold, from the scratch slot `v` and the block `s` of segment numbers. -/
def pmax0 (v : Vec F S512x64 .f32) (s : Vec F S512x1 .i32) : Vec F S2x1x64 .f32 :=
  View.canon [⟨hi0, k0_pay21 v (k0_pay5 s)⟩, ⟨lo0, k0_pay13 (k0_pay8 v) (k0_pay10 s)⟩]
def pmin0 (v : Vec F S512x64 .f32) (s : Vec F S512x1 .i32) : Vec F S2x1x64 .f32 :=
  View.canon [⟨hi0, k0_pay22 v (k0_pay5 s)⟩, ⟨lo0, k0_pay14 (k0_pay8 v) (k0_pay10 s)⟩]
def smax0 (v : Vec F S512x64 .f32) (s : Vec F S512x1 .i32) : Vec F S2x1x64 .f32 :=
  View.canon [⟨hi0, k0_pay23 v (k0_pay5 s)⟩, ⟨lo0, k0_pay15 (k0_pay8 v) (k0_pay9 s) (k0_pay11 s)⟩]
def smin0 (v : Vec F S512x64 .f32) (s : Vec F S512x1 .i32) : Vec F S2x1x64 .f32 :=
  View.canon [⟨hi0, k0_pay1 (k0_pay24 v (k0_pay5 s))⟩, ⟨lo0, k0_pay16 (k0_pay8 v) (k0_pay9 s) (k0_pay11 s)⟩]

/-- The two halves cover the buffer. -/
theorem cover0 (p q : Vec F S1x1x64 .f32) (y : S2x1x64.Idx) :
    ∃ pc ∈ ([⟨hi0, p⟩, ⟨lo0, q⟩] : List (View.Piece (Elt F) S2x1x64 .f32)), y ∈ pc.1.set :=
  View.cover_of_tiled [⟨hi0, p⟩, ⟨lo0, q⟩] S1x1x64.size (by rfl) y

/-- A load of a whole two-axis buffer reads its contents. -/
theorem ld_all {n k : ℕ} {e : EltTy} (inb : ∀ a, (![0, 0] : Fin 2 → ℕ) a + (⟨2, ![n, k]⟩ : Shape).size a ≤ (⟨2, ![n, k]⟩ : Shape).size a)
    (X : (⟨2, ![n, k]⟩ : Shape).Idx → Elt F e) :
    View.ld X (Rect.unit (s := ⟨2, ![n, k]⟩) ![0, 0] (⟨2, ![n, k]⟩ : Shape).size inb) = X :=
  View.ld_unit_zero (by funext a; fin_cases a <;> rfl) inb X

/-- The whole-buffer rectangles of the body's loads. -/
abbrev all1 : Rect S512x128 := Rect.unit (s := S512x128) ![0, 0] S512x128.size inb_S512x128_S512x128_0_0
abbrev all2 : Rect S128x64 := Rect.unit (s := S128x64) ![0, 0] S128x64.size inb_S128x64_S128x64_0_0
abbrev all3 : Rect S512x1 := Rect.unit (s := S512x1) ![0, 0] S512x1.size inb_S512x1_S512x1_0_0
abbrev all4 : Rect S1x64 := Rect.unit (s := S1x64) ![0, 0] S1x64.size inb_S1x64_S1x64_0_0

attribute [local irreducible] k0_pay13 k0_pay14 k0_pay15 k0_pay16 k0_pay21 k0_pay22 k0_pay23

set_option maxHeartbeats 1000000 in
/-- The body's triple. -/
theorem body0_run (c : Dev nD) (E : Set ℕ) (i : grid0.Coords) (arg1 : Memref sig .tc .vmem S512x128 .f32) (harg1 : arg1.IsWhole) (arg2 : Memref sig .tc .vmem S128x64 .f32) (harg2 : arg2.IsWhole) (arg3 : Memref sig .tc .vmem S512x1 .i32) (harg3 : arg3.IsWhole) (arg4 : Memref sig .tc .vmem S1x64 .f32) (harg4 : arg4.IsWhole) (arg5 : Memref sig .tc .vmem S1x64 .f32) (harg5 : arg5.IsWhole) (arg6 : Memref sig .tc .vmem S2x1x64 .f32) (harg6 : arg6.IsWhole) (arg7 : Memref sig .tc .vmem S2x1x64 .f32) (harg7 : arg7.IsWhole) (arg8 : Memref sig .tc .vmem S2x1x64 .f32) (harg8 : arg8.IsWhole) (arg9 : Memref sig .tc .vmem S2x1x64 .f32) (harg9 : arg9.IsWhole) (arg10 : Memref sig .tc .vmem S1024x64 .f32) (harg10 : arg10.IsWhole)
    (x1 : Vec F S512x128 .f32) (x2 : Vec F S128x64 .f32) (x3 : Vec F S512x1 .i32) (y4 y5 : Vec F S1x64 .f32) (xs : Vec F S1024x64 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare y4 ∗ owns (c : Thread nD τ) arg5 fullShare y5
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ owns (c : Thread nD τ) arg10 fullShare xs
        ∗ (iprop(owns (c : Thread nD τ) arg1 fullShare x1 ∗ owns (c : Thread nD τ) arg2 fullShare x2 ∗ owns (c : Thread nD τ) arg3 fullShare x3
            ∗ owns (c : Thread nD τ) arg4 fullShare (if cond0 i then k0_pay2 else k0_pay6 (View.ld xs (slotR0 i)) (View.ld y4 all4))
            ∗ owns (c : Thread nD τ) arg5 fullShare (if cond0 i then k0_pay3 else k0_pay7 (View.ld xs (slotR0 i)) (View.ld y5 all4))
            ∗ owns (c : Thread nD τ) arg6 fullShare (pmax0 (View.ld xs (slotR0 i)) (View.ld x3 all3))
            ∗ owns (c : Thread nD τ) arg7 fullShare (pmin0 (View.ld xs (slotR0 i)) (View.ld x3 all3))
            ∗ owns (c : Thread nD τ) arg8 fullShare (smax0 (View.ld xs (slotR0 i)) (View.ld x3 all3))
            ∗ owns (c : Thread nD τ) arg9 fullShare (smin0 (View.ld xs (slotR0 i)) (View.ld x3 all3))
            ∗ (∃ X, ⌜View.ld X (slotW0 i) = k0_pay4 (View.ld x1 all1) (View.ld x2 all2)⌝ ∗ owns (c : Thread nD τ) arg10 fullShare X)) -∗ K ⟨⟩))
      ⊢ wp frame (wpE (defs₀ (F := F)) Variants.none c none) E
          (cc0__p1_body i arg1 harg1 arg2 harg2 arg3 harg3 arg4 harg4 arg5 harg5 arg6 harg6 arg7 harg7 arg8 harg8 arg9 harg9 arg10 harg10) K := by
  by_cases hc : cond0 i
  all_goals
    simp only [cc0__p1_body_eq_skeleton]; unfold cc0__p1_body_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs, %hfs, HS⟩, Hk⟩
    subst hf1 hf2 hf3 hf4 hf5 hfs
    sl_exec (disch := first | sl_exact hc)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      refine (View.read_writes_full _ _ _ _ _).trans ?_
      first | exact (if_pos hc).symm | exact (if_neg hc).symm
    isplitl [H5]
    · iexists _; isplitr
      swap; · iexact H5
      ipureintro
      refine (View.read_writes_full _ _ _ _ _).trans ?_
      first | exact (if_pos hc).symm | exact (if_neg hc).symm
    isplitl [H6]
    · iexists _; isplitr
      swap; · iexact H6
      ipureintro
      exact (View.read_writes_eq_canon _ _ _ (cover0 _ _)).trans rfl
    isplitl [H7]
    · iexists _; isplitr
      swap; · iexact H7
      ipureintro
      exact (View.read_writes_eq_canon _ _ _ (cover0 _ _)).trans rfl
    isplitl [H8]
    · iexists _; isplitr
      swap; · iexact H8
      ipureintro
      exact (View.read_writes_eq_canon _ _ _ (cover0 _ _)).trans rfl
    isplitl [H9]
    · iexists _; isplitr
      swap; · iexact H9
      ipureintro
      exact (View.read_writes_eq_canon _ _ _ (cover0 _ _)).trans rfl
    iexists _; isplitr
    swap
    · iexists _; isplitr
      swap; · iexact HS
      ipureintro; rfl
    ipureintro
    refine Eq.trans (funext fun x => View.read_writes_cons_emb _ _ (slotW0 i) _ [] x) ?_
    rfl

end Cert.KernelIdeal.Gen

end
-- ==== Proof.KernelIdeal.Region0.lean ====
/- The first kernel's pipeline, at the contents `V` that the program's buffers hold when it starts: what every staging
   buffer and the carried scratch hold at every grid point, and the proof that each run of the body keeps to it. -/
module

public import proofs.«01_k».proof.Proof.KernelIdeal.Body0
public import proofs.«01_k».proof.Proof.Lazy

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The product that point `t` stores into its scratch slot. -/
def xblk0 (c : Dev nD) (t : Fin cfg0.N) : Vec F S512x64 .f32 := k0_pay4 (iblk0 V c 0 t) (iblk0 V c 1 t)

/-- The point before. -/
def prev0 (t : Fin cfg0.N) : Fin cfg0.N := ⟨t.val - 1, Nat.lt_of_le_of_lt (Nat.sub_le _ _) t.isLt⟩

/-- The accumulated sum (`k = 0`) and sum of squares (`k = 1`) after point `n`: reset at the first, then one block per point. -/
def accA0 (c : Dev nD) : ℕ → Vec F S1x64 .f32
  | 0 => k0_pay2
  | n + 1 => if h : n < cfg0.N then k0_pay6 (xblk0 V c ⟨n, h⟩) (accA0 c n) else accA0 c n
def accB0 (c : Dev nD) : ℕ → Vec F S1x64 .f32
  | 0 => k0_pay3
  | n + 1 => if h : n < cfg0.N then k0_pay7 (xblk0 V c ⟨n, h⟩) (accB0 c n) else accB0 c n

theorem accA0_pos (c : Dev nD) (t : Fin cfg0.N) (ht : t.val ≠ 0) :
    accA0 V c t.val = k0_pay6 (xblk0 V c (prev0 t)) (accA0 V c (prev0 t).val) := by
  obtain ⟨n, hn⟩ := t
  cases n with
  | zero => exact absurd rfl ht
  | succ n => exact dif_pos (Nat.lt_of_succ_lt hn)
theorem accB0_pos (c : Dev nD) (t : Fin cfg0.N) (ht : t.val ≠ 0) :
    accB0 V c t.val = k0_pay7 (xblk0 V c (prev0 t)) (accB0 V c (prev0 t).val) := by
  obtain ⟨n, hn⟩ := t
  cases n with
  | zero => exact absurd rfl ht
  | succ n => exact dif_pos (Nat.lt_of_succ_lt hn)

/-- The slot read at a point after the first is the slot stored into at the point before. -/
theorem off0_succ : ∀ t : Fin grid0.N, t.val ≠ 0 → k0_off1 (grid0.coords t) = k0_off2 (grid0.coords ⟨t.val - 1, Nat.lt_of_le_of_lt (Nat.sub_le _ _) t.isLt⟩) := by
  decide +kernel

/-- What the carried scratch is known to hold before point `t`: in the slot that the point before stored into, its product. -/
def Known0 (c : Dev nD) (t : Fin (cfg0.N + 1)) (X : Vec F S1024x64 .f32) : Prop :=
  ∀ u : Fin cfg0.N, u.val + 1 = t.val → View.ld X (slotW0 (grid0.coords u)) = xblk0 V c u

/-- The invariant before point `t`: the scratch at contents so known, every other scoped buffer, the generator register. -/
def Phi0 (c : Dev nD) (t : Fin (cfg0.N + 1)) : sProp 𝕄 :=
  iprop((∃ X, ⌜Known0 V c t X⌝ ∗ owns (c : Thread nD τ) (Memref.whole cc0_scratch0) fullShare X)
    ∗ Pipeline.scopedRestBut (Ix := Unit) (Name := ℕ) (U := UR sig nD τ) (Lvl := ℕ) (Val := Elt F) spec0 c [cc0_scratch0]
    ∗ ∃ r, prngReg c r)

/-- The pipeline's data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => accA0 V c t.val
    | ⟨4, _⟩ => accB0 V c t.val
    | ⟨5, _⟩ => pmax0 (xblk0 V c (prev0 t)) (iblk0 V c 2 t)
    | ⟨6, _⟩ => pmin0 (xblk0 V c (prev0 t)) (iblk0 V c 2 t)
    | ⟨7, _⟩ => smax0 (xblk0 V c (prev0 t)) (iblk0 V c 2 t)
    | ⟨8, _⟩ => smin0 (xblk0 V c (prev0 t)) (iblk0 V c 2 t)
  Φ t := Phi0 V c t
  q _ := fullShare
  owed _ := 0

/-- The first point leaves junk in the four outputs computed from the scratch. -/
def free0 (w : Fin cfg0.W) (t : Fin cfg0.N) : Bool := decide (5 ≤ w.val ∧ t.val = 0)

/-- No free point writes its block back. -/
theorem flush_free0 : ∀ (w : Fin cfg0.W) (t : Fin cfg0.N), (cfg0.win w).flush t = true → free0 w t = false := by
  have h : ∀ (w : Fin cfg0.W), (cfg0.win w).flush ⟨0, by decide⟩ = true → ¬ 5 ≤ w.val := by decide +kernel
  intro w t hf
  refine decide_eq_false fun ⟨h5, h0⟩ => ?_
  obtain rfl : t = ⟨0, by decide⟩ := Fin.ext h0
  exact h w hf h5

theorem A_eq0 (c : Dev nD) (w : Fin cfg0.W) : (dat0 V c).A w = V c (Pipeline.arrRef spec0 w) := by
  dsimp only [dat0]
theorem after0_3 (c : Dev nD) (t : Fin cfg0.N) : (dat0 V c).after 3 t = accA0 V c t.val := by dsimp only [dat0]
theorem after0_4 (c : Dev nD) (t : Fin cfg0.N) : (dat0 V c).after 4 t = accB0 V c t.val := by dsimp only [dat0]
theorem after0_5 (c : Dev nD) (t : Fin cfg0.N) : (dat0 V c).after 5 t = pmax0 (xblk0 V c (prev0 t)) (iblk0 V c 2 t) := by dsimp only [dat0]
theorem after0_6 (c : Dev nD) (t : Fin cfg0.N) : (dat0 V c).after 6 t = pmin0 (xblk0 V c (prev0 t)) (iblk0 V c 2 t) := by dsimp only [dat0]
theorem after0_7 (c : Dev nD) (t : Fin cfg0.N) : (dat0 V c).after 7 t = smax0 (xblk0 V c (prev0 t)) (iblk0 V c 2 t) := by dsimp only [dat0]
theorem after0_8 (c : Dev nD) (t : Fin cfg0.N) : (dat0 V c).after 8 t = smin0 (xblk0 V c (prev0 t)) (iblk0 V c 2 t) := by dsimp only [dat0]

/-- The pipeline's data with the first point's junk left free. -/
abbrev rdat0 (c : Dev nD) : RDat τ (Elt F) Unit ℕ (UR sig nD τ) ℕ cfg0 c := Cert.Lazy.lazy (dat0 V c) free0

/-- Each input's staging buffer holds its block whenever the body runs. -/
theorem finds0_0 (c : Dev nD) (t : Fin cfg0.N) (Y) (h : (rdat0 V c).Finds 0 t Y) : Y = iblk0 V c 0 t := by
  obtain ⟨d, rfl⟩ := Cert.Lazy.finds_in (dat0 V c) free0 0 rfl (fun _ _ _ => rfl) t Y h; rfl
theorem finds0_1 (c : Dev nD) (t : Fin cfg0.N) (Y) (h : (rdat0 V c).Finds 1 t Y) : Y = iblk0 V c 1 t := by
  obtain ⟨d, rfl⟩ := Cert.Lazy.finds_in (dat0 V c) free0 1 rfl (fun _ _ _ => rfl) t Y h; rfl
theorem finds0_2 (c : Dev nD) (t : Fin cfg0.N) (Y) (h : (rdat0 V c).Finds 2 t Y) : Y = iblk0 V c 2 t := by
  obtain ⟨d, rfl⟩ := Cert.Lazy.finds_in (dat0 V c) free0 2 rfl (fun _ _ _ => rfl) t Y h; rfl

/-- The two accumulators are never written back before the last point. -/
theorem noflush0 (t : Fin cfg0.N) (ht : t.val ≠ 0) : (cfg0.win 3).flush (prev0 t) = false ∧ (cfg0.win 4).flush (prev0 t) = false := by
  have hN : t.val < 626 := Nat.lt_of_lt_of_eq t.isLt N_0
  have hp : (prev0 t).val = t.val - 1 := rfl
  constructor
  · rw [Bool.eq_false_iff]; intro h; have := (flush0_3 (prev0 t)).mp h; omega
  · rw [Bool.eq_false_iff]; intro h; have := (flush0_4 (prev0 t)).mp h; omega

theorem finds0_3 (c : Dev nD) (t : Fin cfg0.N) (ht : t.val ≠ 0) (Y) (h : (rdat0 V c).Finds 3 t Y) : Y = accA0 V c (prev0 t).val :=
  (Cert.Lazy.finds_acc (dat0 V c) free0 3 rfl t ht (noflush0 t ht).1 (by rfl) Y h).trans (after0_3 V c _)
theorem finds0_4 (c : Dev nD) (t : Fin cfg0.N) (ht : t.val ≠ 0) (Y) (h : (rdat0 V c).Finds 4 t Y) : Y = accB0 V c (prev0 t).val :=
  (Cert.Lazy.finds_acc (dat0 V c) free0 4 rfl t ht (noflush0 t ht).2 (by rfl) Y h).trans (after0_4 V c _)

/-- Loads at equal offsets read alike. -/
theorem ld_slot0 {i j : grid0.Coords} (h : k0_off1 i = k0_off2 j) (X : Vec F S1024x64 .f32) :
    View.ld X (slotR0 i) = View.ld X (slotW0 j) := by
  funext x; exact congrArg X (funext fun a => Fin.ext (by
    show (k0_off1 i) a + 1 * (x a).val = (k0_off2 j) a + 1 * (x a).val
    rw [h]))

/-- The scratch slot that a point after the first reads holds the product of the point before. -/
theorem known0_read (c : Dev nD) (t : Fin cfg0.N) (ht : t.val ≠ 0) (X) (h : Known0 V c t.castSucc X) :
    View.ld X (slotR0 (grid0.coords t)) = xblk0 V c (prev0 t) :=
  (ld_slot0 (off0_succ t ht) X).trans (h (prev0 t) (by show t.val - 1 + 1 = t.val; omega))

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- Every run of the body keeps to the data. -/
theorem body_obligation0 (c : Dev nD) : (rdat0 (F := F) V c).BodyObligation (defs₀ (F := F)) Variants.none () Set.univ := fun t Y hY => by
  rw [bigSep_W0, bigSep_W0, defs₀_row0]
  have e0 := finds0_0 V c t _ (hY 0)
  have e1 := finds0_1 V c t _ (hY 1)
  have e2 := finds0_2 V c t _ (hY 2)
  have k := cond0_iff t
  rw [show (rdat0 V c).Φ t.succ = Phi0 V c t.succ from rfl, show (rdat0 V c).Φ t.castSucc = Phi0 V c t.castSucc from rfl,
    show (rdat0 V c).owesAt () t.succ = (rdat0 V c).owesAt () t.castSucc from rfl]
  unfold Phi0 bodyAt0
  iintro ⟨⟨⟨%X, %hX, HS⟩, HB, Hg⟩, Ho, H0, H1, H2, H3, H4, H5, H6, H7, H8⟩
  iapply (body0_run c Set.univ (grid0.coords t) _ _ _ _ _ _ _ _ _ _ _ _ _ _ _ _ _ _ _ _ (Y 0) (Y 1) (Y 2) (Y 3) (Y 4) X _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS]; · iexact HS
  iintro ⟨H0, H1, H2, H3, H4, H5, H6, H7, H8, ⟨%X', %hX', HS⟩⟩
  isplitl [HS HB Hg]
  · isplitl [HS]
    · iexists X'; isplitr
      · ipureintro
        intro u hu
        obtain rfl : u = t := Fin.ext (Nat.succ_injective hu)
        rw [hX', ld_all, ld_all, e0, e1]; rfl
      iexact HS
    isplitl [HB]; · iexact HB
    iexact Hg
  isplitl [Ho]; · iexact Ho
  isplitl [H0]
  · iexists _; isplitr; swap; · iexact H0
    ipureintro; exact ⟨fun _ => rfl, fun h => absurd h (by decide)⟩
  isplitl [H1]
  · iexists _; isplitr; swap; · iexact H1
    ipureintro; exact ⟨fun _ => rfl, fun h => absurd h (by decide)⟩
  isplitl [H2]
  · iexists _; isplitr; swap; · iexact H2
    ipureintro; exact ⟨fun _ => rfl, fun h => absurd h (by decide)⟩
  isplitl [H3]
  · iexists _; isplitr; swap; · iexact H3
    ipureintro; refine ⟨fun h => absurd h (by decide), fun _ _ => Eq.trans ?_ (after0_3 V c t).symm⟩
    by_cases ht : t.val = 0
    · rw [if_pos (k.mpr ht), ht]; rfl
    · rw [if_neg (fun h => ht (k.mp h)), known0_read V c t ht X hX, accA0_pos V c t ht, finds0_3 V c t ht _ (hY 3), ld_all]
  isplitl [H4]
  · iexists _; isplitr; swap; · iexact H4
    ipureintro; refine ⟨fun h => absurd h (by decide), fun _ _ => Eq.trans ?_ (after0_4 V c t).symm⟩
    by_cases ht : t.val = 0
    · rw [if_pos (k.mpr ht), ht]; rfl
    · rw [if_neg (fun h => ht (k.mp h)), known0_read V c t ht X hX, accB0_pos V c t ht, finds0_4 V c t ht _ (hY 4), ld_all]
  isplitl [H5]
  · iexists _; isplitr; swap; · iexact H5
    ipureintro; refine ⟨fun h => absurd h (by decide), fun _ hf => Eq.trans ?_ (after0_5 V c t).symm⟩
    have ht : t.val ≠ 0 := fun h => of_decide_eq_false hf ⟨by decide, h⟩
    rw [known0_read V c t ht X hX, ld_all, e2]
  isplitl [H6]
  · iexists _; isplitr; swap; · iexact H6
    ipureintro; refine ⟨fun h => absurd h (by decide), fun _ hf => Eq.trans ?_ (after0_6 V c t).symm⟩
    have ht : t.val ≠ 0 := fun h => of_decide_eq_false hf ⟨by decide, h⟩
    rw [known0_read V c t ht X hX, ld_all, e2]
  isplitl [H7]
  · iexists _; isplitr; swap; · iexact H7
    ipureintro; refine ⟨fun h => absurd h (by decide), fun _ hf => Eq.trans ?_ (after0_7 V c t).symm⟩
    have ht : t.val ≠ 0 := fun h => of_decide_eq_false hf ⟨by decide, h⟩
    rw [known0_read V c t ht X hX, ld_all, e2]
  · iexists _; isplitr; swap; · iexact H8
    ipureintro; refine ⟨fun h => absurd h (by decide), fun _ hf => Eq.trans ?_ (after0_8 V c t).symm⟩
    have ht : t.val ≠ 0 := fun h => of_decide_eq_false hf ⟨by decide, h⟩
    rw [known0_read V c t ht X hX, ld_all, e2]

/-- What the invariant gives at the loop's two ends. -/
theorem Phi0_in (c : Dev nD) : (Pipeline.ΦA spec0 c : sProp 𝕄) ⊢ Phi0 V c 0 := by
  unfold Pipeline.ΦA Phi0
  rw [scopedRest0_split]
  iintro ⟨⟨⟨%f, HS⟩, HB⟩, Hg⟩
  isplitl [HS]
  · iexists f; isplitr
    · ipureintro; intro u hu; exact absurd hu (Nat.succ_ne_zero _)
    rw [owns_whole]; iexact HS
  isplitl [HB]; · iexact HB
  iexact Hg
theorem Phi0_out (c : Dev nD) : Phi0 V c (Fin.last cfg0.N) ⊢ (Pipeline.ΦA spec0 c : sProp 𝕄) := by
  unfold Pipeline.ΦA Phi0
  rw [scopedRest0_split]
  simp only [owns_whole]
  iintro ⟨⟨%X, %hX, HS⟩, HB, Hg⟩
  isplitl [HS HB]
  · isplitl [HS]
    · iexists X; iexact HS
    iexact HB
  iexact Hg

end Cert.KernelIdeal.Gen

end
-- ==== Proof.KernelIdeal.Body1.lean ====
/- The second kernel's body on whole staging buffers (its grid has one point): the scale, bias and sign of every column,
   and for every half block the extreme of the segment that reaches into it from outside. -/
module

public import proofs.«01_k».proof.Proof.KernelIdeal.Body0
public import Idealize.ShloMosaic.Lib.Pipeline.FrameBody
public import Idealize.ShloMosaic.Lib.VecWindow
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- A load of a whole three-axis buffer reads its contents. -/
theorem ld_all3 {n k l : ℕ} {e : EltTy} (inb : ∀ a, (![0, 0, 0] : Fin 3 → ℕ) a + (⟨3, ![n, k, l]⟩ : Shape).size a ≤ (⟨3, ![n, k, l]⟩ : Shape).size a)
    (X : (⟨3, ![n, k, l]⟩ : Shape).Idx → Elt F e) :
    View.ld X (Rect.unit (s := ⟨3, ![n, k, l]⟩) ![0, 0, 0] (⟨3, ![n, k, l]⟩ : Shape).size inb) = X :=
  View.ld_unit_zero (by funext a; fin_cases a <;> rfl) inb X

/-- The valid segment numbers of the half blocks' first and last rows. -/
def segF1 (x5 : Vec F S1256x1 .i32) : IVec S1256x1 32 := k1_pay10 k1_pay9 x5
def segL1 (x6 : Vec F S1256x1 .i32) : IVec S1256x1 32 := k1_pay11 k1_pay9 x6

/-- The downward scan of the half blocks' last segments and the array of what precedes each half block. -/
def down1 (x1 x2 x3 : Vec F S1x64 .f32) (x6 : Vec F S1256x1 .i32) (x9 x10 : Vec F S1256x1x64 .f32) : FVec F S1256x64 .f32 :=
  let v39 := segL1 x6
  let v121 := k1_pay17 (k1_pay5 x1 x2 x3) v39 (k1_pay12 x10) (k1_pay14 k1_pay9 x9) (k1_pay15 k1_pay9) k1_pay16
  k1_pay21 v39 (k1_pay18 v39 v121 4294967295#32) (k1_pay19 v39) (k1_pay20 v39 v121 4294967295#32)
def head1 (x1 x2 x3 : Vec F S1x64 .f32) (x5 x6 : Vec F S1256x1 .i32) (x9 x10 : Vec F S1256x1x64 .f32) : Vec F S1256x1x64 .f32 :=
  k1_pay1 (down1 x1 x2 x3 x6 x9 x10) (k1_pay28 (segF1 x5) (segL1 x6)) k1_pay29

/-- The upward scan of the half blocks' first segments and the array of what follows each half block. -/
def up1 (x1 x2 x3 : Vec F S1x64 .f32) (x5 : Vec F S1256x1 .i32) (x7 x8 : Vec F S1256x1x64 .f32) : FVec F S1256x64 .f32 :=
  let v35 := segF1 x5
  let v220 := k1_pay22 v35 (k1_pay13 (k1_pay5 x1 x2 x3) k1_pay9 x7 x8)
  k1_pay27 v35 (k1_pay24 v35 v220 (k1_pay23 v35)) (k1_pay25 v35 v220 (k1_pay23 v35)) (k1_pay26 v35)
def tail1 (x1 x2 x3 : Vec F S1x64 .f32) (x5 x6 : Vec F S1256x1 .i32) (x7 x8 : Vec F S1256x1x64 .f32) : Vec F S1256x1x64 .f32 :=
  k1_pay2 (segF1 x5) (segL1 x6) (up1 x1 x2 x3 x5 x7 x8)

/-- The whole-buffer rectangles of the body's loads. -/
abbrev all5 : Rect S1256x1 := Rect.unit (s := S1256x1) ![0, 0] S1256x1.size inb_S1256x1_S1256x1_0_0
abbrev all6 : Rect S1256x1x64 := Rect.unit (s := S1256x1x64) ![0, 0, 0] S1256x1x64.size inb_S1256x1x64_S1256x1x64_0_0_0

attribute [local irreducible] k1_pay17 k1_pay18 k1_pay20 k1_pay21 k1_pay22 k1_pay24 k1_pay25 k1_pay27

set_option maxHeartbeats 1000000 in
/-- The body's triple. -/
theorem body1_run (c : Dev nD) (E : Set ℕ) (i : grid1.Coords) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1256x1 .i32) (harg5 : arg5.IsWhole) (arg6 : Memref sig .tc .vmem S1256x1 .i32) (harg6 : arg6.IsWhole) (arg7 : Memref sig .tc .vmem S1256x1x64 .f32) (harg7 : arg7.IsWhole) (arg8 : Memref sig .tc .vmem S1256x1x64 .f32) (harg8 : arg8.IsWhole) (arg9 : Memref sig .tc .vmem S1256x1x64 .f32) (harg9 : arg9.IsWhole) (arg10 : Memref sig .tc .vmem S1256x1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1256x1x64 .f32) (harg14 : arg14.IsWhole) (arg15 : Memref sig .tc .vmem S1256x1x64 .f32) (harg15 : arg15.IsWhole)
    (x1 : Vec F S1x64 .f32)    (x2 : Vec F S1x64 .f32)    (x3 : Vec F S1x64 .f32)    (x4 : Vec F S1x64 .f32)    (x5 : Vec F S1256x1 .i32)    (x6 : Vec F S1256x1 .i32)    (x7 : Vec F S1256x1x64 .f32)    (x8 : Vec F S1256x1x64 .f32)    (x9 : Vec F S1256x1x64 .f32)    (x10 : Vec F S1256x1x64 .f32)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
            ∗ owns (c : Thread nD τ) arg11 fullShare (k1_pay7 (View.ld x1 all4) (View.ld x2 all4) (View.ld x3 all4))
            ∗ owns (c : Thread nD τ) arg12 fullShare (k1_pay8 (View.ld x1 all4) (View.ld x2 all4) (View.ld x3 all4) (View.ld x4 all4))
            ∗ owns (c : Thread nD τ) arg13 fullShare (k1_pay6 (View.ld x1 all4) (View.ld x2 all4) (View.ld x3 all4))
            ∗ owns (c : Thread nD τ) arg14 fullShare (head1 (View.ld x1 all4) (View.ld x2 all4) (View.ld x3 all4) (View.ld x5 all5) (View.ld x6 all5) (View.ld x9 all6) (View.ld x10 all6))
            ∗ owns (c : Thread nD τ) arg15 fullShare (tail1 (View.ld x1 all4) (View.ld x2 all4) (View.ld x3 all4) (View.ld x5 all5) (View.ld x6 all5) (View.ld x7 all6) (View.ld x8 all6))) -∗ K ⟨⟩))
      ⊢ wp frame (wpE (defs₀ (F := F)) Variants.none c none) E
          (cc1__combine_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__combine_body_eq_skeleton]; unfold cc1__combine_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, Hk⟩
  subst hf1 hf2 hf3 hf4 hf5 hf6 hf7 hf8 hf9 hf10
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact (View.read_writes_full _ _ _ _ _).trans rfl
  isplitl [H12]
  · iexists _; isplitr
    swap; · iexact H12
    ipureintro
    exact (View.read_writes_full _ _ _ _ _).trans rfl
  isplitl [H13]
  · iexists _; isplitr
    swap; · iexact H13
    ipureintro
    exact (View.read_writes_full _ _ _ _ _).trans rfl
  isplitl [H14]
  · iexists _; isplitr
    swap; · iexact H14
    ipureintro
    exact (View.read_writes_full _ _ _ _ _).trans rfl
  iexists _; isplitr
  swap; · iexact H15
  ipureintro
  exact (View.read_writes_full _ _ _ _ _).trans rfl

end Cert.KernelIdeal.Gen

end
-- ==== Proof.KernelIdeal.Region1.lean ====
/- The second kernel's pipeline, at the contents `V` that the program's buffers hold when it starts. -/
module

public import proofs.«01_k».proof.Proof.KernelIdeal.Body1
public import proofs.«01_k».proof.Proof.Lazy

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The pipeline's data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => k1_pay7 (iblk1 V c 0 t) (iblk1 V c 1 t) (iblk1 V c 2 t)
    | ⟨11, _⟩ => k1_pay8 (iblk1 V c 0 t) (iblk1 V c 1 t) (iblk1 V c 2 t) (iblk1 V c 3 t)
    | ⟨12, _⟩ => k1_pay6 (iblk1 V c 0 t) (iblk1 V c 1 t) (iblk1 V c 2 t)
    | ⟨13, _⟩ => head1 (iblk1 V c 0 t) (iblk1 V c 1 t) (iblk1 V c 2 t) (iblk1 V c 4 t) (iblk1 V c 5 t) (iblk1 V c 8 t) (iblk1 V c 9 t)
    | ⟨14, _⟩ => tail1 (iblk1 V c 0 t) (iblk1 V c 1 t) (iblk1 V c 2 t) (iblk1 V c 4 t) (iblk1 V c 5 t) (iblk1 V c 6 t) (iblk1 V c 7 t)
  Φ _ := Pipeline.ΦA spec1 c
  q _ := fullShare
  owed _ := 0

/-- Nothing is left free here. -/
def free1 (_ : Fin cfg1.W) (_ : Fin cfg1.N) : Bool := false

theorem A_eq1 (c : Dev nD) (w : Fin cfg1.W) : (dat1 V c).A w = V c (Pipeline.arrRef spec1 w) := by
  dsimp only [dat1]
theorem after1_10 (c : Dev nD) (t : Fin cfg1.N) : (dat1 V c).after 10 t = k1_pay7 (iblk1 V c 0 t) (iblk1 V c 1 t) (iblk1 V c 2 t) := by dsimp only [dat1]
theorem after1_11 (c : Dev nD) (t : Fin cfg1.N) : (dat1 V c).after 11 t = k1_pay8 (iblk1 V c 0 t) (iblk1 V c 1 t) (iblk1 V c 2 t) (iblk1 V c 3 t) := by dsimp only [dat1]
theorem after1_12 (c : Dev nD) (t : Fin cfg1.N) : (dat1 V c).after 12 t = k1_pay6 (iblk1 V c 0 t) (iblk1 V c 1 t) (iblk1 V c 2 t) := by dsimp only [dat1]
theorem after1_13 (c : Dev nD) (t : Fin cfg1.N) : (dat1 V c).after 13 t = head1 (iblk1 V c 0 t) (iblk1 V c 1 t) (iblk1 V c 2 t) (iblk1 V c 4 t) (iblk1 V c 5 t) (iblk1 V c 8 t) (iblk1 V c 9 t) := by dsimp only [dat1]
theorem after1_14 (c : Dev nD) (t : Fin cfg1.N) : (dat1 V c).after 14 t = tail1 (iblk1 V c 0 t) (iblk1 V c 1 t) (iblk1 V c 2 t) (iblk1 V c 4 t) (iblk1 V c 5 t) (iblk1 V c 6 t) (iblk1 V c 7 t) := by dsimp only [dat1]

/-- The data in relational form. -/
abbrev rdat1 (c : Dev nD) : RDat τ (Elt F) Unit ℕ (UR sig nD τ) ℕ cfg1 c := Cert.Lazy.lazy (dat1 V c) free1

/-- Each input's staging buffer holds its block whenever the body runs. -/
theorem finds1_0 (c : Dev nD) (t : Fin cfg1.N) (Y) (h : (rdat1 V c).Finds 0 t Y) : Y = iblk1 V c 0 t := by
  obtain ⟨d, rfl⟩ := Cert.Lazy.finds_in (dat1 V c) free1 0 rfl (fun _ _ _ => rfl) t Y h; rfl
theorem finds1_1 (c : Dev nD) (t : Fin cfg1.N) (Y) (h : (rdat1 V c).Finds 1 t Y) : Y = iblk1 V c 1 t := by
  obtain ⟨d, rfl⟩ := Cert.Lazy.finds_in (dat1 V c) free1 1 rfl (fun _ _ _ => rfl) t Y h; rfl
theorem finds1_2 (c : Dev nD) (t : Fin cfg1.N) (Y) (h : (rdat1 V c).Finds 2 t Y) : Y = iblk1 V c 2 t := by
  obtain ⟨d, rfl⟩ := Cert.Lazy.finds_in (dat1 V c) free1 2 rfl (fun _ _ _ => rfl) t Y h; rfl
theorem finds1_3 (c : Dev nD) (t : Fin cfg1.N) (Y) (h : (rdat1 V c).Finds 3 t Y) : Y = iblk1 V c 3 t := by
  obtain ⟨d, rfl⟩ := Cert.Lazy.finds_in (dat1 V c) free1 3 rfl (fun _ _ _ => rfl) t Y h; rfl
theorem finds1_4 (c : Dev nD) (t : Fin cfg1.N) (Y) (h : (rdat1 V c).Finds 4 t Y) : Y = iblk1 V c 4 t := by
  obtain ⟨d, rfl⟩ := Cert.Lazy.finds_in (dat1 V c) free1 4 rfl (fun _ _ _ => rfl) t Y h; rfl
theorem finds1_5 (c : Dev nD) (t : Fin cfg1.N) (Y) (h : (rdat1 V c).Finds 5 t Y) : Y = iblk1 V c 5 t := by
  obtain ⟨d, rfl⟩ := Cert.Lazy.finds_in (dat1 V c) free1 5 rfl (fun _ _ _ => rfl) t Y h; rfl
theorem finds1_6 (c : Dev nD) (t : Fin cfg1.N) (Y) (h : (rdat1 V c).Finds 6 t Y) : Y = iblk1 V c 6 t := by
  obtain ⟨d, rfl⟩ := Cert.Lazy.finds_in (dat1 V c) free1 6 rfl (fun _ _ _ => rfl) t Y h; rfl
theorem finds1_7 (c : Dev nD) (t : Fin cfg1.N) (Y) (h : (rdat1 V c).Finds 7 t Y) : Y = iblk1 V c 7 t := by
  obtain ⟨d, rfl⟩ := Cert.Lazy.finds_in (dat1 V c) free1 7 rfl (fun _ _ _ => rfl) t Y h; rfl
theorem finds1_8 (c : Dev nD) (t : Fin cfg1.N) (Y) (h : (rdat1 V c).Finds 8 t Y) : Y = iblk1 V c 8 t := by
  obtain ⟨d, rfl⟩ := Cert.Lazy.finds_in (dat1 V c) free1 8 rfl (fun _ _ _ => rfl) t Y h; rfl
theorem finds1_9 (c : Dev nD) (t : Fin cfg1.N) (Y) (h : (rdat1 V c).Finds 9 t Y) : Y = iblk1 V c 9 t := by
  obtain ⟨d, rfl⟩ := Cert.Lazy.finds_in (dat1 V c) free1 9 rfl (fun _ _ _ => rfl) t Y h; rfl

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- Every run of the body keeps to the data. -/
theorem body_obligation1 (c : Dev nD) : (rdat1 (F := F) V c).BodyObligation (defs₀ (F := F)) Variants.none () Set.univ := fun t Y hY => by
  rw [bigSep_W1, bigSep_W1, defs₀_row1]
  have e0 := finds1_0 V c t _ (hY 0)
  have e1 := finds1_1 V c t _ (hY 1)
  have e2 := finds1_2 V c t _ (hY 2)
  have e3 := finds1_3 V c t _ (hY 3)
  have e4 := finds1_4 V c t _ (hY 4)
  have e5 := finds1_5 V c t _ (hY 5)
  have e6 := finds1_6 V c t _ (hY 6)
  have e7 := finds1_7 V c t _ (hY 7)
  have e8 := finds1_8 V c t _ (hY 8)
  have e9 := finds1_9 V c t _ (hY 9)
  rw [show (rdat1 V c).Φ t.succ = Pipeline.ΦA spec1 c from rfl, show (rdat1 V c).Φ t.castSucc = Pipeline.ΦA spec1 c from rfl,
    show (rdat1 V c).owesAt () t.succ = (rdat1 V c).owesAt () t.castSucc from rfl]
  unfold bodyAt1
  iintro ⟨HΦ, Ho, H0, H1, H2, H3, H4, H5, H6, H7, H8, H9, H10, H11, H12, H13, H14⟩
  iapply (body1_run c Set.univ (grid1.coords t) _ _ _ _ _ _ _ _ _ _ _ _ _ _ _ _ _ _ _ _ _ _ _ _ _ _ _ _ _ _ (Y 0) (Y 1) (Y 2) (Y 3) (Y 4) (Y 5) (Y 6) (Y 7) (Y 8) (Y 9) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]
  · iexists _; isplitr; swap; · iexact H0
    ipureintro; exact ⟨fun _ => rfl, fun h => absurd h (by decide)⟩
  isplitl [H1]
  · iexists _; isplitr; swap; · iexact H1
    ipureintro; exact ⟨fun _ => rfl, fun h => absurd h (by decide)⟩
  isplitl [H2]
  · iexists _; isplitr; swap; · iexact H2
    ipureintro; exact ⟨fun _ => rfl, fun h => absurd h (by decide)⟩
  isplitl [H3]
  · iexists _; isplitr; swap; · iexact H3
    ipureintro; exact ⟨fun _ => rfl, fun h => absurd h (by decide)⟩
  isplitl [H4]
  · iexists _; isplitr; swap; · iexact H4
    ipureintro; exact ⟨fun _ => rfl, fun h => absurd h (by decide)⟩
  isplitl [H5]
  · iexists _; isplitr; swap; · iexact H5
    ipureintro; exact ⟨fun _ => rfl, fun h => absurd h (by decide)⟩
  isplitl [H6]
  · iexists _; isplitr; swap; · iexact H6
    ipureintro; exact ⟨fun _ => rfl, fun h => absurd h (by decide)⟩
  isplitl [H7]
  · iexists _; isplitr; swap; · iexact H7
    ipureintro; exact ⟨fun _ => rfl, fun h => absurd h (by decide)⟩
  isplitl [H8]
  · iexists _; isplitr; swap; · iexact H8
    ipureintro; exact ⟨fun _ => rfl, fun h => absurd h (by decide)⟩
  isplitl [H9]
  · iexists _; isplitr; swap; · iexact H9
    ipureintro; exact ⟨fun _ => rfl, fun h => absurd h (by decide)⟩
  isplitl [H10]
  · iexists _; isplitr; swap; · iexact H10
    ipureintro; refine ⟨fun h => absurd h (by decide), fun _ _ => Eq.trans ?_ (after1_10 V c t).symm⟩
    simp only [ld_all, ld_all3, e0, e1, e2]
  isplitl [H11]
  · iexists _; isplitr; swap; · iexact H11
    ipureintro; refine ⟨fun h => absurd h (by decide), fun _ _ => Eq.trans ?_ (after1_11 V c t).symm⟩
    simp only [ld_all, ld_all3, e0, e1, e2, e3]
  isplitl [H12]
  · iexists _; isplitr; swap; · iexact H12
    ipureintro; refine ⟨fun h => absurd h (by decide), fun _ _ => Eq.trans ?_ (after1_12 V c t).symm⟩
    simp only [ld_all, ld_all3, e0, e1, e2]
  isplitl [H13]
  · iexists _; isplitr; swap; · iexact H13
    ipureintro; refine ⟨fun h => absurd h (by decide), fun _ _ => Eq.trans ?_ (after1_13 V c t).symm⟩
    simp only [ld_all, ld_all3, e0, e1, e2, e4, e5, e8, e9]
  iexists _; isplitr; swap; · iexact H14
  ipureintro; refine ⟨fun h => absurd h (by decide), fun _ _ => Eq.trans ?_ (after1_14 V c t).symm⟩
  simp only [ld_all, ld_all3, e0, e1, e2, e4, e5, e6, e7]

end Cert.KernelIdeal.Gen

end
-- ==== Proof.KernelIdeal.Body2.lean ====
/- The third kernel's body on whole staging buffers, run once for every grid point: what it leaves in the output's
   buffer and in the scratch slot that it stores into, from the buffers it was handed. -/
module

public import proofs.«01_k».proof.Proof.KernelIdeal.Body1
public import Idealize.ShloMosaic.Lib.Pipeline.FrameBody
public import Idealize.ShloMosaic.Lib.VecWindow
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The scratch slot that the body reads and the one that it stores into. -/
abbrev slotR2 (i : grid2.Coords) : Rect S512x128 := Rect.unit (s := S512x128) (k2_off1 i) S256x128.size (k2_off1_inb i)
abbrev slotW2 (i : grid2.Coords) : Rect S512x128 := Rect.unit (s := S512x128) (k2_off2 i) S256x128.size (k2_off2_inb i)
/-- The four quarters of the output's buffer. -/
abbrev q00 : Rect S512x128 := Rect.unit (s := S512x128) ![0, 0] S256x64.size inb_S512x128_S256x64_0_0
abbrev q01 : Rect S512x128 := Rect.unit (s := S512x128) ![0, 64] S256x64.size inb_S512x128_S256x64_0_64
abbrev q10 : Rect S512x128 := Rect.unit (s := S512x128) ![256, 0] S256x64.size inb_S512x128_S256x64_256_0
abbrev q11 : Rect S512x128 := Rect.unit (s := S512x128) ![256, 64] S256x64.size inb_S512x128_S256x64_256_64

/-- The downward and the upward segmented scan of the block in the scratch slot `v`, after all but the last of their
    eight levels, and the two joined at the last. -/
def fwd2 (v : Vec F S256x128 .f32) (s : Vec F S512x1 .i32) : FVec F S256x128 .bf16 :=
  let v17 := k2_pay3 s
  let v18 := k2_pay4 s
  let v56 := k2_pay10 (k2_pay5 v) (k2_pay8 s) (k2_pay9 s)
  let v98 := k2_pay18 v56 (k2_pay14 (F := F) v17 v18)
  let v182 := k2_pay29 v17 v18 v98 (k2_pay22 (F := F) v17 v18) (k2_pay24 (F := F))
  let v224 := k2_pay33 v17 v18 v182
  let v266 := k2_pay38 v18 v224 (k2_pay35 v17) (Scalar.ofBits .f32 0x00000000#32)
  k2_pay44 v18 v266 (k2_pay40 (F := F) v17) k2_pay41 (k2_pay42 v18)
def bwd2 (v : Vec F S256x128 .f32) (s : Vec F S512x1 .i32) : FVec F S256x128 .bf16 :=
  let v17 := k2_pay3 s
  let v18 := k2_pay4 s
  let v61 := k2_pay11 (k2_pay5 v) (k2_pay6 s) (k2_pay7 s)
  let v103 := k2_pay19 v61 (k2_pay15 (F := F) v17) (k2_pay16 (F := F)) (k2_pay17 (F := F) v18)
  let v135 := k2_pay23 (F := F) v17 v18
  let v229 := k2_pay34 v17 v18 (k2_pay25 v103 v135) (k2_pay28 (F := F) v17 v18) (k2_pay30 v103 v135)
  let v271 := k2_pay39 v18 v229 (k2_pay35 v17) (Scalar.ofBits .f32 0x00000000#32)
  k2_pay45 v18 v271 (k2_pay40 (F := F) v17) k2_pay41 (k2_pay42 v18)
def scan2 (v : Vec F S256x128 .f32) (s : Vec F S512x1 .i32) : FVec F S256x128 .f32 :=
  k2_pay48 (fwd2 v s) (bwd2 v s) (k2_pay46 (F := F) (k2_pay3 s)) (k2_pay47 (F := F) (k2_pay4 s))

/-- The output's left part (the block itself, scaled) and right part (the segments' maxima, scaled). -/
def y2 (v : Vec F S256x128 .f32) (x4 x5 : Vec F S1x128 .f32) : FVec F S256x128 .f32 := k2_pay52 v x4 x5
def t2 (v : Vec F S256x128 .f32) (s : Vec F S512x1 .i32) (x4 : Vec F S1x128 .f32) (x6 x7 x8 x9 : Vec F S1x1x64 .f32) : FVec F S256x128 .f32 :=
  k2_pay53 (k2_pay4 s) (scan2 v s) (k2_pay49 (k2_pay3 s) x6) (Named.named κ "neg" 0xFF61B1E6#32) (k2_pay50 (k2_pay3 s)) (k2_pay51 x8) x7 x9 x4

/-- What the output's buffer holds. -/
def out2 (v : Vec F S256x128 .f32) (s : Vec F S512x1 .i32) (x4 x5 : Vec F S1x128 .f32) (x6 x7 x8 x9 : Vec F S1x1x64 .f32) : Vec F S512x128 .f32 :=
  View.canon [⟨q11, k2_pay58 (t2 v s x4 x6 x7 x8 x9) x5⟩, ⟨q10, k2_pay57 (y2 v x4 x5)⟩,
    ⟨q01, k2_pay56 (t2 v s x4 x6 x7 x8 x9) x5⟩, ⟨q00, k2_pay55 (y2 v x4 x5)⟩]

/-- The four quarters cover the buffer. -/
theorem cover2 (a b d e : Vec F S256x64 .f32) (y : S512x128.Idx) :
    ∃ pc ∈ ([⟨q11, a⟩, ⟨q10, b⟩, ⟨q01, d⟩, ⟨q00, e⟩] : List (View.Piece (Elt F) S512x128 .f32)), y ∈ pc.1.set :=
  View.cover_of_tiled [⟨q11, a⟩, ⟨q10, b⟩, ⟨q01, d⟩, ⟨q00, e⟩] S256x64.size (by rfl) y

/-- The whole-buffer rectangles of the body's loads. -/
abbrev all7 : Rect S1x128 := Rect.unit (s := S1x128) ![0, 0] S1x128.size inb_S1x128_S1x128_0_0
abbrev all8 : Rect S1x1x64 := Rect.unit (s := S1x1x64) ![0, 0, 0] S1x1x64.size inb_S1x1x64_S1x1x64_0_0_0

attribute [local irreducible] k2_pay18 k2_pay19 k2_pay22 k2_pay23 k2_pay25 k2_pay28 k2_pay29 k2_pay30 k2_pay33 k2_pay34 k2_pay38 k2_pay39 k2_pay44 k2_pay45 k2_pay48 k2_pay53

set_option maxHeartbeats 1000000 in
/-- The body's triple. -/
theorem body2_run (c : Dev nD) (E : Set ℕ) (i : grid2.Coords) (arg1 : Memref sig .tc .vmem S512x128 .f32) (harg1 : arg1.IsWhole) (arg2 : Memref sig .tc .vmem S128x64 .f32) (harg2 : arg2.IsWhole) (arg3 : Memref sig .tc .vmem S512x1 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x1x64 .f32) (harg9 : arg9.IsWhole) (arg10 : Memref sig .tc .vmem S512x128 .f32) (harg10 : arg10.IsWhole) (arg11 : Memref sig .tc .vmem S512x128 .f32) (harg11 : arg11.IsWhole)
    (x1 : Vec F S512x128 .f32)    (x2 : Vec F S128x64 .f32)    (x3 : Vec F S512x1 .i32)    (x4 : Vec F S1x128 .f32)    (x5 : Vec F S1x128 .f32)    (x6 : Vec F S1x1x64 .f32)    (x7 : Vec F S1x1x64 .f32)    (x8 : Vec F S1x1x64 .f32)    (x9 : Vec F S1x1x64 .f32) (xs : Vec F S512x128 .f32)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ owns (c : Thread nD τ) arg11 fullShare xs
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (out2 (View.ld xs (slotR2 i)) (View.ld x3 all3) (View.ld x4 all7) (View.ld x5 all7) (View.ld x6 all8) (View.ld x7 all8) (View.ld x8 all8) (View.ld x9 all8))
            ∗ (∃ X, ⌜View.ld X (slotW2 i) = k2_pay1 (k2_pay59 (View.ld x1 all1) (View.ld x2 all2) (View.ld x2 all2))⌝ ∗ owns (c : Thread nD τ) arg11 fullShare X)) -∗ K ⟨⟩))
      ⊢ wp frame (wpE (defs₀ (F := F)) Variants.none c none) E
          (cc2__p2_body i arg1 harg1 arg2 harg2 arg3 harg3 arg4 harg4 arg5 harg5 arg6 harg6 arg7 harg7 arg8 harg8 arg9 harg9 arg10 harg10 arg11 harg11) K := by
  simp only [cc2__p2_body_eq_skeleton]; unfold cc2__p2_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs, %hfs, HS⟩, Hk⟩
  subst hf1 hf2 hf3 hf4 hf5 hf6 hf7 hf8 hf9 hfs
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact (View.read_writes_eq_canon _ _ _ (cover2 _ _ _ _)).trans rfl
  iexists _; isplitr
  swap
  · iexists _; isplitr
    swap; · iexact HS
    ipureintro; rfl
  ipureintro
  refine Eq.trans (funext fun x => View.read_writes_cons_emb _ _ (slotW2 i) _ [] x) ?_
  rfl

end Cert.KernelIdeal.Gen

end
-- ==== Proof.KernelIdeal.Region2.lean ====
/- The third kernel's pipeline, at the contents `V` that the program's buffers hold when it starts: what every staging
   buffer and the carried scratch hold at every grid point, and the proof that each run of the body keeps to it. -/
module

public import proofs.«01_k».proof.Proof.KernelIdeal.Body2
public import proofs.«01_k».proof.Proof.Lazy

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The product that point `t` stores into its scratch slot. -/
def xblk2 (c : Dev nD) (t : Fin cfg2.N) : Vec F S256x128 .f32 := k2_pay1 (k2_pay59 (iblk2 V c 0 t) (iblk2 V c 1 t) (iblk2 V c 1 t))

/-- The point before. -/
def prev2 (t : Fin cfg2.N) : Fin cfg2.N := ⟨t.val - 1, Nat.lt_of_le_of_lt (Nat.sub_le _ _) t.isLt⟩

/-- The slot read at a point after the first is the slot stored into at the point before. -/
theorem off2_succ : ∀ t : Fin grid2.N, t.val ≠ 0 → k2_off1 (grid2.coords t) = k2_off2 (grid2.coords ⟨t.val - 1, Nat.lt_of_le_of_lt (Nat.sub_le _ _) t.isLt⟩) := by
  decide +kernel

/-- What the carried scratch is known to hold before point `t`: in the slot that the point before stored into, its product. -/
def Known2 (c : Dev nD) (t : Fin (cfg2.N + 1)) (X : Vec F S512x128 .f32) : Prop :=
  ∀ u : Fin cfg2.N, u.val + 1 = t.val → View.ld X (slotW2 (grid2.coords u)) = xblk2 V c u

/-- The invariant before point `t`: the scratch at contents so known, every other scoped buffer, the generator register. -/
def Phi2 (c : Dev nD) (t : Fin (cfg2.N + 1)) : sProp 𝕄 :=
  iprop((∃ X, ⌜Known2 V c t X⌝ ∗ owns (c : Thread nD τ) (Memref.whole cc2_scratch0) fullShare X)
    ∗ Pipeline.scopedRestBut (Ix := Unit) (Name := ℕ) (U := UR sig nD τ) (Lvl := ℕ) (Val := Elt F) spec2 c [cc2_scratch0]
    ∗ ∃ r, prngReg c r)

/-- The pipeline's data. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2 (xblk2 V c (prev2 t)) (iblk2 V c 2 t) (iblk2 V c 3 t) (iblk2 V c 4 t) (iblk2 V c 5 t) (iblk2 V c 6 t) (iblk2 V c 7 t) (iblk2 V c 8 t)
  Φ t := Phi2 V c t
  q w := Pipeline.shareOf spec2 w
  owed _ := 0

/-- The first point leaves junk in the output's buffer. -/
def free2 (w : Fin cfg2.W) (t : Fin cfg2.N) : Bool := decide (9 ≤ w.val ∧ t.val = 0)

/-- No free point writes its block back. -/
theorem flush_free2 : ∀ (w : Fin cfg2.W) (t : Fin cfg2.N), (cfg2.win w).flush t = true → free2 w t = false := by
  have h : ∀ (w : Fin cfg2.W), (cfg2.win w).flush ⟨0, by decide⟩ = true → ¬ 9 ≤ w.val := by decide +kernel
  intro w t hf
  refine decide_eq_false fun ⟨h5, h0⟩ => ?_
  obtain rfl : t = ⟨0, by decide⟩ := Fin.ext h0
  exact h w hf h5

theorem A_eq2 (c : Dev nD) (w : Fin cfg2.W) : (dat2 V c).A w = V c (Pipeline.arrRef spec2 w) := by
  dsimp only [dat2]
theorem after2_9 (c : Dev nD) (t : Fin cfg2.N) : (dat2 V c).after 9 t = out2 (xblk2 V c (prev2 t)) (iblk2 V c 2 t) (iblk2 V c 3 t) (iblk2 V c 4 t) (iblk2 V c 5 t) (iblk2 V c 6 t) (iblk2 V c 7 t) (iblk2 V c 8 t) := by dsimp only [dat2]

/-- The pipeline's data with the first point's junk left free. -/
abbrev rdat2 (c : Dev nD) : RDat τ (Elt F) Unit ℕ (UR sig nD τ) ℕ cfg2 c := Cert.Lazy.lazy (dat2 V c) free2

/-- Each input's staging buffer holds its block whenever the body runs. -/
theorem finds2_0 (c : Dev nD) (t : Fin cfg2.N) (Y) (h : (rdat2 V c).Finds 0 t Y) : Y = iblk2 V c 0 t := by
  obtain ⟨d, rfl⟩ := Cert.Lazy.finds_in (dat2 V c) free2 0 rfl (fun _ _ _ => rfl) t Y h; rfl
theorem finds2_1 (c : Dev nD) (t : Fin cfg2.N) (Y) (h : (rdat2 V c).Finds 1 t Y) : Y = iblk2 V c 1 t := by
  obtain ⟨d, rfl⟩ := Cert.Lazy.finds_in (dat2 V c) free2 1 rfl (fun _ _ _ => rfl) t Y h; rfl
theorem finds2_2 (c : Dev nD) (t : Fin cfg2.N) (Y) (h : (rdat2 V c).Finds 2 t Y) : Y = iblk2 V c 2 t := by
  obtain ⟨d, rfl⟩ := Cert.Lazy.finds_in (dat2 V c) free2 2 rfl (fun _ _ _ => rfl) t Y h; rfl
theorem finds2_3 (c : Dev nD) (t : Fin cfg2.N) (Y) (h : (rdat2 V c).Finds 3 t Y) : Y = iblk2 V c 3 t := by
  obtain ⟨d, rfl⟩ := Cert.Lazy.finds_in (dat2 V c) free2 3 rfl (fun _ _ _ => rfl) t Y h; rfl
theorem finds2_4 (c : Dev nD) (t : Fin cfg2.N) (Y) (h : (rdat2 V c).Finds 4 t Y) : Y = iblk2 V c 4 t := by
  obtain ⟨d, rfl⟩ := Cert.Lazy.finds_in (dat2 V c) free2 4 rfl (fun _ _ _ => rfl) t Y h; rfl
theorem finds2_5 (c : Dev nD) (t : Fin cfg2.N) (Y) (h : (rdat2 V c).Finds 5 t Y) : Y = iblk2 V c 5 t := by
  obtain ⟨d, rfl⟩ := Cert.Lazy.finds_in (dat2 V c) free2 5 rfl (fun _ _ _ => rfl) t Y h; rfl
theorem finds2_6 (c : Dev nD) (t : Fin cfg2.N) (Y) (h : (rdat2 V c).Finds 6 t Y) : Y = iblk2 V c 6 t := by
  obtain ⟨d, rfl⟩ := Cert.Lazy.finds_in (dat2 V c) free2 6 rfl (fun _ _ _ => rfl) t Y h; rfl
theorem finds2_7 (c : Dev nD) (t : Fin cfg2.N) (Y) (h : (rdat2 V c).Finds 7 t Y) : Y = iblk2 V c 7 t := by
  obtain ⟨d, rfl⟩ := Cert.Lazy.finds_in (dat2 V c) free2 7 rfl (fun _ _ _ => rfl) t Y h; rfl
theorem finds2_8 (c : Dev nD) (t : Fin cfg2.N) (Y) (h : (rdat2 V c).Finds 8 t Y) : Y = iblk2 V c 8 t := by
  obtain ⟨d, rfl⟩ := Cert.Lazy.finds_in (dat2 V c) free2 8 rfl (fun _ _ _ => rfl) t Y h; rfl

/-- Loads at equal offsets read alike. -/
theorem ld_slot2 {i j : grid2.Coords} (h : k2_off1 i = k2_off2 j) (X : Vec F S512x128 .f32) :
    View.ld X (slotR2 i) = View.ld X (slotW2 j) := by
  funext x; exact congrArg X (funext fun a => Fin.ext (by
    show (k2_off1 i) a + 1 * (x a).val = (k2_off2 j) a + 1 * (x a).val
    rw [h]))

/-- The scratch slot that a point after the first reads holds the product of the point before. -/
theorem known2_read (c : Dev nD) (t : Fin cfg2.N) (ht : t.val ≠ 0) (X) (h : Known2 V c t.castSucc X) :
    View.ld X (slotR2 (grid2.coords t)) = xblk2 V c (prev2 t) :=
  (ld_slot2 (off2_succ t ht) X).trans (h (prev2 t) (by show t.val - 1 + 1 = t.val; omega))

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- Every run of the body keeps to the data. -/
theorem body_obligation2 (c : Dev nD) : (rdat2 (F := F) V c).BodyObligation (defs₀ (F := F)) Variants.none () Set.univ := fun t Y hY => by
  rw [bigSep_W2, bigSep_W2, defs₀_row2]
  have e0 := finds2_0 V c t _ (hY 0)
  have e1 := finds2_1 V c t _ (hY 1)
  have e2 := finds2_2 V c t _ (hY 2)
  have e3 := finds2_3 V c t _ (hY 3)
  have e4 := finds2_4 V c t _ (hY 4)
  have e5 := finds2_5 V c t _ (hY 5)
  have e6 := finds2_6 V c t _ (hY 6)
  have e7 := finds2_7 V c t _ (hY 7)
  have e8 := finds2_8 V c t _ (hY 8)
  rw [show (rdat2 V c).Φ t.succ = Phi2 V c t.succ from rfl, show (rdat2 V c).Φ t.castSucc = Phi2 V c t.castSucc from rfl,
    show (rdat2 V c).owesAt () t.succ = (rdat2 V c).owesAt () t.castSucc from rfl]
  unfold Phi2 bodyAt2
  iintro ⟨⟨⟨%X, %hX, HS⟩, HB, Hg⟩, Ho, H0, H1, H2, H3, H4, H5, H6, H7, H8, H9⟩
  iapply (body2_run c Set.univ (grid2.coords t) _ _ _ _ _ _ _ _ _ _ _ _ _ _ _ _ _ _ _ _ _ _ (Y 0) (Y 1) (Y 2) (Y 3) (Y 4) (Y 5) (Y 6) (Y 7) (Y 8) X _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS]; · iexact HS
  iintro ⟨H0, H1, H2, H3, H4, H5, H6, H7, H8, H9, ⟨%X', %hX', HS⟩⟩
  isplitl [HS HB Hg]
  · isplitl [HS]
    · iexists X'; isplitr
      · ipureintro
        intro u hu
        obtain rfl : u = t := Fin.ext (Nat.succ_injective hu)
        rw [hX', ld_all, ld_all, e0, e1]; rfl
      iexact HS
    isplitl [HB]; · iexact HB
    iexact Hg
  isplitl [Ho]; · iexact Ho
  isplitl [H0]
  · iexists _; isplitr; swap; · iexact H0
    ipureintro; exact ⟨fun _ => rfl, fun h => absurd h (by decide)⟩
  isplitl [H1]
  · iexists _; isplitr; swap; · iexact H1
    ipureintro; exact ⟨fun _ => rfl, fun h => absurd h (by decide)⟩
  isplitl [H2]
  · iexists _; isplitr; swap; · iexact H2
    ipureintro; exact ⟨fun _ => rfl, fun h => absurd h (by decide)⟩
  isplitl [H3]
  · iexists _; isplitr; swap; · iexact H3
    ipureintro; exact ⟨fun _ => rfl, fun h => absurd h (by decide)⟩
  isplitl [H4]
  · iexists _; isplitr; swap; · iexact H4
    ipureintro; exact ⟨fun _ => rfl, fun h => absurd h (by decide)⟩
  isplitl [H5]
  · iexists _; isplitr; swap; · iexact H5
    ipureintro; exact ⟨fun _ => rfl, fun h => absurd h (by decide)⟩
  isplitl [H6]
  · iexists _; isplitr; swap; · iexact H6
    ipureintro; exact ⟨fun _ => rfl, fun h => absurd h (by decide)⟩
  isplitl [H7]
  · iexists _; isplitr; swap; · iexact H7
    ipureintro; exact ⟨fun _ => rfl, fun h => absurd h (by decide)⟩
  isplitl [H8]
  · iexists _; isplitr; swap; · iexact H8
    ipureintro; exact ⟨fun _ => rfl, fun h => absurd h (by decide)⟩
  iexists _; isplitr; swap; · iexact H9
  ipureintro; refine ⟨fun h => absurd h (by decide), fun _ hf => Eq.trans ?_ (after2_9 V c t).symm⟩
  have ht : t.val ≠ 0 := fun h => of_decide_eq_false hf ⟨by decide, h⟩
  simp only [known2_read V c t ht X hX, ld_all, ld_all3, e2, e3, e4, e5, e6, e7, e8]

/-- What the invariant gives at the loop's two ends. -/
theorem Phi2_in (c : Dev nD) : (Pipeline.ΦA spec2 c : sProp 𝕄) ⊢ Phi2 V c 0 := by
  unfold Pipeline.ΦA Phi2
  rw [scopedRest2_split]
  iintro ⟨⟨⟨%f, HS⟩, HB⟩, Hg⟩
  isplitl [HS]
  · iexists f; isplitr
    · ipureintro; intro u hu; exact absurd hu (Nat.succ_ne_zero _)
    rw [owns_whole]; iexact HS
  isplitl [HB]; · iexact HB
  iexact Hg
theorem Phi2_out (c : Dev nD) : Phi2 V c (Fin.last cfg2.N) ⊢ (Pipeline.ΦA spec2 c : sProp 𝕄) := by
  unfold Pipeline.ΦA Phi2
  rw [scopedRest2_split]
  simp only [owns_whole]
  iintro ⟨⟨%X, %hX, HS⟩, HB, Hg⟩
  isplitl [HS HB]
  · isplitl [HS]
    · iexists X; iexact HS
    iexact HB
  iexact Hg

end Cert.KernelIdeal.Gen

end
-- ==== Proof.KernelIdeal.Run.lean ====
/- The program's run: what every buffer holds between its nine items (host stretches and kernel calls), each kernel call as
   a segment of the run, and the run itself: every fair execution ends, with every buffer at the contents listed here. -/
module

public import proofs.«01_k».proof.Proof.KernelIdeal.Region0
public import proofs.«01_k».proof.Proof.KernelIdeal.Region1
public import proofs.«01_k».proof.Proof.KernelIdeal.Region2
public import proofs.«01_k».proof.Proof.Gen.KernelIdeal.Regions
public import Idealize.ShloMosaic.Lib.Ring

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4]

/-! ## What the buffers hold between the items -/

/-- At the start. -/
abbrev W0 : Dev nD → Valuation τ sig (Elt F) := fun c b => m ((c : Dev nD), b)
theorem W0_args (c : Dev nD) : ∀ a ∈ argRefs, W0 m c (Proc.devRef .tc a) = m ((c : Thread nD τ).loc a) := fun _ _ => rfl

/-- After the host stretch `hostOps0`. -/
def W1 : Dev nD → Valuation τ sig (Elt F) := fun c => StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ hostOps0_writes h
theorem hostOps0_args : ∀ a ∈ argRefs, a ∉ hostOps0_W := ListAll.forall_mem_of_all_decide (by decide +kernel)
theorem W1_args (c : Dev nD) : ∀ a ∈ argRefs, W1 m c (Proc.devRef .tc a) = m ((c : Thread nD τ).loc a) :=
  fun a ha => (W1_of m c a (hostOps0_args a ha)).trans (W0_args m c a ha)

/-- After the host stretch `hostOps0_1`. -/
def W2 : Dev nD → Valuation τ sig (Elt F) := fun c => StableHlo.after hostOps0_1 (W1 m c)
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem hostOps0_1_args : ∀ a ∈ argRefs, a ∉ hostOps0_1_W := ListAll.forall_mem_of_all_decide (by decide +kernel)
theorem W2_args (c : Dev nD) : ∀ a ∈ argRefs, W2 m c (Proc.devRef .tc a) = m ((c : Thread nD τ).loc a) :=
  fun a ha => (W2_of m c a (hostOps0_1_args a ha)).trans (W1_args m c a ha)

/-- After the host stretch `hostOps0_2`. -/
def W3 : Dev nD → Valuation τ sig (Elt F) := fun c => StableHlo.after hostOps0_2 (W2 m c)
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem hostOps0_2_args : ∀ a ∈ argRefs, a ∉ hostOps0_2_W := ListAll.forall_mem_of_all_decide (by decide +kernel)
theorem W3_args (c : Dev nD) : ∀ a ∈ argRefs, W3 m c (Proc.devRef .tc a) = m ((c : Thread nD τ).loc a) :=
  fun a ha => (W3_of m c a (hostOps0_2_args a ha)).trans (W2_args m c a ha)

/-- After the host stretch `hostOps0_3`. -/
def W4 : Dev nD → Valuation τ sig (Elt F) := fun c => StableHlo.after hostOps0_3 (W3 m c)
theorem W4_of (c : Dev nD) (r : Ref sig .tc) (h : r ∉ hostOps0_3_W) : W4 m c (Proc.devRef .tc r) = W3 m c (Proc.devRef .tc r) :=
  StableHlo.after_of_writes_sub hostOps0_3 _ hostOps0_3_writes h
theorem hostOps0_3_args : ∀ a ∈ argRefs, a ∉ hostOps0_3_W := ListAll.forall_mem_of_all_decide (by decide +kernel)
theorem W4_args (c : Dev nD) : ∀ a ∈ argRefs, W4 m c (Proc.devRef .tc a) = m ((c : Thread nD τ).loc a) :=
  fun a ha => (W4_of m c a (hostOps0_3_args a ha)).trans (W3_args m c a ha)

/-- After the host stretch `hostOps0_4`. -/
def W5 : Dev nD → Valuation τ sig (Elt F) := fun c => StableHlo.after hostOps0_4 (W4 m c)
theorem W5_of (c : Dev nD) (r : Ref sig .tc) (h : r ∉ hostOps0_4_W) : W5 m c (Proc.devRef .tc r) = W4 m c (Proc.devRef .tc r) :=
  StableHlo.after_of_writes_sub hostOps0_4 _ hostOps0_4_writes h
theorem hostOps0_4_args : ∀ a ∈ argRefs, a ∉ hostOps0_4_W := ListAll.forall_mem_of_all_decide (by decide +kernel)
theorem W5_args (c : Dev nD) : ∀ a ∈ argRefs, W5 m c (Proc.devRef .tc a) = m ((c : Thread nD τ).loc a) :=
  fun a ha => (W5_of m c a (hostOps0_4_args a ha)).trans (W4_args m c a ha)

/-- The same at the core's own references: what kernel call 0 finds. -/
abbrev X5 : (c : Dev nD) → (b : Ref sig .tc) → Buf (Elt F) ((c : Thread nD τ).loc b) := fun c b => W5 m c b
/-- After kernel call 0: its arrays as its pipeline leaves them, every other buffer as before. -/
def W6 (c : Dev nD) : Valuation τ sig (Elt F) :=
  Pipeline.withArrays spec0 c (W5 m c) fun w => (dat0 (X5 m) c).arrAt w cfg0.N
theorem W6_arr (c : Dev nD) (w : Fin cfg0.W) :
    W6 m c (Proc.devRef .tc (Pipeline.arrRef spec0 w)) = (dat0 (X5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
/-- A buffer that is none of the call's outputs is left as it was. -/
theorem W6_of (c : Dev nD) (r : Ref sig .tc) (h : ∀ w : Fin cfg0.W, Pipeline.arrRef spec0 w = r → (cfg0.win w).isOut = false) :
    W6 m c (Proc.devRef .tc r) = W5 m c (Proc.devRef .tc r) := by
  by_cases hw : ∃ w : Fin cfg0.W, Pipeline.arrRef spec0 w = r
  · obtain ⟨w, rfl⟩ := hw
    exact (W6_arr m c w).trans (((dat0 (X5 m) c).arrAt_in w (h w rfl) _).trans (A_eq0 (X5 m) c w))
  · exact W6_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W6_args (c : Dev nD) : ∀ a ∈ argRefs, W6 m c (Proc.devRef .tc a) = m ((c : Thread nD τ).loc a) :=
  fun a ha => (W6_of m c a (argsIn0 a ha)).trans (W5_args m c a ha)
theorem hF0 (c : Dev nD) (w : Fin cfg0.W) : (dat0 (X5 m) c).arrAt w cfg0.N = (fun b : Ref sig .tc => W6 m c b) (Pipeline.arrRef spec0 w) :=
  (W6_arr m c w).symm
theorem hrest0 (c : Dev nD) : ∀ b : Ref sig .tc, b ∉ Finset.univ.image (Pipeline.arrRef spec0) → W6 m c b = W5 m c b :=
  fun b hb => W6_of_ne m c b fun w e => hb (Finset.mem_image.mpr ⟨w, Finset.mem_univ _, e⟩)

/-- The same at the core's own references: what kernel call 1 finds. -/
abbrev X6 : (c : Dev nD) → (b : Ref sig .tc) → Buf (Elt F) ((c : Thread nD τ).loc b) := fun c b => W6 m c b
/-- After kernel call 1: its arrays as its pipeline leaves them, every other buffer as before. -/
def W7 (c : Dev nD) : Valuation τ sig (Elt F) :=
  Pipeline.withArrays spec1 c (W6 m c) fun w => (dat1 (X6 m) c).arrAt w cfg1.N
theorem W7_arr (c : Dev nD) (w : Fin cfg1.W) :
    W7 m c (Proc.devRef .tc (Pipeline.arrRef spec1 w)) = (dat1 (X6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- A buffer that is none of the call's outputs is left as it was. -/
theorem W7_of (c : Dev nD) (r : Ref sig .tc) (h : ∀ w : Fin cfg1.W, Pipeline.arrRef spec1 w = r → (cfg1.win w).isOut = false) :
    W7 m c (Proc.devRef .tc r) = W6 m c (Proc.devRef .tc r) := by
  by_cases hw : ∃ w : Fin cfg1.W, Pipeline.arrRef spec1 w = r
  · obtain ⟨w, rfl⟩ := hw
    exact (W7_arr m c w).trans (((dat1 (X6 m) c).arrAt_in w (h w rfl) _).trans (A_eq1 (X6 m) c w))
  · exact W7_of_ne m c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W7_args (c : Dev nD) : ∀ a ∈ argRefs, W7 m c (Proc.devRef .tc a) = m ((c : Thread nD τ).loc a) :=
  fun a ha => (W7_of m c a (argsIn1 a ha)).trans (W6_args m c a ha)
theorem hF1 (c : Dev nD) (w : Fin cfg1.W) : (dat1 (X6 m) c).arrAt w cfg1.N = (fun b : Ref sig .tc => W7 m c b) (Pipeline.arrRef spec1 w) :=
  (W7_arr m c w).symm
theorem hrest1 (c : Dev nD) : ∀ b : Ref sig .tc, b ∉ Finset.univ.image (Pipeline.arrRef spec1) → W7 m c b = W6 m c b :=
  fun b hb => W7_of_ne m c b fun w e => hb (Finset.mem_image.mpr ⟨w, Finset.mem_univ _, e⟩)

/-- After the host stretch `hostOps2`. -/
def W8 : Dev nD → Valuation τ sig (Elt F) := fun c => StableHlo.after hostOps2 (W7 m c)
theorem W8_of (c : Dev nD) (r : Ref sig .tc) (h : r ∉ hostOps2_W) : W8 m c (Proc.devRef .tc r) = W7 m c (Proc.devRef .tc r) :=
  StableHlo.after_of_writes_sub hostOps2 _ hostOps2_writes h
theorem hostOps2_args : ∀ a ∈ argRefs, a ∉ hostOps2_W := ListAll.forall_mem_of_all_decide (by decide +kernel)
theorem W8_args (c : Dev nD) : ∀ a ∈ argRefs, W8 m c (Proc.devRef .tc a) = m ((c : Thread nD τ).loc a) :=
  fun a ha => (W8_of m c a (hostOps2_args a ha)).trans (W7_args m c a ha)

/-- The same at the core's own references: what kernel call 2 finds. -/
abbrev X8 : (c : Dev nD) → (b : Ref sig .tc) → Buf (Elt F) ((c : Thread nD τ).loc b) := fun c b => W8 m c b
/-- After kernel call 2: its arrays as its pipeline leaves them, every other buffer as before. -/
def W9 (c : Dev nD) : Valuation τ sig (Elt F) :=
  Pipeline.withArrays spec2 c (W8 m c) fun w => (dat2 (X8 m) c).arrAt w cfg2.N
theorem W9_arr (c : Dev nD) (w : Fin cfg2.W) :
    W9 m c (Proc.devRef .tc (Pipeline.arrRef spec2 w)) = (dat2 (X8 m) c).arrAt w cfg2.N := by
  unfold W9; exact (dat2 (X8 m) c).withArrays_arrAt launch₀2.sharedIn _ (A_eq2 (X8 m) c) w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
/-- A buffer that is none of the call's outputs is left as it was. -/
theorem W9_of (c : Dev nD) (r : Ref sig .tc) (h : ∀ w : Fin cfg2.W, Pipeline.arrRef spec2 w = r → (cfg2.win w).isOut = false) :
    W9 m c (Proc.devRef .tc r) = W8 m c (Proc.devRef .tc r) := by
  by_cases hw : ∃ w : Fin cfg2.W, Pipeline.arrRef spec2 w = r
  · obtain ⟨w, rfl⟩ := hw
    exact (W9_arr m c w).trans (((dat2 (X8 m) c).arrAt_in w (h w rfl) _).trans (A_eq2 (X8 m) c w))
  · exact W9_of_ne m c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W9_args (c : Dev nD) : ∀ a ∈ argRefs, W9 m c (Proc.devRef .tc a) = m ((c : Thread nD τ).loc a) :=
  fun a ha => (W9_of m c a (argsIn2 a ha)).trans (W8_args m c a ha)
theorem hF2 (c : Dev nD) (w : Fin cfg2.W) : (dat2 (X8 m) c).arrAt w cfg2.N = (fun b : Ref sig .tc => W9 m c b) (Pipeline.arrRef spec2 w) :=
  (W9_arr m c w).symm
theorem hrest2 (c : Dev nD) : ∀ b : Ref sig .tc, b ∉ Finset.univ.image (Pipeline.arrRef spec2) → W9 m c b = W8 m c b :=
  fun b hb => W9_of_ne m c b fun w e => hb (Finset.mem_image.mpr ⟨w, Finset.mem_univ _, e⟩)

/-! ## The calls' data and the segments -/

/-- The exact data of each call, at what it finds. -/
def pdats : (p : Fin 3) → (c : Dev nD) → Dat τ (Elt F) Unit ℕ (UR sig nD τ) ℕ (Pipeline.pin (pcfgs (F := F)) adm p) c
  | ⟨0, _⟩ => fun c => dat0 (X5 m) c
  | ⟨1, _⟩ => fun c => dat1 (X6 m) c
  | ⟨2, _⟩ => fun c => dat2 (X8 m) c
/-- The same with the first points' junk left free. -/
def rdats : (p : Fin 3) → (c : Dev nD) → RDat τ (Elt F) Unit ℕ (UR sig nD τ) ℕ (Pipeline.pin (pcfgs (F := F)) adm p) c
  | ⟨0, _⟩ => fun c => rdat0 (X5 m) c
  | ⟨1, _⟩ => fun c => rdat1 (X6 m) c
  | ⟨2, _⟩ => fun c => rdat2 (X8 m) c
abbrev 𝒱₀ : Variants := Variants.none
/-- No core owes another anything. -/
abbrev L : GSem nD τ sig → Finset Unit := fun _ => ∅
abbrev lv : GSem nD τ sig → Unit → ℕ := fun _ _ => 0
/-- What rides beside the buffers: the core's generator register and that it owes nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A buffer outside every scope is among those the run tracks. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every buffer at the last contents, the generator register. -/
abbrev Tₙ (c : Dev nD) : sProp 𝕄 := iprop(StableHlo.held (c : Thread nD τ) (Pipeline.ucRefs τ sig) (W9 m c) ∗ ∃ r, prngReg c r)

-- the library's entry and exit lemmas are stated over the pinned configuration, which unification has to unfold
set_option backward.isDefEq.respectTransparency.types false in
/-- Kernel call 0 as a segment, from the contents `W5` to the contents `W6`. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (X5 m) c
  hwaits := Pipeline.RDat.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (X5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (X5 m c) (A_eq0 (X5 m) c)
    rw [Pipeline.unscopedBufs_held] at hsplit
    iintro ⟨⟨Hub, Hp, HO⟩, -, -⟩
    ihave H := hsplit $$ Hub
    icases H with ⟨Ha, Hrest⟩
    imodintro
    isplitl [Ha]
    · iapply (show (pdats m 0 c).arrays ((pdats m 0 c).arrAt · 0) ⊢ (rdats m 0 c).arrays (rdats m 0 c).A from BI.Entails.refl _)
      iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Phi0 (X5 m) c 0 from rfl]
    have h := Phi0_in (X5 m) c
    unfold Pipeline.ΦA at h
    iintro ⟨Hp, -, Hr⟩
    iapply h
    isplitl [Hr]; · iexact Hr
    iexact Hp
  hout c := by
    rw [Pipeline.ownSems0_none, show (rdats m 0 c).Φ (Fin.last _) = Phi0 (X5 m) c (Fin.last _) from rfl]
    refine (Phi0_out (X5 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X5 m c) (fun b => W6 m c b) ((pdats m 0 c).arrAt · cfg0.N) (hF0 m c) (hrest0 m c)
    rw [Pipeline.unscopedBufs_held] at hjoin
    have hpost : (rdats m 0 c).arraysAt (Pipeline.pin (pcfgs (F := F)) adm 0).N ⊢ (pdats m 0 c).arrays ((pdats m 0 c).arrAt · cfg0.N) :=
      Cert.Lazy.arraysAt_post (dat0 (X5 m) c) free0 cfg0.N (flush_free0)
    iintro ⟨Ha, HO, HY, Hrest⟩
    ihave Ha := hpost $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

-- the library's entry and exit lemmas are stated over the pinned configuration, which unification has to unfold
set_option backward.isDefEq.respectTransparency.types false in
/-- Kernel call 1 as a segment, from the contents `W6` to the contents `W7`. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (X6 m) c
  hwaits := Pipeline.RDat.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (X6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (X6 m c) (A_eq1 (X6 m) c)
    rw [Pipeline.unscopedBufs_held] at hsplit
    iintro ⟨⟨Hub, Hp, HO⟩, -, -⟩
    ihave H := hsplit $$ Hub
    icases H with ⟨Ha, Hrest⟩
    imodintro
    isplitl [Ha]
    · iapply (show (pdats m 1 c).arrays ((pdats m 1 c).arrAt · 0) ⊢ (rdats m 1 c).arrays (rdats m 1 c).A from BI.Entails.refl _)
      iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (X6 m c) (fun b => W7 m c b) ((pdats m 1 c).arrAt · cfg1.N) (hF1 m c) (hrest1 m c)
    rw [Pipeline.unscopedBufs_held] at hjoin
    have hpost : (rdats m 1 c).arraysAt (Pipeline.pin (pcfgs (F := F)) adm 1).N ⊢ (pdats m 1 c).arrays ((pdats m 1 c).arrAt · cfg1.N) :=
      Cert.Lazy.arraysAt_post (dat1 (X6 m) c) free1 cfg1.N (fun _ _ _ => rfl)
    iintro ⟨Ha, HO, HY, Hrest⟩
    ihave Ha := hpost $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

-- the library's entry and exit lemmas are stated over the pinned configuration, which unification has to unfold
set_option backward.isDefEq.respectTransparency.types false in
/-- Kernel call 2 as a segment, from the contents `W8` to the contents `W9`. -/
def reg2 : Pipeline.RDat.RegionSeg (pcfgs (F := F)) adm (rdats m) () defs₀ 𝒱₀ L lv 2 where
  win := launch₀2.win
  block_pos := launch₀2.block_pos
  stage_whole := launch₀2.stage_whole
  K := PEmpty
  osem k := k.elim
  ho := Pipeline.OwnSemFacts.none _
  hbody c := body_obligation2 (X8 m) c
  hwaits := Pipeline.RDat.hwaits_of_owed_zero _ _ _ _ L lv 2 fun _ _ => rfl
  pre c := iprop(StableHlo.held (c : Thread nD τ) (Pipeline.ucRefs τ sig) (W8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (X8 m c)
  hentry c := by
    rw [Pipeline.ownSems0_none]
    have hsplit := Pipeline.arrays_of_unscopedBufs_shared (p := 2) (pcfgs (F := F)) adm (pdats m) launch₀2.win launch₀2.sharedIn launch₀2.arr_whole c
      (fun _ _ => rfl) (X8 m c) (A_eq2 (X8 m) c)
    rw [Pipeline.unscopedBufs_held] at hsplit
    iintro ⟨⟨Hub, Hp, HO⟩, -, -⟩
    ihave H := hsplit $$ Hub
    icases H with ⟨Ha, Hrest⟩
    imodintro
    isplitl [Ha]
    · iapply (show (pdats m 2 c).arrays ((pdats m 2 c).arrAt · 0) ⊢ (rdats m 2 c).arrays (rdats m 2 c).A from BI.Entails.refl _)
      iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Phi2 (X8 m) c 0 from rfl]
    have h := Phi2_in (X8 m) c
    unfold Pipeline.ΦA at h
    iintro ⟨Hp, -, Hr⟩
    iapply h
    isplitl [Hr]; · iexact Hr
    iexact Hp
  hout c := by
    rw [Pipeline.ownSems0_none, show (rdats m 2 c).Φ (Fin.last _) = Phi2 (X8 m) c (Fin.last _) from rfl]
    refine (Phi2_out (X8 m) c).trans ?_
    unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m) (fun _ _ => rfl)
      (X8 m c) (fun b => W9 m c b) ((pdats m 2 c).arrAt · cfg2.N) (hF2 m c) (hrest2 m c)
    rw [Pipeline.unscopedBufs_held] at hjoin
    have hpost : (rdats m 2 c).arraysAt (Pipeline.pin (pcfgs (F := F)) adm 2).N ⊢ (pdats m 2 c).arrays ((pdats m 2 c).arrAt · cfg2.N) :=
      Cert.Lazy.arraysAt_post (dat2 (X8 m) c) free2 cfg2.N (flush_free2)
    iintro ⟨Ha, HO, HY, Hrest⟩
    ihave Ha := hpost $$ Ha
    imodintro
    isplitl [Ha Hrest HY]
    · isplitl [Ha Hrest]
      · iapply hjoin; isplitl [Ha] <;> iassumption
      iexact HY
    unfold Pipeline.RDat.owesAt Pipeline.owesWithin
    icases HO with ⟨%W, -, HO⟩; iexists W; iexact HO

/-- The program's nine items in order. -/
abbrev mainSegs : List (Pipeline.RDat.Seg (pcfgs (F := F)) adm (rdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .region (reg1 m),
    .host (hseg hostOps2 hostOps2_sub hostOps2_fresh (W7 m)),
    .region (reg2 m) ]
/-- The program is the run of those items. -/
theorem main_run (c : Dev nD) : main (F := F) c = Pipeline.RDat.Seg.run (mainSegs m) := (main_chain c).trans (by chain_rfl)

set_option backward.isDefEq.respectTransparency.types false in
/-- The run: every fair execution from memory `m` with zero counters ends, every buffer outside the kernels' scopes then
    holds the last contents `W9`, and every counter is zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W9 m c b) ∧ r.2.sem = fun _ => 0) :=
  Pipeline.RDat.θ_run_regions_kit_sems (pcfgs (F := F)) adm (rdats m) () cellOf_inj emb₁ defs₀ 𝒱₀ L lv m ρ main (mainSegs m)
    (fun c Q => by rw [main_run m c])
    (by simp only [mainSegs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h hz => ⟨h, funext fun g => hz g (.inr (regions_no_unscoped g.2))⟩)

/-- The run at the buffers the claims read: the arguments end as launched, the result at what the third call leaves. -/
theorem run_result : θ_run defs (onTc (τ := τ) (main (F := F))) ⟨m, fun _ => 0, ρ⟩ (fun r => (∀ c : Dev nD,
      r.2.mem ((c.tc : Thread nD τ).loc main_v10) = (dat2 (X8 m) c).arrAt 9 cfg2.N)
      ∧ (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run defs _ _).mono (fun r h => ⟨fun c => (h.1 c _ (mem_uc main_v10 (by decide))).trans (W9_arr m c 9),
    fun c => ⟨(h.1 c _ (mem_uc main_arg0 (by decide))).trans (W9_args m c main_arg0 (by decide)),
      (h.1 c _ (mem_uc main_arg1 (by decide))).trans (W9_args m c main_arg1 (by decide)),
      (h.1 c _ (mem_uc main_arg2 (by decide))).trans (W9_args m c main_arg2 (by decide)),
      (h.1 c _ (mem_uc main_arg3 (by decide))).trans (W9_args m c main_arg3 (by decide)),
      (h.1 c _ (mem_uc main_arg4 (by decide))).trans (W9_args m c main_arg4 (by decide))⟩, h.2⟩) (run m ρ)

end Cert.KernelIdeal.Run

end
-- ==== Proof.Frames.lean ====
/- The frame claims (each program runs, leaves its arguments unchanged and every counter at zero) and the claim on the
   named constants. -/
module

public import proofs.«01_k».proof.Defs
public import proofs.«01_k».proof.Proof.Kernel.Run
public import proofs.«01_k».proof.Proof.KernelIdeal.Run
public import proofs.«01_k».proof.Proof.Gen.ReferenceIdeal.Run
public import Idealize.ShloMosaic.Adequacy
public import Idealize.ShloMosaic.Init

@[expose] public section

noncomputable section

namespace Cert.Frames

open Idealize.ShloMosaic Idealize.SL.Sem

/-- The kernel as written runs, at the chip's floats. -/
theorem frame_p : Cert.quiescent_Kernel := fun m ρ _ =>
  (θ_run Cert.Kernel.defs _ _).mono (fun _ h => h.2) (Cert.Kernel.Run.run_result (F := Bits) m ρ)
/-- The kernel with its named constants runs, at the extended reals. -/
theorem frame_pi : Cert.quiescent_KernelIdeal := fun m ρ _ =>
  (θ_run Cert.KernelIdeal.defs _ _).mono (fun _ h => h.2) (Cert.KernelIdeal.Run.run_result (F := Ideal) m ρ)
/-- The reference runs, at the extended reals. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Each constant that takes a name is near the value the name gives it. -/
theorem preserves : Cert.preserves_Kernel_KernelIdeal :=
  ⟨IdealRules.named_const.statement Cert.KernelIdeal.κ "neg" .f32 0xFF61B1E6#32 ⊥ rfl,
   IdealRules.named_const.statement Cert.KernelIdeal.κ "pos" .f32 0x7F61B1E6#32 ⊤ rfl,
   IdealRules.named_const.statement Cert.KernelIdeal.κ "neg" .bf16 0xFF62#16 ⊥ rfl⟩

end Cert.Frames

end
-- ==== Proof.Math.Scan.lean ====
/- Segmented maximum scans by doubling, as statements about their upper bounds: what an array of partial maxima is below
   says what it is, so each level of a scan is one step of one induction. -/
module

public import Mathlib.Data.EReal.Operations
public import Mathlib.Order.Fin.Basic
public import Mathlib.Order.Interval.Set.Basic

@[expose] public section

namespace Cert.Scan

variable {m : ℕ} {β : Type}

/-- Rows of one segment are consecutive. -/
def Consec (seg : Fin m → β) : Prop := ∀ a b c : Fin m, a ≤ b → b ≤ c → seg a = seg c → seg b = seg a

/-- `cur i` is the largest of `s` over the rows of `i`'s segment among the last `d` rows up to `i`. -/
def Dn (d : ℕ) (seg : Fin m → β) (s cur : Fin m → EReal) : Prop :=
  ∀ i c, cur i ≤ c ↔ ∀ j : Fin m, j ≤ i → i.val < j.val + d → seg j = seg i → s j ≤ c

/-- `cur i` is the largest of `s` over the rows of `i`'s segment among the first `d` rows from `i` on. -/
def Up (d : ℕ) (seg : Fin m → β) (s cur : Fin m → EReal) : Prop :=
  ∀ i c, cur i ≤ c ↔ ∀ j : Fin m, i ≤ j → j.val < i.val + d → seg j = seg i → s j ≤ c

/-- One downward level: joined with the row `d` above where that lies in the same segment. -/
def StepDn (d : ℕ) (seg : Fin m → β) (cur cur' : Fin m → EReal) : Prop :=
  ∀ i c, cur' i ≤ c ↔ cur i ≤ c ∧ ∀ j : Fin m, j.val + d = i.val → seg j = seg i → cur j ≤ c

/-- One upward level: joined with the row `d` below where that lies in the same segment. -/
def StepUp (d : ℕ) (seg : Fin m → β) (cur cur' : Fin m → EReal) : Prop :=
  ∀ i c, cur' i ≤ c ↔ cur i ≤ c ∧ ∀ j : Fin m, i.val + d = j.val → seg j = seg i → cur j ≤ c

theorem Dn.one (seg : Fin m → β) (s : Fin m → EReal) : Dn 1 seg s s := fun i c =>
  ⟨fun h j h1 h2 _ => by
      obtain rfl : j = i := Fin.ext (by have : j.val ≤ i.val := h1; omega)
      exact h,
    fun h => h i (Nat.le_refl i.val) (by omega) rfl⟩

theorem Up.one (seg : Fin m → β) (s : Fin m → EReal) : Up 1 seg s s := fun i c =>
  ⟨fun h j h1 h2 _ => by
      obtain rfl : j = i := Fin.ext (by have : i.val ≤ j.val := h1; omega)
      exact h,
    fun h => h i (Nat.le_refl i.val) (by omega) rfl⟩

/-- A level doubles the reach of a downward scan. -/
theorem Dn.step {d e : ℕ} {seg : Fin m → β} {s cur cur' : Fin m → EReal} (hseg : Consec seg) (h : Dn d seg s cur)
    (h' : StepDn d seg cur cur') (he : e = d + d) : Dn e seg s cur' := fun i c => by
  subst he
  rw [h' i c, h i c]
  constructor
  · rintro ⟨h1, h2⟩ j hj hd hs
    by_cases hlt : i.val < j.val + d
    · exact h1 j hj hlt hs
    · have hb : i.val - d < m := by omega
      have e1 : seg ⟨i.val - d, hb⟩ = seg j := hseg j ⟨i.val - d, hb⟩ i (by show j.val ≤ i.val - d; omega) (by show i.val - d ≤ i.val; omega) hs
      exact (h ⟨i.val - d, hb⟩ c).mp (h2 ⟨i.val - d, hb⟩ (by show i.val - d + d = i.val; omega) (e1.trans hs)) j
        (by show j.val ≤ i.val - d; omega) (by show i.val - d < j.val + d; omega) e1.symm
  · intro hh
    refine ⟨fun j hj hd hs => hh j hj (by omega) hs, fun j hj hs => (h j c).mpr fun j' hj' hd' hs' => ?_⟩
    have h3 : j'.val ≤ j.val := hj'
    exact hh j' (by show j'.val ≤ i.val; omega) (by omega) (hs'.trans hs)

/-- A level doubles the reach of an upward scan. -/
theorem Up.step {d e : ℕ} {seg : Fin m → β} {s cur cur' : Fin m → EReal} (hseg : Consec seg) (h : Up d seg s cur)
    (h' : StepUp d seg cur cur') (he : e = d + d) : Up e seg s cur' := fun i c => by
  subst he
  rw [h' i c, h i c]
  constructor
  · rintro ⟨h1, h2⟩ j hj hd hs
    have hj' : i.val ≤ j.val := hj
    by_cases hlt : j.val < i.val + d
    · exact h1 j hj hlt hs
    · have hb : i.val + d < m := by omega
      have e1 : seg ⟨i.val + d, hb⟩ = seg i := hseg i ⟨i.val + d, hb⟩ j (by show i.val ≤ i.val + d; omega) (by show i.val + d ≤ j.val; omega) hs.symm
      exact (h ⟨i.val + d, hb⟩ c).mp (h2 ⟨i.val + d, hb⟩ rfl e1) j
        (by show i.val + d ≤ j.val; omega) (by show j.val < i.val + d + d; omega) (hs.trans e1.symm)
  · intro hh
    refine ⟨fun j hj hd hs => hh j hj (by omega) hs, fun j hj hs => (h j c).mpr fun j' hj' hd' hs' => ?_⟩
    have h3 : j.val ≤ j'.val := hj'
    exact hh j' (by show i.val ≤ j'.val; omega) (by omega) (hs'.trans hs)

/-- A downward scan whose reach is the whole array. -/
theorem Dn.all {d : ℕ} {seg : Fin m → β} {s cur : Fin m → EReal} (h : Dn d seg s cur) (hd : m ≤ d) (i : Fin m) (c : EReal) :
    cur i ≤ c ↔ ∀ j : Fin m, j ≤ i → seg j = seg i → s j ≤ c :=
  (h i c).trans ⟨fun h j h1 h2 => h j h1 (by omega) h2, fun h j h1 _ h2 => h j h1 h2⟩

/-- An upward scan whose reach is the whole array. -/
theorem Up.all {d : ℕ} {seg : Fin m → β} {s cur : Fin m → EReal} (h : Up d seg s cur) (hd : m ≤ d) (i : Fin m) (c : EReal) :
    cur i ≤ c ↔ ∀ j : Fin m, i ≤ j → seg j = seg i → s j ≤ c :=
  (h i c).trans ⟨fun h j h1 h2 => h j h1 (by omega) h2, fun h j h1 _ h2 => h j h1 h2⟩

end Cert.Scan
-- ==== Proof.Math.Shift.lean ====
/- The vector operations of a scan level read at an index: rows moved down or up with a pad, a column spread over lanes,
   and the levels themselves in their two forms (by selection and by an additive mask). -/
module

public import proofs.«01_k».proof.Proof.Math.Scan
public import Idealize.ShloMosaic.Lib.Pointwise

@[expose] public section

noncomputable section

namespace Cert.Scan

open Idealize.ShloMosaic

section Shift
variable {α : Type} {m w : ℕ}

/-- The rows moved down by `d`, the pad above them. -/
def shDn (m w d r : ℕ) (pad : α) (x : (⟨2, ![m, w]⟩ : Shape).Idx → α)
    (hs : (⟨2, ![m, w]⟩ : Shape).Slices ![0, 0] ⟨2, ![r, w]⟩)
    (hc : Shape.Concatenates [⟨2, ![d, w]⟩, ⟨2, ![r, w]⟩] ⟨2, ![m, w]⟩ 0) : (⟨2, ![m, w]⟩ : Shape).Idx → α :=
  concatenate ⟨2, ![m, w]⟩ 0 [⟨⟨2, ![d, w]⟩, broadcast ⟨2, ![d, w]⟩ pad⟩, ⟨⟨2, ![r, w]⟩, extractStridedSlice ⟨2, ![r, w]⟩ ![0, 0] x hs⟩] hc

/-- The rows moved up by `d`, the pad below them. -/
def shUp (m w d r : ℕ) (pad : α) (x : (⟨2, ![m, w]⟩ : Shape).Idx → α)
    (hs : (⟨2, ![m, w]⟩ : Shape).Slices ![d, 0] ⟨2, ![r, w]⟩)
    (hc : Shape.Concatenates [⟨2, ![r, w]⟩, ⟨2, ![d, w]⟩] ⟨2, ![m, w]⟩ 0) : (⟨2, ![m, w]⟩ : Shape).Idx → α :=
  concatenate ⟨2, ![m, w]⟩ 0 [⟨⟨2, ![r, w]⟩, extractStridedSlice ⟨2, ![r, w]⟩ ![d, 0] x hs⟩, ⟨⟨2, ![d, w]⟩, broadcast ⟨2, ![d, w]⟩ pad⟩] hc

variable {d r : ℕ} {pad : α} {x : (⟨2, ![m, w]⟩ : Shape).Idx → α}

theorem shDn_pad {hs hc} (i : Fin m) (k : Fin w) (h : i.val < d) : shDn m w d r pad x hs hc (ix2 i k) = pad := by
  unfold shDn
  exact concatenate_pair_apply_left (t := ⟨2, ![m, w]⟩) (0 : Fin 2) _ _ hc (ix2 i k) rfl (ix2 ⟨i.val, h⟩ k)
    (fun b => match b with | ⟨0, _⟩ => rfl | ⟨1, _⟩ => rfl)

theorem shDn_row {hs hc} (i j : Fin m) (k : Fin w) (h : j.val + d = i.val) : shDn m w d r pad x hs hc (ix2 i k) = x (ix2 j k) := by
  unfold shDn
  have hr : d + (r + 0) = m := hc.2.2
  refine (concatenate_pair_apply_right (t := ⟨2, ![m, w]⟩) (0 : Fin 2) _ _ hc (ix2 i k) rfl rfl (ix2 ⟨j.val, by omega⟩ k)
    (fun b hb => match b, hb with | ⟨0, _⟩, hb => absurd rfl hb | ⟨1, _⟩, _ => rfl) h).trans ?_
  exact extractStridedSlice_apply _ x hs _ (ix2 j k) (fun a => match a with
    | ⟨0, _⟩ => (Nat.zero_add _).symm | ⟨1, _⟩ => (Nat.zero_add _).symm)

theorem shUp_pad {hs hc} (i : Fin m) (k : Fin w) (h : m ≤ i.val + d) : shUp m w d r pad x hs hc (ix2 i k) = pad := by
  unfold shUp
  have hr : r + (d + 0) = m := hc.2.2
  exact concatenate_pair_apply_right (t := ⟨2, ![m, w]⟩) (0 : Fin 2) _ _ hc (ix2 i k) rfl rfl (ix2 ⟨i.val - r, by omega⟩ k)
    (fun b hb => match b, hb with | ⟨0, _⟩, hb => absurd rfl hb | ⟨1, _⟩, _ => rfl) (by show i.val - r + r = i.val; omega)

theorem shUp_row {hs hc} (i j : Fin m) (k : Fin w) (h : i.val + d = j.val) : shUp m w d r pad x hs hc (ix2 i k) = x (ix2 j k) := by
  unfold shUp
  have hr : r + (d + 0) = m := hc.2.2
  refine (concatenate_pair_apply_left (t := ⟨2, ![m, w]⟩) (0 : Fin 2) _ _ hc (ix2 i k) rfl (ix2 ⟨i.val, by omega⟩ k)
    (fun b => match b with | ⟨0, _⟩ => rfl | ⟨1, _⟩ => rfl)).trans ?_
  exact extractStridedSlice_apply _ x hs _ (ix2 j k) (fun a => match a with
    | ⟨0, _⟩ => by show j.val = d + i.val; omega | ⟨1, _⟩ => (Nat.zero_add _).symm)

/-- A column spread over the lanes. -/
theorem spread_apply {x : (⟨2, ![m, 1]⟩ : Shape).Idx → α} (h : (⟨2, ![m, 1]⟩ : Shape).ShapeCasts ⟨2, ![m, 1]⟩)
    (hb : (⟨2, ![m, 1]⟩ : Shape).Broadcasts ⟨2, ![m, w]⟩) (i : Fin m) (k : Fin w) :
    broadcastTo ⟨2, ![m, w]⟩ (shapeCast ⟨2, ![m, 1]⟩ x h) hb (ix2 i k) = x (ix2 i 0) := by
  rw [shapeCast_self]
  refine broadcastTo_apply x hb (ix2 i k) (ix2 i 0) fun a => match a with
    | ⟨0, _⟩ => ?_ | ⟨1, _⟩ => rfl
  show i.val = if m = 1 then 0 else i.val
  split
  · omega
  · rfl

end Shift

/-- A comparison of equality is the one-bit truth value. -/
theorem cmpi_eq_one {s : Shape} {w : ℕ} (a b : IVec s w) (i : s.Idx) : cmpi .eq a b i = 1#1 ↔ a i = b i := by
  show BitVec.ofBool (a i == b i) = 1#1 ↔ _
  by_cases h : a i = b i
  · simp [h]
  · rw [show (a i == b i) = false from beq_eq_false_iff_ne.mpr h]; simp [h]

/-- A selection by a one-bit truth value. -/
theorem select_pos {s : Shape} {α : Type} (c : IVec s 1) (a b : s.Idx → α) (i : s.Idx) (h : c i = 1#1) : select c a b i = a i := by
  rw [ValueIdx.select_apply, h]; rfl
theorem select_neg {s : Shape} {α : Type} (c : IVec s 1) (a b : s.Idx → α) (i : s.Idx) (h : ¬ c i = 1#1) : select c a b i = b i := by
  rw [ValueIdx.select_apply]
  have : c i = 0#1 := by have := (c i).isLt; apply BitVec.eq_of_toNat_eq; have h2 : (c i).toNat ≠ 1 := fun e => h (BitVec.eq_of_toNat_eq e); show (c i).toNat = 0; omega
  rw [this]; rfl

section Levels
variable {m w d r : ℕ}

/-- A level by selection, downward. -/
def lvDn (m w d r : ℕ) (none : BitVec 32) (bot : EReal) (seg : IVec ⟨2, ![m, 1]⟩ 32) (cur : FVec Ideal ⟨2, ![m, w]⟩ .f32)
    (hs1 : (⟨2, ![m, 1]⟩ : Shape).Slices ![0, 0] ⟨2, ![r, 1]⟩) (hc1 : Shape.Concatenates [⟨2, ![d, 1]⟩, ⟨2, ![r, 1]⟩] ⟨2, ![m, 1]⟩ 0)
    (hs : (⟨2, ![m, w]⟩ : Shape).Slices ![0, 0] ⟨2, ![r, w]⟩) (hc : Shape.Concatenates [⟨2, ![d, w]⟩, ⟨2, ![r, w]⟩] ⟨2, ![m, w]⟩ 0)
    (h : (⟨2, ![m, 1]⟩ : Shape).ShapeCasts ⟨2, ![m, 1]⟩) (hb : (⟨2, ![m, 1]⟩ : Shape).Broadcasts ⟨2, ![m, w]⟩) :
    FVec Ideal ⟨2, ![m, w]⟩ .f32 :=
  select (broadcastTo ⟨2, ![m, w]⟩ (shapeCast ⟨2, ![m, 1]⟩ (cmpi .eq (shDn m 1 d r none seg hs1 hc1) seg) h) hb)
    (maximumf cur (shDn m w d r (bot : Ideal .f32) cur hs hc)) cur

/-- A level by selection, upward. -/
def lvUp (m w d r : ℕ) (none : BitVec 32) (bot : EReal) (seg : IVec ⟨2, ![m, 1]⟩ 32) (cur : FVec Ideal ⟨2, ![m, w]⟩ .f32)
    (hs1 : (⟨2, ![m, 1]⟩ : Shape).Slices ![d, 0] ⟨2, ![r, 1]⟩) (hc1 : Shape.Concatenates [⟨2, ![r, 1]⟩, ⟨2, ![d, 1]⟩] ⟨2, ![m, 1]⟩ 0)
    (hs : (⟨2, ![m, w]⟩ : Shape).Slices ![d, 0] ⟨2, ![r, w]⟩) (hc : Shape.Concatenates [⟨2, ![r, w]⟩, ⟨2, ![d, w]⟩] ⟨2, ![m, w]⟩ 0)
    (h : (⟨2, ![m, 1]⟩ : Shape).ShapeCasts ⟨2, ![m, 1]⟩) (hb : (⟨2, ![m, 1]⟩ : Shape).Broadcasts ⟨2, ![m, w]⟩) :
    FVec Ideal ⟨2, ![m, w]⟩ .f32 :=
  select (broadcastTo ⟨2, ![m, w]⟩ (shapeCast ⟨2, ![m, 1]⟩ (cmpi .eq (shUp m 1 d r none seg hs1 hc1) seg) h) hb)
    (maximumf cur (shUp m w d r (bot : Ideal .f32) cur hs hc)) cur

theorem lvDn_step {none : BitVec 32} {bot : EReal} (hbot : bot = ⊥) (seg : IVec ⟨2, ![m, 1]⟩ 32) (cur : FVec Ideal ⟨2, ![m, w]⟩ .f32)
    {hs1 hc1 hs hc h hb} (k : Fin w) :
    StepDn d (fun i => seg (ix2 i 0)) (fun i => cur (ix2 i k)) (fun i => lvDn m w d r none bot seg cur hs1 hc1 hs hc h hb (ix2 i k)) := by
  subst hbot
  intro i c
  show lvDn m w d r none ⊥ seg cur hs1 hc1 hs hc h hb (ix2 i k) ≤ c ↔ _
  unfold lvDn
  by_cases hp : cmpi .eq (shDn m 1 d r none seg hs1 hc1) seg (ix2 i 0) = 1#1
  · rw [select_pos _ _ _ _ ((spread_apply h hb i k).trans hp), ValueIdx.maximumf_apply]
    rw [cmpi_eq_one] at hp
    show max (cur (ix2 i k)) _ ≤ c ↔ _
    rw [max_le_iff]
    refine and_congr_right fun _ => ?_
    by_cases hd : i.val < d
    · rw [shDn_pad (x := cur) (pad := (⊥ : EReal)) i k hd]
      exact ⟨fun _ j hj _ => absurd hj (by omega), fun _ => bot_le⟩
    · rw [shDn_row (x := cur) (pad := (⊥ : EReal)) i ⟨i.val - d, by omega⟩ k (by show i.val - d + d = i.val; omega)]
      rw [shDn_row (x := seg) i ⟨i.val - d, by omega⟩ 0 (by show i.val - d + d = i.val; omega)] at hp
      refine ⟨fun hle j hj hs => ?_, fun hh => hh _ (by show i.val - d + d = i.val; omega) hp⟩
      have e : (⟨i.val - d, by omega⟩ : Fin m) = j := Fin.ext (by show i.val - d = j.val; omega)
      rw [e] at hle; exact hle
  · rw [select_neg _ _ _ _ (by rw [spread_apply h hb i k]; exact hp)]
    rw [cmpi_eq_one] at hp
    refine ⟨fun hle => ⟨hle, fun j hj hs => absurd ?_ hp⟩, fun hh => hh.1⟩
    rw [shDn_row (x := seg) i j 0 hj]; exact hs

theorem lvUp_step {none : BitVec 32} {bot : EReal} (hbot : bot = ⊥) (seg : IVec ⟨2, ![m, 1]⟩ 32) (cur : FVec Ideal ⟨2, ![m, w]⟩ .f32)
    {hs1 hc1 hs hc h hb} (k : Fin w) :
    StepUp d (fun i => seg (ix2 i 0)) (fun i => cur (ix2 i k)) (fun i => lvUp m w d r none bot seg cur hs1 hc1 hs hc h hb (ix2 i k)) := by
  subst hbot
  intro i c
  show lvUp m w d r none ⊥ seg cur hs1 hc1 hs hc h hb (ix2 i k) ≤ c ↔ _
  unfold lvUp
  by_cases hp : cmpi .eq (shUp m 1 d r none seg hs1 hc1) seg (ix2 i 0) = 1#1
  · rw [select_pos _ _ _ _ ((spread_apply h hb i k).trans hp), ValueIdx.maximumf_apply]
    rw [cmpi_eq_one] at hp
    show max (cur (ix2 i k)) _ ≤ c ↔ _
    rw [max_le_iff]
    refine and_congr_right fun _ => ?_
    by_cases hd : m ≤ i.val + d
    · rw [shUp_pad (x := cur) (pad := (⊥ : EReal)) i k hd]
      exact ⟨fun _ j hj _ => absurd hj (by omega), fun _ => bot_le⟩
    · rw [shUp_row (x := cur) (pad := (⊥ : EReal)) i ⟨i.val + d, by omega⟩ k rfl]
      rw [shUp_row (x := seg) i ⟨i.val + d, by omega⟩ 0 rfl] at hp
      refine ⟨fun hle j hj hs => ?_, fun hh => hh _ rfl hp⟩
      have e : (⟨i.val + d, by omega⟩ : Fin m) = j := Fin.ext hj
      rw [e] at hle; exact hle
  · rw [select_neg _ _ _ _ (by rw [spread_apply h hb i k]; exact hp)]
    rw [cmpi_eq_one] at hp
    refine ⟨fun hle => ⟨hle, fun j hj hs => absurd ?_ hp⟩, fun hh => hh.1⟩
    rw [shUp_row (x := seg) i j 0 hj]; exact hs

end Levels

section Masks
variable {m d r : ℕ}

/-- The additive mask of a level: zero where the row `d` above lies in the same segment, minus infinity elsewhere. -/
def mask (m d r : ℕ) (none : BitVec 32) (zero bot : EReal) (seg : IVec ⟨2, ![m, 1]⟩ 32)
    (hs1 : (⟨2, ![m, 1]⟩ : Shape).Slices ![0, 0] ⟨2, ![r, 1]⟩) (hc1 : Shape.Concatenates [⟨2, ![d, 1]⟩, ⟨2, ![r, 1]⟩] ⟨2, ![m, 1]⟩ 0)
    (hlt : FTy.bf16.bits < FTy.f32.bits) : FVec Ideal ⟨2, ![m, 1]⟩ .bf16 :=
  truncf .bf16 (select (cmpi .eq seg (shDn m 1 d r none seg hs1 hc1)) (broadcast ⟨2, ![m, 1]⟩ (zero : Ideal .f32))
    (broadcast ⟨2, ![m, 1]⟩ (bot : Ideal .f32))) hlt

theorem mask_pos {none : BitVec 32} {zero bot : EReal} {seg : IVec ⟨2, ![m, 1]⟩ 32} {hs1 hc1 hlt} (i j : Fin m) (h : j.val + d = i.val)
    (hs : seg (ix2 j 0) = seg (ix2 i 0)) : mask m d r none zero bot seg hs1 hc1 hlt (ix2 i 0) = zero := by
  unfold mask
  rw [ValueIdx.truncf_apply, select_pos _ _ _ _ ((cmpi_eq_one _ _ _).mpr (by rw [shDn_row i j 0 h]; exact hs.symm))]
  rfl
theorem mask_neg {none : BitVec 32} {zero bot : EReal} {seg : IVec ⟨2, ![m, 1]⟩ 32} {hs1 hc1 hlt} (i j : Fin m) (h : j.val + d = i.val)
    (hs : seg (ix2 j 0) ≠ seg (ix2 i 0)) : mask m d r none zero bot seg hs1 hc1 hlt (ix2 i 0) = bot := by
  unfold mask
  rw [ValueIdx.truncf_apply, select_neg _ _ _ _ (mt (cmpi_eq_one _ _ _).mp (by rw [shDn_row i j 0 h]; exact hs.symm))]
  rfl

/-- Two columns side by side, each spread over 64 lanes. -/
def wide {α : Type} (m : ℕ) (a b : (⟨2, ![m, 1]⟩ : Shape).Idx → α) (h : (⟨2, ![m, 1]⟩ : Shape).ShapeCasts ⟨2, ![m, 1]⟩)
    (hb : (⟨2, ![m, 1]⟩ : Shape).Broadcasts ⟨2, ![m, 64]⟩)
    (hc : Shape.Concatenates [⟨2, ![m, 64]⟩, ⟨2, ![m, 64]⟩] ⟨2, ![m, 128]⟩ 1) : (⟨2, ![m, 128]⟩ : Shape).Idx → α :=
  concatenate ⟨2, ![m, 128]⟩ 1 [⟨⟨2, ![m, 64]⟩, broadcastTo ⟨2, ![m, 64]⟩ (shapeCast ⟨2, ![m, 1]⟩ a h) hb⟩,
    ⟨⟨2, ![m, 64]⟩, broadcastTo ⟨2, ![m, 64]⟩ (shapeCast ⟨2, ![m, 1]⟩ b h) hb⟩] hc

/-- Two arrays side by side, read in the left half. -/
theorem beside_left {α : Type} {n : ℕ} (a b : (⟨2, ![n, 64]⟩ : Shape).Idx → α)
    (hc : Shape.Concatenates [⟨2, ![n, 64]⟩, ⟨2, ![n, 64]⟩] ⟨2, ![n, 128]⟩ 1) (i : Fin n) (k : Fin 128) (hk : k.val < 64) :
    concatenate ⟨2, ![n, 128]⟩ 1 [⟨⟨2, ![n, 64]⟩, a⟩, ⟨⟨2, ![n, 64]⟩, b⟩] hc (ix2 i k) = a (ix2 i ⟨k.val, hk⟩) :=
  concatenate_pair_apply_left (t := ⟨2, ![n, 128]⟩) (1 : Fin 2) _ _ hc (ix2 i k) rfl (ix2 i ⟨k.val, hk⟩)
    (fun b => match b with | ⟨0, _⟩ => rfl | ⟨1, _⟩ => rfl)

/-- Two arrays side by side, read in the right half. -/
theorem beside_right {α : Type} {n : ℕ} (a b : (⟨2, ![n, 64]⟩ : Shape).Idx → α)
    (hc : Shape.Concatenates [⟨2, ![n, 64]⟩, ⟨2, ![n, 64]⟩] ⟨2, ![n, 128]⟩ 1) (i : Fin n) (k : Fin 128) (hk : ¬ k.val < 64) :
    concatenate ⟨2, ![n, 128]⟩ 1 [⟨⟨2, ![n, 64]⟩, a⟩, ⟨⟨2, ![n, 64]⟩, b⟩] hc (ix2 i k) = b (ix2 i ⟨k.val - 64, by omega⟩) :=
  concatenate_pair_apply_right (t := ⟨2, ![n, 128]⟩) (1 : Fin 2) _ _ hc (ix2 i k) rfl rfl (ix2 i ⟨k.val - 64, by omega⟩)
    (fun b hb => match b, hb with | ⟨0, _⟩, _ => rfl | ⟨1, _⟩, hb => absurd rfl hb) (by show k.val - 64 + 64 = k.val; omega)

theorem wide_apply {α : Type} {a b : (⟨2, ![m, 1]⟩ : Shape).Idx → α} {h hb hc} (i : Fin m) (k : Fin 128) :
    wide m a b h hb hc (ix2 i k) = if k.val < 64 then a (ix2 i 0) else b (ix2 i 0) := by
  unfold wide
  split
  · next hk => rw [beside_left _ _ _ i k hk, spread_apply]
  · next hk => rw [beside_right _ _ _ i k hk, spread_apply]

/-- The segments that lane `k` of two halves side by side goes by. -/
def side (s1 s2 : IVec ⟨2, ![m, 1]⟩ 32) (k : Fin 128) (i : Fin m) : BitVec 32 := if k.val < 64 then s1 (ix2 i 0) else s2 (ix2 i 0)

/-- A level by an additive mask, downward, on two halves side by side. -/
def adDn (m d r : ℕ) (bot : EReal) (a b : FVec Ideal ⟨2, ![m, 1]⟩ .bf16) (cur : FVec Ideal ⟨2, ![m, 128]⟩ .bf16)
    (hs : (⟨2, ![m, 128]⟩ : Shape).Slices ![0, 0] ⟨2, ![r, 128]⟩) (hc : Shape.Concatenates [⟨2, ![d, 128]⟩, ⟨2, ![r, 128]⟩] ⟨2, ![m, 128]⟩ 0)
    (h : (⟨2, ![m, 1]⟩ : Shape).ShapeCasts ⟨2, ![m, 1]⟩)
    (hb : (⟨2, ![m, 1]⟩ : Shape).Broadcasts ⟨2, ![m, 64]⟩)
    (hw : Shape.Concatenates [⟨2, ![m, 64]⟩, ⟨2, ![m, 64]⟩] ⟨2, ![m, 128]⟩ 1) : FVec Ideal ⟨2, ![m, 128]⟩ .bf16 :=
  maximumf cur (addf (shDn m 128 d r (bot : Ideal .bf16) cur hs hc) (wide m a b h hb hw))

/-- A level by an additive mask, upward, on two halves side by side. -/
def adUp (m d r : ℕ) (bot : EReal) (a b : FVec Ideal ⟨2, ![m, 1]⟩ .bf16) (cur : FVec Ideal ⟨2, ![m, 128]⟩ .bf16)
    (hs1 : (⟨2, ![m, 1]⟩ : Shape).Slices ![d, 0] ⟨2, ![r, 1]⟩) (hc1 : Shape.Concatenates [⟨2, ![r, 1]⟩, ⟨2, ![d, 1]⟩] ⟨2, ![m, 1]⟩ 0)
    (hs : (⟨2, ![m, 128]⟩ : Shape).Slices ![d, 0] ⟨2, ![r, 128]⟩) (hc : Shape.Concatenates [⟨2, ![r, 128]⟩, ⟨2, ![d, 128]⟩] ⟨2, ![m, 128]⟩ 0)
    (h : (⟨2, ![m, 1]⟩ : Shape).ShapeCasts ⟨2, ![m, 1]⟩)
    (hb : (⟨2, ![m, 1]⟩ : Shape).Broadcasts ⟨2, ![m, 64]⟩)
    (hw : Shape.Concatenates [⟨2, ![m, 64]⟩, ⟨2, ![m, 64]⟩] ⟨2, ![m, 128]⟩ 1) : FVec Ideal ⟨2, ![m, 128]⟩ .bf16 :=
  maximumf cur (addf (shUp m 128 d r (bot : Ideal .bf16) cur hs hc)
    (wide m (shUp m 1 d r (bot : Ideal .bf16) a hs1 hc1) (shUp m 1 d r (bot : Ideal .bf16) b hs1 hc1) h hb hw))

/-- The masks of the two halves at row `i`, in lane `k`. -/
theorem masks_pos {none : BitVec 32} {zero bot : EReal} {s1 s2 : IVec ⟨2, ![m, 1]⟩ 32} {hs1 hc1 hlt} (k : Fin 128) (i j : Fin m) (h : j.val + d = i.val)
    (hs : side s1 s2 k j = side s1 s2 k i) :
    (if k.val < 64 then mask m d r none zero bot s1 hs1 hc1 hlt (ix2 i 0) else mask m d r none zero bot s2 hs1 hc1 hlt (ix2 i 0)) = zero := by
  unfold side at hs
  split at hs
  · next hk => rw [if_pos hk]; exact mask_pos i j h hs
  · next hk => rw [if_neg hk]; exact mask_pos i j h hs
theorem masks_neg {none : BitVec 32} {zero bot : EReal} {s1 s2 : IVec ⟨2, ![m, 1]⟩ 32} {hs1 hc1 hlt} (k : Fin 128) (i j : Fin m) (h : j.val + d = i.val)
    (hs : side s1 s2 k j ≠ side s1 s2 k i) :
    (if k.val < 64 then mask m d r none zero bot s1 hs1 hc1 hlt (ix2 i 0) else mask m d r none zero bot s2 hs1 hc1 hlt (ix2 i 0)) = bot := by
  unfold side at hs
  by_cases hk : k.val < 64
  · rw [if_pos hk]; rw [if_pos hk, if_pos hk] at hs; exact mask_neg i j h hs
  · rw [if_neg hk]; rw [if_neg hk, if_neg hk] at hs; exact mask_neg i j h hs

theorem adDn_step {none : BitVec 32} {zero bot bot' : EReal} (hz : zero = 0) (hbot : bot = ⊥) (hbot' : bot' = ⊥) (s1 s2 : IVec ⟨2, ![m, 1]⟩ 32)
    (cur : FVec Ideal ⟨2, ![m, 128]⟩ .bf16) {hm1 hm2 hlt hs hc h hb hw} (k : Fin 128) :
    StepDn d (side s1 s2 k) (fun i => cur (ix2 i k))
      (fun i => adDn m d r bot' (mask m d r none zero bot s1 hm1 hm2 hlt) (mask m d r none zero bot s2 hm1 hm2 hlt) cur hs hc h hb hw (ix2 i k)) := by
  subst hz hbot hbot'
  intro i c
  show adDn m d r ⊥ _ _ cur hs hc h hb hw (ix2 i k) ≤ c ↔ _
  unfold adDn
  rw [ValueIdx.maximumf_apply, ValueIdx.addf_apply, wide_apply]
  show max (cur (ix2 i k)) _ ≤ c ↔ _
  rw [max_le_iff]
  refine and_congr_right fun _ => ?_
  by_cases hd : i.val < d
  · rw [shDn_pad (x := cur) (pad := (⊥ : EReal)) i k hd, EReal.bot_add]
    exact ⟨fun _ j hj _ => absurd hj (by omega), fun _ => bot_le⟩
  · have hj : (⟨i.val - d, by omega⟩ : Fin m).val + d = i.val := by show i.val - d + d = i.val; omega
    rw [shDn_row (x := cur) (pad := (⊥ : EReal)) i ⟨i.val - d, by omega⟩ k hj]
    by_cases hs : side s1 s2 k ⟨i.val - d, by omega⟩ = side s1 s2 k i
    · rw [masks_pos k i _ hj hs, add_zero]
      refine ⟨fun hle j hj' _ => ?_, fun hh => hh _ hj hs⟩
      have e : (⟨i.val - d, by omega⟩ : Fin m) = j := Fin.ext (by show i.val - d = j.val; omega)
      rw [e] at hle; exact hle
    · rw [masks_neg k i _ hj hs, EReal.add_bot]
      refine ⟨fun _ j hj' hs' => absurd ?_ hs, fun _ => bot_le⟩
      have e : (⟨i.val - d, by omega⟩ : Fin m) = j := Fin.ext (by show i.val - d = j.val; omega)
      rw [e]; exact hs'

theorem adUp_step {none : BitVec 32} {zero bot bot' : EReal} (hz : zero = 0) (hbot : bot = ⊥) (hbot' : bot' = ⊥) (s1 s2 : IVec ⟨2, ![m, 1]⟩ 32)
    (cur : FVec Ideal ⟨2, ![m, 128]⟩ .bf16) {hm1 hm2 hlt hs1 hc1 hs hc h hb hw} (k : Fin 128) :
    StepUp d (side s1 s2 k) (fun i => cur (ix2 i k))
      (fun i => adUp m d r bot' (mask m d r none zero bot s1 hm1 hm2 hlt) (mask m d r none zero bot s2 hm1 hm2 hlt) cur hs1 hc1 hs hc h hb hw (ix2 i k)) := by
  subst hz hbot hbot'
  intro i c
  show adUp m d r ⊥ _ _ cur hs1 hc1 hs hc h hb hw (ix2 i k) ≤ c ↔ _
  unfold adUp
  rw [ValueIdx.maximumf_apply, ValueIdx.addf_apply, wide_apply]
  show max (cur (ix2 i k)) _ ≤ c ↔ _
  rw [max_le_iff]
  refine and_congr_right fun _ => ?_
  by_cases hd : m ≤ i.val + d
  · rw [shUp_pad (x := cur) (pad := (⊥ : EReal)) i k hd, EReal.bot_add]
    exact ⟨fun _ j hj _ => absurd hj (by omega), fun _ => bot_le⟩
  · have hj : i.val + d = (⟨i.val + d, by omega⟩ : Fin m).val := rfl
    rw [shUp_row (x := cur) (pad := (⊥ : EReal)) i ⟨i.val + d, by omega⟩ k hj]
    rw [shUp_row (x := mask m d r none 0 ⊥ s1 hm1 hm2 hlt) (pad := (⊥ : EReal)) i ⟨i.val + d, by omega⟩ 0 hj]
    rw [shUp_row (x := mask m d r none 0 ⊥ s2 hm1 hm2 hlt) (pad := (⊥ : EReal)) i ⟨i.val + d, by omega⟩ 0 hj]
    by_cases hs : side s1 s2 k i = side s1 s2 k ⟨i.val + d, by omega⟩
    · rw [masks_pos k _ i hj hs, add_zero]
      refine ⟨fun hle j hj' _ => ?_, fun hh => hh _ hj hs.symm⟩
      have e : (⟨i.val + d, by omega⟩ : Fin m) = j := Fin.ext hj'
      rw [e] at hle; exact hle
    · rw [masks_neg k _ i hj hs, EReal.add_bot]
      refine ⟨fun _ j hj' hs' => absurd ?_ hs, fun _ => bot_le⟩
      have e : (⟨i.val + d, by omega⟩ : Fin m) = j := Fin.ext hj'
      rw [e]; exact hs'.symm

end Masks

end Cert.Scan
-- ==== Proof.Value.Scan1.lean ====
/- The second kernel's two scans over the half blocks: each is eleven levels, so each reaches every half block. -/
module

public import proofs.«01_k».proof.Proof.Math.Shift
public import proofs.«01_k».proof.Proof.KernelIdeal.Body1

@[expose] public section

noncomputable section

namespace Cert.KernelIdeal.Gen

open Idealize.ShloMosaic

/-- The named constants' values. -/
theorem neg_bot : Named.named (F := Ideal) κ (φ := .f32) "neg" 0xFF61B1E6#32 = (⊥ : EReal) := by rfl
theorem pos_top : Named.named (F := Ideal) κ (φ := .f32) "pos" 0x7F61B1E6#32 = (⊤ : EReal) := by rfl
theorem neg16_bot : Named.named (F := Ideal) κ (φ := .bf16) "neg" 0xFF62#16 = (⊥ : EReal) := by rfl
theorem zero32 : Scalar.ofBits (F := Ideal) .f32 0x00000000#32 = (0 : EReal) := by
  show Ideal.ofBits .f32 0x00000000#32 = 0
  simp

/-- A level of the second kernel's downward scan. -/
abbrev lvDn1 (d r : ℕ) (seg : IVec S1256x1 32) (cur : FVec Ideal S1256x64 .f32)
    (hs1 : S1256x1.Slices ![0, 0] ⟨2, ![r, 1]⟩) (hc1 : Shape.Concatenates [⟨2, ![d, 1]⟩, ⟨2, ![r, 1]⟩] S1256x1 0)
    (hs : S1256x64.Slices ![0, 0] ⟨2, ![r, 64]⟩) (hc : Shape.Concatenates [⟨2, ![d, 64]⟩, ⟨2, ![r, 64]⟩] S1256x64 0) : FVec Ideal S1256x64 .f32 :=
  Scan.lvDn 1256 64 d r 4294967295#32 (Named.named (F := Ideal) κ (φ := .f32) "neg" 0xFF61B1E6#32) seg cur hs1 hc1 hs hc shapeCasts_S1256x1_S1256x1 broadcasts_S1256x1_S1256x64
/-- A level of the second kernel's upward scan. -/
abbrev lvUp1 (d r : ℕ) (seg : IVec S1256x1 32) (cur : FVec Ideal S1256x64 .f32)
    (hs1 : S1256x1.Slices ![d, 0] ⟨2, ![r, 1]⟩) (hc1 : Shape.Concatenates [⟨2, ![r, 1]⟩, ⟨2, ![d, 1]⟩] S1256x1 0)
    (hs : S1256x64.Slices ![d, 0] ⟨2, ![r, 64]⟩) (hc : Shape.Concatenates [⟨2, ![r, 64]⟩, ⟨2, ![d, 64]⟩] S1256x64 0) : FVec Ideal S1256x64 .f32 :=
  Scan.lvUp 1256 64 d r 4294967295#32 (Named.named (F := Ideal) κ (φ := .f32) "neg" 0xFF61B1E6#32) seg cur hs1 hc1 hs hc shapeCasts_S1256x1_S1256x1 broadcasts_S1256x1_S1256x64

/-- The first four downward levels. -/
theorem levels_k17 (v17 : IVec S1x64 1) (v39 : IVec S1256x1 32) (x9 x10) : k1_pay17 (F := Ideal) v17 v39 (k1_pay12 x10) (k1_pay14 k1_pay9 x9) (k1_pay15 k1_pay9) k1_pay16 =
  (lvDn1 8 1248 v39
    (lvDn1 4 1252 v39
    (lvDn1 2 1254 v39
    (lvDn1 1 1255 v39
    (k1_pay13 v17 k1_pay9 x9 x10)
    slices_S1256x1_o0_0_S1255x1 concatenates_S1x1_S1255x1_S1256x1_d0 slices_S1256x64_o0_0_S1255x64 concatenates_S1x64_S1255x64_S1256x64_d0)
    slices_S1256x1_o0_0_S1254x1 concatenates_S2x1_S1254x1_S1256x1_d0 slices_S1256x64_o0_0_S1254x64 concatenates_S2x64_S1254x64_S1256x64_d0)
    slices_S1256x1_o0_0_S1252x1 concatenates_S4x1_S1252x1_S1256x1_d0 slices_S1256x64_o0_0_S1252x64 concatenates_S4x64_S1252x64_S1256x64_d0)
    slices_S1256x1_o0_0_S1248x1 concatenates_S8x1_S1248x1_S1256x1_d0 slices_S1256x64_o0_0_S1248x64 concatenates_S8x64_S1248x64_S1256x64_d0) := by
  unfold k1_pay17
  rfl
/-- The next four downward levels. -/
theorem levels_k18 (v39 : IVec S1256x1 32) (v121) : k1_pay18 (F := Ideal) v39 v121 4294967295#32 =
  (lvDn1 128 1128 v39
    (lvDn1 64 1192 v39
    (lvDn1 32 1224 v39
    (lvDn1 16 1240 v39
    v121
    slices_S1256x1_o0_0_S1240x1 concatenates_S16x1_S1240x1_S1256x1_d0 slices_S1256x64_o0_0_S1240x64 concatenates_S16x64_S1240x64_S1256x64_d0)
    slices_S1256x1_o0_0_S1224x1 concatenates_S32x1_S1224x1_S1256x1_d0 slices_S1256x64_o0_0_S1224x64 concatenates_S32x64_S1224x64_S1256x64_d0)
    slices_S1256x1_o0_0_S1192x1 concatenates_S64x1_S1192x1_S1256x1_d0 slices_S1256x64_o0_0_S1192x64 concatenates_S64x64_S1192x64_S1256x64_d0)
    slices_S1256x1_o0_0_S1128x1 concatenates_S128x1_S1128x1_S1256x1_d0 slices_S1256x64_o0_0_S1128x64 concatenates_S128x64_S1128x64_S1256x64_d0) := by
  unfold k1_pay18
  rfl
/-- The last three downward levels. -/
theorem levels_k21 (v39 : IVec S1256x1 32) (v121) : k1_pay21 (F := Ideal) v39 v121 (k1_pay19 v39)
    (Scan.shDn 1256 64 256 1000 (Named.named (F := Ideal) κ (φ := .f32) "neg" 0xFF61B1E6#32) v121 slices_S1256x64_o0_0_S1000x64 concatenates_S256x64_S1000x64_S1256x64_d0) =
  (lvDn1 1024 232 v39
    (lvDn1 512 744 v39
    (lvDn1 256 1000 v39
    v121
    slices_S1256x1_o0_0_S1000x1 concatenates_S256x1_S1000x1_S1256x1_d0 slices_S1256x64_o0_0_S1000x64 concatenates_S256x64_S1000x64_S1256x64_d0)
    slices_S1256x1_o0_0_S744x1 concatenates_S512x1_S744x1_S1256x1_d0 slices_S1256x64_o0_0_S744x64 concatenates_S512x64_S744x64_S1256x64_d0)
    slices_S1256x1_o0_0_S232x1 concatenates_S1024x1_S232x1_S1256x1_d0 slices_S1256x64_o0_0_S232x64 concatenates_S1024x64_S232x64_S1256x64_d0) := by
  unfold k1_pay21
  rfl
/-- The first two upward levels. -/
theorem levels_k22 (v39 : IVec S1256x1 32) (v121) : k1_pay22 (F := Ideal) v39 v121 =
  (lvUp1 2 1254 v39
    (lvUp1 1 1255 v39
    v121
    slices_S1256x1_o1_0_S1255x1 concatenates_S1255x1_S1x1_S1256x1_d0 slices_S1256x64_o1_0_S1255x64 concatenates_S1255x64_S1x64_S1256x64_d0)
    slices_S1256x1_o2_0_S1254x1 concatenates_S1254x1_S2x1_S1256x1_d0 slices_S1256x64_o2_0_S1254x64 concatenates_S1254x64_S2x64_S1256x64_d0) := by
  unfold k1_pay22
  rfl
/-- The next four upward levels. -/
theorem levels_k24 (v39 : IVec S1256x1 32) (v121) : k1_pay24 (F := Ideal) v39 v121 (k1_pay23 v39) =
  (lvUp1 32 1224 v39
    (lvUp1 16 1240 v39
    (lvUp1 8 1248 v39
    (lvUp1 4 1252 v39
    v121
    slices_S1256x1_o4_0_S1252x1 concatenates_S1252x1_S4x1_S1256x1_d0 slices_S1256x64_o4_0_S1252x64 concatenates_S1252x64_S4x64_S1256x64_d0)
    slices_S1256x1_o8_0_S1248x1 concatenates_S1248x1_S8x1_S1256x1_d0 slices_S1256x64_o8_0_S1248x64 concatenates_S1248x64_S8x64_S1256x64_d0)
    slices_S1256x1_o16_0_S1240x1 concatenates_S1240x1_S16x1_S1256x1_d0 slices_S1256x64_o16_0_S1240x64 concatenates_S1240x64_S16x64_S1256x64_d0)
    slices_S1256x1_o32_0_S1224x1 concatenates_S1224x1_S32x1_S1256x1_d0 slices_S1256x64_o32_0_S1224x64 concatenates_S1224x64_S32x64_S1256x64_d0) := by
  unfold k1_pay24
  rfl
/-- The last five upward levels. -/
theorem levels_k27 (v39 : IVec S1256x1 32) (v121) : k1_pay27 (F := Ideal) v39 v121 (maximumf v121 (Scan.shUp 1256 64 64 1192 (Named.named (F := Ideal) κ (φ := .f32) "neg" 0xFF61B1E6#32) v121 slices_S1256x64_o64_0_S1192x64 concatenates_S1192x64_S64x64_S1256x64_d0)) (k1_pay26 v39) =
  (lvUp1 1024 232 v39
    (lvUp1 512 744 v39
    (lvUp1 256 1000 v39
    (lvUp1 128 1128 v39
    (lvUp1 64 1192 v39
    v121
    slices_S1256x1_o64_0_S1192x1 concatenates_S1192x1_S64x1_S1256x1_d0 slices_S1256x64_o64_0_S1192x64 concatenates_S1192x64_S64x64_S1256x64_d0)
    slices_S1256x1_o128_0_S1128x1 concatenates_S1128x1_S128x1_S1256x1_d0 slices_S1256x64_o128_0_S1128x64 concatenates_S1128x64_S128x64_S1256x64_d0)
    slices_S1256x1_o256_0_S1000x1 concatenates_S1000x1_S256x1_S1256x1_d0 slices_S1256x64_o256_0_S1000x64 concatenates_S1000x64_S256x64_S1256x64_d0)
    slices_S1256x1_o512_0_S744x1 concatenates_S744x1_S512x1_S1256x1_d0 slices_S1256x64_o512_0_S744x64 concatenates_S744x64_S512x64_S1256x64_d0)
    slices_S1256x1_o1024_0_S232x1 concatenates_S232x1_S1024x1_S1256x1_d0 slices_S1256x64_o1024_0_S232x64 concatenates_S232x64_S1024x64_S1256x64_d0) := by
  unfold k1_pay27
  rfl

/-- What precedes and follows each half block starts from: its partial maximum in lane `k` (from the maximum or from the
    minimum, by the scale's sign), minus infinity for the padding. -/
abbrev base1 (x1 x2 x3 : Vec Ideal S1x64 .f32) (xmax xmin : Vec Ideal S1256x1x64 .f32) : FVec Ideal S1256x64 .f32 :=
  k1_pay13 (k1_pay5 x1 x2 x3) k1_pay9 xmax xmin

/-- The reach after the first four downward levels. -/
theorem reach_k17 (v17 : IVec S1x64 1) (seg : IVec S1256x1 32) (hseg : Scan.Consec (fun i : Fin 1256 => seg (ix2 i 0))) (k : Fin 64) (x9 x10) :
    Scan.Dn 16 (fun i : Fin 1256 => seg (ix2 i 0)) (fun i => k1_pay13 (F := Ideal) v17 k1_pay9 x9 x10 (ix2 i k))
      (fun i => k1_pay17 (F := Ideal) v17 seg (k1_pay12 x10) (k1_pay14 k1_pay9 x9) (k1_pay15 k1_pay9) k1_pay16 (ix2 i k)) := by
  rw [levels_k17]
  refine Scan.Dn.step (d := 8) hseg ?_ (Scan.lvDn_step neg_bot seg _ k) rfl
  refine Scan.Dn.step (d := 4) hseg ?_ (Scan.lvDn_step neg_bot seg _ k) rfl
  refine Scan.Dn.step (d := 2) hseg ?_ (Scan.lvDn_step neg_bot seg _ k) rfl
  refine Scan.Dn.step (d := 1) hseg ?_ (Scan.lvDn_step neg_bot seg _ k) rfl
  exact Scan.Dn.one _ _

/-- The reach after the next four downward levels. -/
theorem reach_k18 (seg : IVec S1256x1 32) (hseg : Scan.Consec (fun i : Fin 1256 => seg (ix2 i 0))) (k : Fin 64) (s : Fin 1256 → EReal) (v : FVec Ideal S1256x64 .f32)
    (h : Scan.Dn 16 (fun i : Fin 1256 => seg (ix2 i 0)) s (fun i => v (ix2 i k))) :
    Scan.Dn 256 (fun i : Fin 1256 => seg (ix2 i 0)) s (fun i => k1_pay18 (F := Ideal) seg v 4294967295#32 (ix2 i k)) := by
  rw [levels_k18]
  refine Scan.Dn.step (d := 128) hseg ?_ (Scan.lvDn_step neg_bot seg _ k) rfl
  refine Scan.Dn.step (d := 64) hseg ?_ (Scan.lvDn_step neg_bot seg _ k) rfl
  refine Scan.Dn.step (d := 32) hseg ?_ (Scan.lvDn_step neg_bot seg _ k) rfl
  refine Scan.Dn.step (d := 16) hseg ?_ (Scan.lvDn_step neg_bot seg _ k) rfl
  exact h

/-- The reach after the last three downward levels. -/
theorem reach_k21 (seg : IVec S1256x1 32) (hseg : Scan.Consec (fun i : Fin 1256 => seg (ix2 i 0))) (k : Fin 64) (s : Fin 1256 → EReal) (v : FVec Ideal S1256x64 .f32)
    (h : Scan.Dn 256 (fun i : Fin 1256 => seg (ix2 i 0)) s (fun i => v (ix2 i k))) :
    Scan.Dn 2048 (fun i : Fin 1256 => seg (ix2 i 0)) s (fun i => k1_pay21 (F := Ideal) seg v (k1_pay19 seg) (Scan.shDn 1256 64 256 1000 (Named.named (F := Ideal) κ (φ := .f32) "neg" 0xFF61B1E6#32) v slices_S1256x64_o0_0_S1000x64 concatenates_S256x64_S1000x64_S1256x64_d0) (ix2 i k)) := by
  rw [levels_k21]
  refine Scan.Dn.step (d := 1024) hseg ?_ (Scan.lvDn_step neg_bot seg _ k) rfl
  refine Scan.Dn.step (d := 512) hseg ?_ (Scan.lvDn_step neg_bot seg _ k) rfl
  refine Scan.Dn.step (d := 256) hseg ?_ (Scan.lvDn_step neg_bot seg _ k) rfl
  exact h

/-- The reach after the first two upward levels. -/
theorem reach_k22 (seg : IVec S1256x1 32) (hseg : Scan.Consec (fun i : Fin 1256 => seg (ix2 i 0))) (k : Fin 64) (s : Fin 1256 → EReal) (v : FVec Ideal S1256x64 .f32)
    (h : Scan.Up 1 (fun i : Fin 1256 => seg (ix2 i 0)) s (fun i => v (ix2 i k))) :
    Scan.Up 4 (fun i : Fin 1256 => seg (ix2 i 0)) s (fun i => k1_pay22 (F := Ideal) seg v (ix2 i k)) := by
  rw [levels_k22]
  refine Scan.Up.step (d := 2) hseg ?_ (Scan.lvUp_step neg_bot seg _ k) rfl
  refine Scan.Up.step (d := 1) hseg ?_ (Scan.lvUp_step neg_bot seg _ k) rfl
  exact h

/-- The reach after the next four upward levels. -/
theorem reach_k24 (seg : IVec S1256x1 32) (hseg : Scan.Consec (fun i : Fin 1256 => seg (ix2 i 0))) (k : Fin 64) (s : Fin 1256 → EReal) (v : FVec Ideal S1256x64 .f32)
    (h : Scan.Up 4 (fun i : Fin 1256 => seg (ix2 i 0)) s (fun i => v (ix2 i k))) :
    Scan.Up 64 (fun i : Fin 1256 => seg (ix2 i 0)) s (fun i => k1_pay24 (F := Ideal) seg v (k1_pay23 seg) (ix2 i k)) := by
  rw [levels_k24]
  refine Scan.Up.step (d := 32) hseg ?_ (Scan.lvUp_step neg_bot seg _ k) rfl
  refine Scan.Up.step (d := 16) hseg ?_ (Scan.lvUp_step neg_bot seg _ k) rfl
  refine Scan.Up.step (d := 8) hseg ?_ (Scan.lvUp_step neg_bot seg _ k) rfl
  refine Scan.Up.step (d := 4) hseg ?_ (Scan.lvUp_step neg_bot seg _ k) rfl
  exact h

/-- The reach after the last five upward levels. -/
theorem reach_k27 (seg : IVec S1256x1 32) (hseg : Scan.Consec (fun i : Fin 1256 => seg (ix2 i 0))) (k : Fin 64) (s : Fin 1256 → EReal) (v : FVec Ideal S1256x64 .f32)
    (h : Scan.Up 64 (fun i : Fin 1256 => seg (ix2 i 0)) s (fun i => v (ix2 i k))) :
    Scan.Up 2048 (fun i : Fin 1256 => seg (ix2 i 0)) s (fun i => k1_pay27 (F := Ideal) seg v (maximumf v (Scan.shUp 1256 64 64 1192 (Named.named (F := Ideal) κ (φ := .f32) "neg" 0xFF61B1E6#32) v slices_S1256x64_o64_0_S1192x64 concatenates_S1192x64_S64x64_S1256x64_d0)) (k1_pay26 seg) (ix2 i k)) := by
  rw [levels_k27]
  refine Scan.Up.step (d := 1024) hseg ?_ (Scan.lvUp_step neg_bot seg _ k) rfl
  refine Scan.Up.step (d := 512) hseg ?_ (Scan.lvUp_step neg_bot seg _ k) rfl
  refine Scan.Up.step (d := 256) hseg ?_ (Scan.lvUp_step neg_bot seg _ k) rfl
  refine Scan.Up.step (d := 128) hseg ?_ (Scan.lvUp_step neg_bot seg _ k) rfl
  refine Scan.Up.step (d := 64) hseg ?_ (Scan.lvUp_step neg_bot seg _ k) rfl
  exact h

/-- The downward scan reaches every half block above. -/
theorem down1_scan (x1 x2 x3 : Vec Ideal S1x64 .f32) (x6 : Vec Ideal S1256x1 .i32) (x9 x10 : Vec Ideal S1256x1x64 .f32)
    (hseg : Scan.Consec (fun i : Fin 1256 => segL1 x6 (ix2 i 0))) (k : Fin 64) :
    Scan.Dn 2048 (fun i : Fin 1256 => segL1 x6 (ix2 i 0)) (fun i => base1 x1 x2 x3 x9 x10 (ix2 i k))
      (fun i => down1 x1 x2 x3 x6 x9 x10 (ix2 i k)) :=
  reach_k21 _ hseg k _ _ (reach_k18 _ hseg k _ _ (reach_k17 _ _ hseg k _ _))

/-- The upward scan reaches every half block below. -/
theorem up1_scan (x1 x2 x3 : Vec Ideal S1x64 .f32) (x5 : Vec Ideal S1256x1 .i32) (x7 x8 : Vec Ideal S1256x1x64 .f32)
    (hseg : Scan.Consec (fun i : Fin 1256 => segF1 x5 (ix2 i 0))) (k : Fin 64) :
    Scan.Up 2048 (fun i : Fin 1256 => segF1 x5 (ix2 i 0)) (fun i => base1 x1 x2 x3 x7 x8 (ix2 i k))
      (fun i => up1 x1 x2 x3 x5 x7 x8 (ix2 i k)) :=
  reach_k27 _ hseg k _ _ (reach_k24 _ hseg k _ _ (reach_k22 _ hseg k _ _ (Scan.Up.one _ _)))

end Cert.KernelIdeal.Gen
-- ==== Proof.Math.Consts.lean ====
/- The constants the two programs name, as extended reals. -/
module

public import Idealize.ShloMosaic.Lib.Pointwise

@[expose] public section

noncomputable section

namespace Cert.Consts

open Idealize.ShloMosaic

theorem zero : Ideal.ofBits .f32 0x00000000#32 = 0 := by simp
theorem negInf : Ideal.ofBits .f32 0xFF800000#32 = ⊥ := by simp [Ideal.ofBits, Ideal.ieee]
theorem posInf : Ideal.ofBits .f32 0x7F800000#32 = ⊤ := by simp [Ideal.ofBits, Ideal.ieee]
theorem one : Ideal.ofBits .f32 0x3F800000#32 = ((1 : ℝ) : EReal) := by
  simp [Ideal.ofBits, Ideal.ieee]
  norm_num [← EReal.coe_mul]
theorem negOne : Ideal.ofBits .f32 0xBF800000#32 = ((-1 : ℝ) : EReal) := by
  simp [Ideal.ofBits, Ideal.ieee]
  norm_num [← EReal.coe_mul]
/-- The number of points. -/
theorem count : Ideal.ofBits .f32 0x489C4000#32 = ((320000 : ℝ) : EReal) := by
  simp [Ideal.ofBits, Ideal.ieee]
  norm_num [← EReal.coe_mul]
/-- What is added to the variance is a positive real. -/
theorem eps : ∃ e : ℝ, 0 < e ∧ Ideal.ofBits .f32 0x3A83126F#32 = (e : EReal) := by
  refine ⟨(8589935 : ℝ) * (1 / 8589934592), by positivity, ?_⟩
  simp [Ideal.ofBits, Ideal.ieee]
  norm_num [← EReal.coe_mul]

end Cert.Consts
-- ==== Proof.Value.Block0.lean ====
/- The first kernel's block, read at an index: the product it stores, the sums that it adds up, and the maximum and the
   minimum over the rows of each half that lie in the segment of the half's first or last row. -/
module

public import proofs.«01_k».proof.Proof.Value.Scan1
public import proofs.«01_k».proof.Proof.KernelIdeal.Body0
public import proofs.«01_k».proof.Proof.Math.Consts
public import Idealize.ShloMosaic.Lib.Pointwise
public import Idealize.ShloMosaic.Lib.MatmulPlain

@[expose] public section

noncomputable section

namespace Cert.KernelIdeal.Gen

open Idealize.ShloMosaic

/-- Row `i` of half `b` of a block. -/
def rk (b : Fin 2) (i : Fin 256) : Fin 512 := ⟨256 * b.val + i.val, by omega⟩

/-- The maximum over the rows where the mask is set. -/
def maxOver (m : IVec S256x1 1) (x : FVec Ideal S256x64 .f32) : FVec Ideal S1x1x64 .f32 :=
  shapeCast S1x1x64 (shapeCast S1x64 (multiReduction .maximumf [0] S64 (select (broadcastTo S256x64 (shapeCast S256x1 m shapeCasts_S256x1_S256x1) broadcasts_S256x1_S256x64) x
    (broadcast S256x64 (Named.named (F := Ideal) κ (φ := .f32) "neg" 0xFF61B1E6#32))) 0xFF800000#32 reduces_S256x64_S64 (.inl rfl) rfl) shapeCasts_S64_S1x64) shapeCasts_S1x64_S1x1x64

/-- The rows where the mask is set, the others at the neutral "pos". -/
def minRows (m : IVec S256x1 1) (x : FVec Ideal S256x64 .f32) : FVec Ideal S256x64 .f32 :=
  select (broadcastTo S256x64 (shapeCast S256x1 m shapeCasts_S256x1_S256x1) broadcasts_S256x1_S256x64) x
    (broadcast S256x64 (Named.named (F := Ideal) κ (φ := .f32) "pos" 0x7F61B1E6#32))

/-- The minimum over the rows where the mask is set. -/
def minOver (m : IVec S256x1 1) (x : FVec Ideal S256x64 .f32) : FVec Ideal S1x1x64 .f32 := k0_pay1 (minRows m x)

theorem cast3 (x : FVec Ideal S64 .f32) (k : Fin 64) :
    shapeCast S1x1x64 (shapeCast S1x64 x shapeCasts_S64_S1x64) shapeCasts_S1x64_S1x1x64 (ix3 0 0 k) = x (ix1 k) := by
  pointwise

theorem lift_rows (hr : S256x64.Reduces [0] S64) (k : Fin 64) (i : Fin 256) : hr.lift (ix1 k) i = ix2 i k := by
  funext a
  match a with
  | ⟨0, _⟩ => rfl
  | ⟨1, _⟩ => rfl

theorem masked_pos {m : IVec S256x1 1} {x y : FVec Ideal S256x64 .f32} (i : Fin 256) (k : Fin 64) (h : m (ix2 i 0) = 1#1) :
    select (broadcastTo S256x64 (shapeCast S256x1 m shapeCasts_S256x1_S256x1) broadcasts_S256x1_S256x64) x y (ix2 i k) = x (ix2 i k) :=
  Scan.select_pos _ _ _ _ ((Scan.spread_apply _ _ i k).trans h)
theorem masked_neg {m : IVec S256x1 1} {x y : FVec Ideal S256x64 .f32} (i : Fin 256) (k : Fin 64) (h : ¬ m (ix2 i 0) = 1#1) :
    select (broadcastTo S256x64 (shapeCast S256x1 m shapeCasts_S256x1_S256x1) broadcasts_S256x1_S256x64) x y (ix2 i k) = y (ix2 i k) :=
  Scan.select_neg _ _ _ _ (fun e => h ((Scan.spread_apply _ _ i k).symm.trans e))

theorem maxOver_le (m : IVec S256x1 1) (x : FVec Ideal S256x64 .f32) (k : Fin 64) (c : EReal) :
    maxOver m x (ix3 0 0 k) ≤ c ↔ ∀ i : Fin 256, m (ix2 i 0) = 1#1 → x (ix2 i k) ≤ c := by
  unfold maxOver
  rw [cast3]
  refine (iff_of_eq (congrArg (· ≤ c) (Ideal.multiReduction_maximumf_single _ _ reduces_S256x64_S64 (.inl rfl) rfl (ix1 k)))).trans ?_
  rw [Finset.fold_max_le]
  have hb : (FloatOps.ofBits .f32 0xFF800000#32 : Ideal .f32) ≤ c := Consts.negInf.trans_le bot_le
  have hn := neg_bot
  constructor
  · rintro ⟨_, h⟩ i hi
    have := h i (Finset.mem_univ _)
    rw [← masked_pos (x := x) i k hi (y := (broadcast S256x64 (Named.named (F := Ideal) κ (φ := .f32) "neg" 0xFF61B1E6#32)))]
    exact (congrArg _ (lift_rows reduces_S256x64_S64 k i)).symm.trans_le this
  · refine fun h => ⟨hb, fun (i : Fin 256) _ => ?_⟩
    refine (congrArg (select (broadcastTo S256x64 (shapeCast S256x1 m shapeCasts_S256x1_S256x1) broadcasts_S256x1_S256x64) x
    (broadcast S256x64 (Named.named (F := Ideal) κ (φ := .f32) "neg" 0xFF61B1E6#32))) (lift_rows reduces_S256x64_S64 k i)).trans_le ?_
    by_cases hi : m (ix2 i 0) = 1#1
    · rw [masked_pos i k hi]; exact h i hi
    · rw [masked_neg i k hi]; exact hn.trans_le bot_le

/-- A minimum over one axis, as a fold over that axis's coordinates. -/
theorem min_fold {s t : Shape} {a : Fin s.rank} (src : FVec Ideal s .f32) (acc : BitVec 32)
    (h : s.Reduces [a] t) (hφ : FKind.Formats .f32) (hacc : acc = FKind.minimumf.neutral .f32 hφ) (j : t.Idx) :
    multiReduction .minimumf [a] t src acc h hφ hacc j
      = (Finset.univ : Finset (Fin (s.size a))).fold (min : EReal → EReal → EReal) (Ideal.ofBits .f32 acc) (src ∘ h.lift j) := by
  have hcomm : Std.Commutative (FloatOps.minimumf (F := Ideal) (φ := .f32)) := inferInstanceAs (Std.Commutative (min : EReal → EReal → EReal))
  have hassoc : Std.Associative (FloatOps.minimumf (F := Ideal) (φ := .f32)) := inferInstanceAs (Std.Associative (min : EReal → EReal → EReal))
  rw [multiReduction_minimumf_eq_fold]
  exact h.fold_filter_drop_single _ _ src j

theorem le_minOver (m : IVec S256x1 1) (x : FVec Ideal S256x64 .f32) (k : Fin 64) (c : EReal) :
    c ≤ minOver m x (ix3 0 0 k) ↔ ∀ i : Fin 256, m (ix2 i 0) = 1#1 → c ≤ x (ix2 i k) := by
  unfold minOver k0_pay1
  rw [cast3]
  refine (iff_of_eq (congrArg (c ≤ ·) (min_fold (minRows m x) _ reduces_S256x64_S64 (.inl rfl) rfl (ix1 k)))).trans ?_
  refine (Finset.le_fold_min (f := (minRows m x ∘ reduces_S256x64_S64.lift (ix1 k))) (b := Ideal.ofBits .f32 0x7F800000#32) (s := Finset.univ) c).trans ?_
  have hb : c ≤ Ideal.ofBits .f32 0x7F800000#32 := le_top.trans_eq Consts.posInf.symm
  have hn := pos_top
  unfold minRows
  constructor
  · rintro ⟨_, h⟩ i hi
    have := h i (Finset.mem_univ _)
    rw [← masked_pos (x := x) i k hi (y := (broadcast S256x64 (Named.named (F := Ideal) κ (φ := .f32) "pos" 0x7F61B1E6#32)))]
    exact this.trans_eq (congrArg _ (lift_rows reduces_S256x64_S64 k i))
  · refine fun h => ⟨hb, fun (i : Fin 256) _ => ?_⟩
    refine le_of_le_of_eq ?_ (congrArg (select (broadcastTo S256x64 (shapeCast S256x1 m shapeCasts_S256x1_S256x1) broadcasts_S256x1_S256x64) x
    (broadcast S256x64 (Named.named (F := Ideal) κ (φ := .f32) "pos" 0x7F61B1E6#32))) (lift_rows reduces_S256x64_S64 k i)).symm
    by_cases hi : m (ix2 i 0) = 1#1
    · rw [masked_pos i k hi]; exact h i hi
    · rw [masked_neg i k hi]; exact le_top.trans_eq hn.symm

section
variable (v : Vec Ideal S512x64 .f32) (s : Vec Ideal S512x1 .i32)

theorem x_lo (i : Fin 256) (k : Fin 64) : k0_pay8 v (ix2 i k) = v (ix2 (rk 0 i) k) := by
  unfold k0_pay8
  exact extractStridedSlice_apply _ v slices_S512x64_o0_0_S256x64 _ _ (fun a => match a with
    | ⟨0, _⟩ => (by show 256 * 0 + i.val = 0 + i.val; omega) | ⟨1, _⟩ => (by show k.val = 0 + k.val; omega))
theorem x_hi (i : Fin 256) (k : Fin 64) : k0_pay17 v (ix2 i k) = v (ix2 (rk 1 i) k) := by
  unfold k0_pay17
  exact extractStridedSlice_apply _ v slices_S512x64_o256_0_S256x64 _ _ (fun a => match a with
    | ⟨0, _⟩ => rfl | ⟨1, _⟩ => (by show k.val = 0 + k.val; omega))
theorem s_lo (i : Fin 256) : k0_pay9 s (ix2 i 0) = s (ix2 (rk 0 i) 0) := by
  unfold k0_pay9 k0_pay5
  refine (extractStridedSlice_apply _ _ slices_S512x1_o0_0_S256x1 _ (ix2 (rk 0 i) (0 : Fin 1)) (fun a => match a with
    | ⟨0, _⟩ => (by show 256 * 0 + i.val = 0 + i.val; omega) | ⟨1, _⟩ => rfl)).trans ?_
  exact congrFun (shapeCast_self s shapeCasts_S512x1_S512x1) _
theorem s_hi (i : Fin 256) : k0_pay18 (k0_pay5 s) (ix2 i 0) = s (ix2 (rk 1 i) 0) := by
  unfold k0_pay18 k0_pay5
  refine (extractStridedSlice_apply _ _ slices_S512x1_o256_0_S256x1 _ (ix2 (rk 1 i) (0 : Fin 1)) (fun a => match a with
    | ⟨0, _⟩ => rfl | ⟨1, _⟩ => rfl)).trans ?_
  exact congrFun (shapeCast_self s shapeCasts_S512x1_S512x1) _

/-- A row spread over all of them. -/
theorem row0 (x : IVec S256x1 32) (i : Fin 256) : broadcastTo S256x1 (extractStridedSlice S1x1 ![0, 0] x slices_S256x1_o0_0_S1x1) broadcasts_S1x1_S256x1 (ix2 i 0) = x (ix2 0 0) := by
  pointwise
theorem row255 (x : IVec S256x1 32) (i : Fin 256) : broadcastTo S256x1 (extractStridedSlice S1x1 ![255, 0] x slices_S256x1_o255_0_S1x1) broadcasts_S1x1_S256x1 (ix2 i 0) = x (ix2 255 0) := by
  pointwise

theorem m10 (i : Fin 256) : k0_pay10 s (ix2 i 0) = 1#1 ↔ s (ix2 (rk 0 i) 0) = s (ix2 (rk 0 0) 0) := by
  unfold k0_pay10
  exact (Scan.cmpi_eq_one _ _ _).trans (by rw [row0, s_lo, s_lo])
theorem m12 (i : Fin 256) : k0_pay12 (k0_pay9 s) (k0_pay11 s) (ix2 i 0) = 1#1 ↔ s (ix2 (rk 0 i) 0) = s (ix2 (rk 0 255) 0) := by
  unfold k0_pay12 k0_pay11
  exact (Scan.cmpi_eq_one _ _ _).trans (by rw [row255, s_lo, s_lo])
theorem m19 (i : Fin 256) : k0_pay19 (k0_pay5 s) (ix2 i 0) = 1#1 ↔ s (ix2 (rk 1 i) 0) = s (ix2 (rk 1 0) 0) := by
  unfold k0_pay19
  exact (Scan.cmpi_eq_one _ _ _).trans (by rw [row0, s_hi, s_hi])
theorem m20 (i : Fin 256) : k0_pay20 (k0_pay5 s) (ix2 i 0) = 1#1 ↔ s (ix2 (rk 1 i) 0) = s (ix2 (rk 1 255) 0) := by
  unfold k0_pay20
  exact (Scan.cmpi_eq_one _ _ _).trans (by rw [row255, s_hi, s_hi])

/-- A (2,1,64) buffer of two pieces, read at an index. -/
theorem two_pieces (p q : Vec Ideal S1x1x64 .f32) (b : Fin 2) (k : Fin 64) :
    View.canon (Val := Elt Ideal) ([⟨hi0, p⟩, ⟨lo0, q⟩] : List (View.Piece (Elt Ideal) S2x1x64 .f32)) (ix3 b 0 k) = if b = 1 then p (ix3 0 0 k) else q (ix3 0 0 k) := by
  have e1 : (ix3 1 0 k : S2x1x64.Idx) = hi0.emb (ix3 0 0 k) := by
    funext a
    refine Fin.ext ?_
    rw [Rect.emb_apply]
    match a with
    | ⟨0, _⟩ => rfl
    | ⟨1, _⟩ => rfl
    | ⟨2, _⟩ => show k.val = 0 + 1 * k.val; omega
  have e0 : (ix3 0 0 k : S2x1x64.Idx) = lo0.emb (ix3 0 0 k) := by
    funext a
    refine Fin.ext ?_
    rw [Rect.emb_apply]
    match a with
    | ⟨0, _⟩ => rfl
    | ⟨1, _⟩ => rfl
    | ⟨2, _⟩ => show k.val = 0 + 1 * k.val; omega
  obtain rfl | rfl : b = 1 ∨ b = 0 := by omega
  · rw [if_pos rfl]
    exact (congrArg _ e1).trans (View.canon_cons_emb hi0 p _ _)
  · rw [if_neg (by decide)]
    refine (View.canon_cons_of_not_mem _ _ ?_).trans ((congrArg _ e0).trans (View.canon_cons_emb lo0 q _ _))
    rw [Rect.mem_set_unit]
    intro h
    exact absurd (h 0).1 (by show ¬ (1 ≤ 0); omega)

/-- The four buffers of a block, half by half. -/
theorem pmax0_le (b : Fin 2) (k : Fin 64) (c : EReal) : pmax0 v s (ix3 b 0 k) ≤ c ↔
    ∀ i : Fin 256, s (ix2 (rk b i) 0) = s (ix2 (rk b 0) 0) → v (ix2 (rk b i) k) ≤ c := by
  unfold pmax0
  rw [two_pieces]
  obtain rfl | rfl : b = 1 ∨ b = 0 := by omega
  · rw [if_pos rfl, show k0_pay21 v (k0_pay5 s) = maxOver (k0_pay19 (k0_pay5 s)) (k0_pay17 v) from by unfold k0_pay21; rfl, maxOver_le]
    exact forall_congr' fun i => by rw [m19, x_hi]
  · rw [if_neg (by decide), show k0_pay13 (k0_pay8 v) (k0_pay10 s) = maxOver (k0_pay10 s) (k0_pay8 v) from by unfold k0_pay13; rfl, maxOver_le]
    exact forall_congr' fun i => by rw [m10, x_lo]
theorem smax0_le (b : Fin 2) (k : Fin 64) (c : EReal) : smax0 v s (ix3 b 0 k) ≤ c ↔
    ∀ i : Fin 256, s (ix2 (rk b i) 0) = s (ix2 (rk b 255) 0) → v (ix2 (rk b i) k) ≤ c := by
  unfold smax0
  rw [two_pieces]
  obtain rfl | rfl : b = 1 ∨ b = 0 := by omega
  · rw [if_pos rfl, show k0_pay23 v (k0_pay5 s) = maxOver (k0_pay20 (k0_pay5 s)) (k0_pay17 v) from by unfold k0_pay23; rfl, maxOver_le]
    exact forall_congr' fun i => by rw [m20, x_hi]
  · rw [if_neg (by decide), show k0_pay15 (k0_pay8 v) (k0_pay9 s) (k0_pay11 s) = maxOver (k0_pay12 (k0_pay9 s) (k0_pay11 s)) (k0_pay8 v) from by unfold k0_pay15; rfl, maxOver_le]
    exact forall_congr' fun i => by rw [m12, x_lo]
theorem le_pmin0 (b : Fin 2) (k : Fin 64) (c : EReal) : c ≤ pmin0 v s (ix3 b 0 k) ↔
    ∀ i : Fin 256, s (ix2 (rk b i) 0) = s (ix2 (rk b 0) 0) → c ≤ v (ix2 (rk b i) k) := by
  unfold pmin0
  rw [two_pieces]
  obtain rfl | rfl : b = 1 ∨ b = 0 := by omega
  · rw [if_pos rfl, show k0_pay22 v (k0_pay5 s) = minOver (k0_pay19 (k0_pay5 s)) (k0_pay17 v) from by unfold k0_pay22; rfl, le_minOver]
    exact forall_congr' fun i => by rw [m19, x_hi]
  · rw [if_neg (by decide), show k0_pay14 (k0_pay8 v) (k0_pay10 s) = minOver (k0_pay10 s) (k0_pay8 v) from by unfold k0_pay14; rfl, le_minOver]
    exact forall_congr' fun i => by rw [m10, x_lo]
theorem le_smin0 (b : Fin 2) (k : Fin 64) (c : EReal) : c ≤ smin0 v s (ix3 b 0 k) ↔
    ∀ i : Fin 256, s (ix2 (rk b i) 0) = s (ix2 (rk b 255) 0) → c ≤ v (ix2 (rk b i) k) := by
  unfold smin0
  rw [two_pieces]
  obtain rfl | rfl : b = 1 ∨ b = 0 := by omega
  · rw [if_pos rfl, show k0_pay1 (k0_pay24 v (k0_pay5 s)) = minOver (k0_pay20 (k0_pay5 s)) (k0_pay17 v) from by unfold k0_pay24; rfl, le_minOver]
    exact forall_congr' fun i => by rw [m20, x_hi]
  · rw [if_neg (by decide), show k0_pay16 (k0_pay8 v) (k0_pay9 s) (k0_pay11 s) = minOver (k0_pay12 (k0_pay9 s) (k0_pay11 s)) (k0_pay8 v) from by unfold k0_pay16; rfl, le_minOver]
    exact forall_congr' fun i => by rw [m12, x_lo]

end

/-- The block's product. -/
theorem pay4_apply (x : Vec Ideal S512x128 .f32) (w : Vec Ideal S128x64 .f32) (r : Fin 512) (k : Fin 64) :
    k0_pay4 x w (ix2 r k) = ∑ j : Fin 128, x (ix2 r j) * w (ix2 j k) := by
  unfold k0_pay4
  rw [shapeCast_self, shapeCast_self]
  refine (Ideal.matmul_plain_apply none x w (constant S512x64 .f32 0x00000000#32) r k).trans ?_
  exact (congrArg (· + _) Consts.zero).trans (zero_add _)

theorem colsum (x : FVec Ideal S512x64 .f32) (k : Fin 64) :
    shapeCast S1x64 (multiReduction .add [0] S64 x 0x00000000#32 reduces_S512x64_S64 (.inl rfl) rfl) shapeCasts_S64_S1x64 (ix2 0 k) = ∑ r : Fin 512, x (ix2 r k) := by
  have h : ∀ y : FVec Ideal S64 .f32, shapeCast S1x64 y shapeCasts_S64_S1x64 (ix2 0 k) = y (ix1 k) := fun y => by pointwise
  rw [h]
  refine (Ideal.multiReduction_add_single x _ reduces_S512x64_S64 (.inl rfl) rfl (ix1 k)).trans ?_
  refine Finset.sum_congr rfl fun (r : Fin 512) _ => congrArg x ?_
  funext a
  match a with
  | ⟨0, _⟩ => rfl
  | ⟨1, _⟩ => rfl

/-- A block's column sums, added to what is there. -/
theorem pay6_apply (v : Vec Ideal S512x64 .f32) (a : Vec Ideal S1x64 .f32) (k : Fin 64) :
    k0_pay6 v a (ix2 0 k) = a (ix2 0 k) + ∑ r : Fin 512, v (ix2 r k) := by
  unfold k0_pay6
  rw [ValueIdx.addf_apply, shapeCast_self, colsum]
theorem pay7_apply (v : Vec Ideal S512x64 .f32) (a : Vec Ideal S1x64 .f32) (k : Fin 64) :
    k0_pay7 v a (ix2 0 k) = a (ix2 0 k) + ∑ r : Fin 512, v (ix2 r k) * v (ix2 r k) := by
  unfold k0_pay7
  rw [ValueIdx.addf_apply, shapeCast_self, colsum]
  rfl

end Cert.KernelIdeal.Gen
-- ==== Proof.Value.Array0.lean ====
/- The first kernel's arrays, read at an index: the blocks that it fetches, the two sums over all rows, and for each run
   of 256 rows the maximum and minimum over the rows in the segment of the run's first or last row. -/
module

public import proofs.«01_k».proof.Proof.Value.Block0
public import proofs.«01_k».proof.Proof.KernelIdeal.Region0
public import Idealize.ShloMosaic.Lib.Pipeline.ValueKit
public import Idealize.ShloMosaic.Lib.Pipeline.ValueKit.Partial

@[expose] public section

noncomputable section

namespace Cert.KernelIdeal.Gen

open Idealize.ShloMosaic Idealize.ShloMosaic.TcCoe
open Idealize.ShloMosaic.Pipeline (Dat)

/-- Row `i` of run `q`: the rows are cut into 1250 runs of 256. -/
def hrow (q : Fin 1250) (i : Fin 256) : Fin 320000 := ⟨256 * q.val + i.val, by omega⟩

/-- Row `r` of block `t`: the rows are cut into 625 blocks of 512. -/
def brow (t : Fin 625) (r : Fin 512) : Fin 320000 := ⟨512 * t.val + r.val, by omega⟩

/-- Half `b` of block `t` is a run. -/
def half (t : Fin 625) (b : Fin 2) : Fin 1250 := ⟨2 * t.val + b.val, by omega⟩

theorem brow_rk (t : Fin 625) (b : Fin 2) (i : Fin 256) : brow t (rk b i) = hrow (half t b) i := by
  refine Fin.ext ?_; simp only [brow, rk, hrow, half]; omega

/-- A product's value: row `p` of `x` times column `k` of `w`. -/
def dot (x : Vec Ideal S320000x128 .f32) (w : Vec Ideal S128x64 .f32) (p : Fin 320000) (k : Fin 64) : EReal :=
  ∑ j : Fin 128, x (ix2 p j) * w (ix2 j k)

theorem idx0_0 : ∀ t : Fin cfg0.N, win0_0.index t = ![min t.val 624, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![t.val - 1, 0] := (by decide +kernel : ∀ t : Fin grid0.N, _)
theorem idx0_5 : ∀ t : Fin cfg0.N, win0_5.index t = ![t.val - 1, 0, 0] := (by decide +kernel : ∀ t : Fin grid0.N, _)
theorem idx0_6 : ∀ t : Fin cfg0.N, win0_6.index t = ![t.val - 1, 0, 0] := (by decide +kernel : ∀ t : Fin grid0.N, _)
theorem idx0_7 : ∀ t : Fin cfg0.N, win0_7.index t = ![t.val - 1, 0, 0] := (by decide +kernel : ∀ t : Fin grid0.N, _)
theorem idx0_8 : ∀ t : Fin cfg0.N, win0_8.index t = ![t.val - 1, 0, 0] := (by decide +kernel : ∀ t : Fin grid0.N, _)

variable (V : (c : Dev nD) → (b : Ref sig .tc) → Buf (Elt Ideal) ((c : Thread nD τ).loc b)) (c : Dev nD)

/-- The rows that point `t` fetches. -/
theorem iblk0_0_apply (t : Fin cfg0.N) (u : Fin 625) (hu : u.val = min t.val 624) (r : Fin 512) (j : Fin 128) :
    iblk0 V c 0 t (ix2 r j) = V c main_arg0 (ix2 (brow u r) j) := by
  blk_simp [iblk0]
  refine congrArg (V c main_arg0) ?_
  blk_ext [idx0_0]
  show _ = 512 * u.val + r.val
  omega

/-- The matrix that every point fetches. -/
theorem iblk0_1_apply (t : Fin cfg0.N) (j : Fin 128) (k : Fin 64) :
    iblk0 V c 1 t (ix2 j k) = V c main_v7 (ix2 j k) := by
  blk_simp [iblk0]
  refine congrArg (V c main_v7) ?_
  blk_ext [idx0_1]

/-- The segment numbers that point `t` fetches: those of the block before. -/
theorem iblk0_2_apply (t : Fin cfg0.N) (u : Fin 625) (hu : u.val = t.val - 1) (r : Fin 512) :
    iblk0 V c 2 t (ix2 r 0) = V c main_v0 (ix2 (brow u r) 0) := by
  blk_simp [iblk0]
  refine congrArg (V c main_v0) ?_
  blk_ext [idx0_2]
  show _ = 512 * u.val + r.val
  omega

/-- The product that point `t` stores. -/
theorem xblk0_apply (t : Fin cfg0.N) (u : Fin 625) (hu : u.val = min t.val 624) (r : Fin 512) (k : Fin 64) :
    xblk0 V c t (ix2 r k) = dot (V c main_arg0) (V c main_v7) (brow u r) k := by
  unfold xblk0
  rw [pay4_apply]
  exact Finset.sum_congr rfl fun j _ => congrArg₂ _ (iblk0_0_apply V c t u hu r j) (iblk0_1_apply V c t j k)

/-- Segment number of row `p`. -/
abbrev sg (p : Fin 320000) : BitVec 32 := V c main_v0 (ix2 p 0)

/-- Product at row `p`, column `k`. -/
abbrev xv (p : Fin 320000) (k : Fin 64) : EReal := dot (V c main_arg0) (V c main_v7) p k

/-- Every row of run `q` that lies in the segment of the run's row `a` has a product at most `x`. -/
def Below (a : Fin 256) (q : Fin 1250) (k : Fin 64) (x : EReal) : Prop :=
  ∀ i : Fin 256, sg V c (hrow q i) = sg V c (hrow q a) → xv V c (hrow q i) k ≤ x

/-- Every row of run `q` that lies in the segment of the run's row `a` has a product at least `x`. -/
def Above (a : Fin 256) (q : Fin 1250) (k : Fin 64) (x : EReal) : Prop :=
  ∀ i : Fin 256, sg V c (hrow q i) = sg V c (hrow q a) → x ≤ xv V c (hrow q i) k

section point

variable (t : Fin cfg0.N) (u : Fin 625) (hu : u.val = t.val - 1) (b : Fin 2) (k : Fin 64) (x : EReal)

include hu

/-- The two blocks that a point combines, at a row of a half. -/
theorem half0 (i : Fin 256) : iblk0 V c 2 t (ix2 (rk b i) 0) = sg V c (hrow (half u b) i)
    ∧ xblk0 V c (prev0 t) (ix2 (rk b i) k) = xv V c (hrow (half u b) i) k := by
  rw [iblk0_2_apply V c t u hu, xblk0_apply V c (prev0 t) u (by show _ = min (t.val - 1) 624; omega), brow_rk]
  exact ⟨rfl, rfl⟩

theorem point0_5 : pmax0 (xblk0 V c (prev0 t)) (iblk0 V c 2 t) (ix3 b 0 k) ≤ x ↔ Below V c 0 (half u b) k x := by
  refine (pmax0_le _ _ b k x).trans (forall_congr' fun i => ?_)
  rw [(half0 V c t u hu b k i).1, (half0 V c t u hu b k 0).1, (half0 V c t u hu b k i).2]

theorem point0_6 : x ≤ pmin0 (xblk0 V c (prev0 t)) (iblk0 V c 2 t) (ix3 b 0 k) ↔ Above V c 0 (half u b) k x := by
  refine (le_pmin0 _ _ b k x).trans (forall_congr' fun i => ?_)
  rw [(half0 V c t u hu b k i).1, (half0 V c t u hu b k 0).1, (half0 V c t u hu b k i).2]

theorem point0_7 : smax0 (xblk0 V c (prev0 t)) (iblk0 V c 2 t) (ix3 b 0 k) ≤ x ↔ Below V c 255 (half u b) k x := by
  refine (smax0_le _ _ b k x).trans (forall_congr' fun i => ?_)
  rw [(half0 V c t u hu b k i).1, (half0 V c t u hu b k 255).1, (half0 V c t u hu b k i).2]

theorem point0_8 : x ≤ smin0 (xblk0 V c (prev0 t)) (iblk0 V c 2 t) (ix3 b 0 k) ↔ Above V c 255 (half u b) k x := by
  refine (le_smin0 _ _ b k x).trans (forall_congr' fun i => ?_)
  rw [(half0 V c t u hu b k i).1, (half0 V c t u hu b k 255).1, (half0 V c t u hu b k i).2]

end point

/-- A run's place in the arrays of 1256 rows. -/
def pl (q : Fin 1250) : Fin 1256 := ⟨q.val, by omega⟩

/-- An index of a two-row block, and the run that it names. -/
theorem place0 (t : Fin cfg0.N) (y : S2x1x64.Idx) (q : Fin 1250) (k : Fin 64)
    (h1 : (t.val - 1) * 2 + (y 0).val = q.val) (h2 : (y 2).val = k.val) :
    ∃ (u : Fin 625) (b : Fin 2), u.val = t.val - 1 ∧ y = ix3 b 0 k ∧ q = half u b := by
  have ht : t.val < 626 := t.isLt
  refine ⟨⟨t.val - 1, by omega⟩, y 0, rfl, ?_, Fin.ext ?_⟩
  · rw [show k = y 2 from Fin.ext h2.symm]
    funext a
    match a with
    | ⟨0, _⟩ => rfl
    | ⟨1, _⟩ => exact Subsingleton.elim (α := Fin 1) _ _
    | ⟨2, _⟩ => rfl
  · show q.val = 2 * (t.val - 1) + (y 0).val
    omega

/-- An element of an array of runs is the largest product in the segment of the run's row `a`, runs only. -/
def MaxAt (a : Fin 256) (j : S1256x1x64.Idx) (v : EReal) : Prop :=
  ∀ (q : Fin 1250) (k : Fin 64), (j 0).val = q.val → (j 2).val = k.val → ∀ x, v ≤ x ↔ Below V c a q k x

/-- An element of an array of runs is the smallest product in the segment of the run's row `a`, runs only. -/
def MinAt (a : Fin 256) (j : S1256x1x64.Idx) (v : EReal) : Prop :=
  ∀ (q : Fin 1250) (k : Fin 64), (j 0).val = q.val → (j 2).val = k.val → ∀ x, x ≤ v ↔ Above V c a q k x

theorem max_first (j : S1256x1x64.Idx) : MaxAt V c 0 j ((dat0 V c).arrAt 5 cfg0.N j) := by
  refine (dat0 V c).arrAt_forall_of_coversWhere 5 (MaxAt V c 0) (fun β => β 0 < 625) (by decide +kernel)
    (fun t hf y q k h1 h2 x => ?_) (fun j hj q k h1 h2 => ?_) j
  · blk_simp [idx0_5] at h1 h2 ⊢
    rw [after0_5]
    obtain ⟨u, b, hu, rfl, rfl⟩ := place0 t y q k h1 h2
    exact point0_5 V c t u hu b k x
  · have e : (j 0).val = q.val := h1
    exact (hj (show (j 0).val / 2 < 625 by have := q.isLt; omega)).elim

theorem min_first (j : S1256x1x64.Idx) : MinAt V c 0 j ((dat0 V c).arrAt 6 cfg0.N j) := by
  refine (dat0 V c).arrAt_forall_of_coversWhere 6 (MinAt V c 0) (fun β => β 0 < 625) (by decide +kernel)
    (fun t hf y q k h1 h2 x => ?_) (fun j hj q k h1 h2 => ?_) j
  · blk_simp [idx0_6] at h1 h2 ⊢
    rw [after0_6]
    obtain ⟨u, b, hu, rfl, rfl⟩ := place0 t y q k h1 h2
    exact point0_6 V c t u hu b k x
  · have e : (j 0).val = q.val := h1
    exact (hj (show (j 0).val / 2 < 625 by have := q.isLt; omega)).elim

theorem max_last (j : S1256x1x64.Idx) : MaxAt V c 255 j ((dat0 V c).arrAt 7 cfg0.N j) := by
  refine (dat0 V c).arrAt_forall_of_coversWhere 7 (MaxAt V c 255) (fun β => β 0 < 625) (by decide +kernel)
    (fun t hf y q k h1 h2 x => ?_) (fun j hj q k h1 h2 => ?_) j
  · blk_simp [idx0_7] at h1 h2 ⊢
    rw [after0_7]
    obtain ⟨u, b, hu, rfl, rfl⟩ := place0 t y q k h1 h2
    exact point0_7 V c t u hu b k x
  · have e : (j 0).val = q.val := h1
    exact (hj (show (j 0).val / 2 < 625 by have := q.isLt; omega)).elim

theorem min_last (j : S1256x1x64.Idx) : MinAt V c 255 j ((dat0 V c).arrAt 8 cfg0.N j) := by
  refine (dat0 V c).arrAt_forall_of_coversWhere 8 (MinAt V c 255) (fun β => β 0 < 625) (by decide +kernel)
    (fun t hf y q k h1 h2 x => ?_) (fun j hj q k h1 h2 => ?_) j
  · blk_simp [idx0_8] at h1 h2 ⊢
    rw [after0_8]
    obtain ⟨u, b, hu, rfl, rfl⟩ := place0 t y q k h1 h2
    exact point0_8 V c t u hu b k x
  · have e : (j 0).val = q.val := h1
    exact (hj (show (j 0).val / 2 < 625 by have := q.isLt; omega)).elim

/-- The accumulated sum after `n` points: the products of the first `n` blocks. -/
theorem accA0_apply (n : ℕ) (hn : n ≤ 625) (k : Fin 64) :
    accA0 V c n (ix2 0 k) = ∑ t : Fin n, ∑ r : Fin 512, xv V c (brow ⟨t.val, by omega⟩ r) k := by
  induction n with
  | zero => exact Consts.zero
  | succ n ih =>
    rw [Fin.sum_univ_castSucc]
    unfold accA0
    have hN : n < cfg0.N := by show n < 626; omega
    rw [dif_pos hN, pay6_apply, ih (by omega)]
    refine congrArg₂ _ rfl (Finset.sum_congr rfl fun r _ => ?_)
    exact xblk0_apply V c ⟨n, hN⟩ ⟨n, by omega⟩ (by show n = min n 624; omega) r k

/-- The accumulated sum of squares after `n` points. -/
theorem accB0_apply (n : ℕ) (hn : n ≤ 625) (k : Fin 64) :
    accB0 V c n (ix2 0 k) = ∑ t : Fin n, ∑ r : Fin 512, xv V c (brow ⟨t.val, by omega⟩ r) k * xv V c (brow ⟨t.val, by omega⟩ r) k := by
  induction n with
  | zero => exact Consts.zero
  | succ n ih =>
    rw [Fin.sum_univ_castSucc]
    unfold accB0
    have hN : n < cfg0.N := by show n < 626; omega
    rw [dif_pos hN, pay7_apply, ih (by omega)]
    refine congrArg₂ _ rfl (Finset.sum_congr rfl fun r _ => ?_)
    rw [xblk0_apply V c ⟨n, hN⟩ ⟨n, by omega⟩ (by show n = min n 624; omega) r k]
    rfl

/-- A sum over all rows, block by block. -/
theorem sum_rows (f : Fin 320000 → EReal) : ∑ t : Fin 625, ∑ r : Fin 512, f (brow t r) = ∑ p, f p := by
  rw [← Fintype.sum_prod_type']
  refine Fintype.sum_bijective (fun a : Fin 625 × Fin 512 => brow a.1 a.2) ⟨?_, ?_⟩ _ _ fun _ => rfl
  · rintro ⟨t, r⟩ ⟨t', r'⟩ h
    have e : 512 * t.val + r.val = 512 * t'.val + r'.val := congrArg Fin.val h
    exact Prod.ext (Fin.ext (by show t.val = t'.val; omega)) (Fin.ext (by show r.val = r'.val; omega))
  · intro p
    refine ⟨(⟨p.val / 512, by omega⟩, ⟨p.val % 512, by omega⟩), Fin.ext ?_⟩
    show 512 * (p.val / 512) + p.val % 512 = p.val
    omega

/-- The last point, the only one that writes the sums back. -/
abbrev last0 : Fin cfg0.N := ⟨625, by decide⟩

/-- The first array of sums: every column added up over all rows. -/
theorem sum_all (k : Fin 64) : ((dat0 V c).arrAt 3 cfg0.N (ix2 0 k) : EReal) = ∑ p, xv V c p k := by
  refine ((dat0 V c).arrAt_emb_eq_after_last 3 last0 (by decide +kernel) (ix2 0 k)).trans ?_
  blk_simp
  rw [after0_3]
  exact (accA0_apply V c 625 le_rfl k).trans (sum_rows fun p => xv V c p k)

/-- The second array of sums: the squares of every column added up over all rows. -/
theorem sum_squares (k : Fin 64) : ((dat0 V c).arrAt 4 cfg0.N (ix2 0 k) : EReal) = ∑ p, xv V c p k * xv V c p k := by
  refine ((dat0 V c).arrAt_emb_eq_after_last 4 last0 (by decide +kernel) (ix2 0 k)).trans ?_
  blk_simp
  rw [after0_4]
  exact (accB0_apply V c 625 le_rfl k).trans (sum_rows fun p => xv V c p k * xv V c p k)

end Cert.KernelIdeal.Gen
-- ==== Proof.Value.Block1.lean ====
/- The second kernel's results, read at an index: the scale, the shift and the sign of each feature, and for each half
   the maximum over the halves before it (the head) and after it (the tail) that share its first, its last segment. -/
module

public import proofs.«01_k».proof.Proof.Value.Scan1
public import proofs.«01_k».proof.Proof.Math.Consts
public import Idealize.ShloMosaic.Lib.Pointwise

@[expose] public section

noncomputable section

namespace Cert.KernelIdeal.Gen

open Idealize.ShloMosaic

variable (x1 x2 x3 x4 : Vec Ideal S1x64 .f32) (x5 x6 : Vec Ideal S1256x1 .i32) (x7 x8 x9 x10 : Vec Ideal S1256x1x64 .f32)

/-- The mean, -/
theorem mean1_apply (k : Fin 64) : k1_pay3 x1 (ix2 0 k) = Ideal.div (x1 (ix2 0 k)) (Ideal.ofBits .f32 0x489C4000#32) := by
  unfold k1_pay3
  rw [shapeCast_self]
  rfl
/-- the scale, -/
theorem scale1_apply (k : Fin 64) : k1_pay4 x1 x2 x3 (ix2 0 k) = x3 (ix2 0 k) * Ideal.rsqrt (Ideal.div (x2 (ix2 0 k)) (Ideal.ofBits .f32 0x489C4000#32)
    - k1_pay3 x1 (ix2 0 k) * k1_pay3 x1 (ix2 0 k) + Ideal.ofBits .f32 0x3A83126F#32) := by
  unfold k1_pay4
  rw [shapeCast_self, shapeCast_self]
  rfl
/-- whether it is not negative, -/
theorem pos1_iff (k : Fin 64) : k1_pay5 x1 x2 x3 (ix2 0 k) = 1#1 ↔ 0 ≤ k1_pay4 x1 x2 x3 (ix2 0 k) := by
  unfold k1_pay5
  generalize k1_pay4 x1 x2 x3 = y
  rw [ValueIdx.cmpf_apply]
  show BitVec.ofBool (decide (Ideal.ofBits .f32 0x00000000#32 ≤ y (ix2 0 k))) = 1#1 ↔ _
  rw [Consts.zero]
  by_cases h : (0 : EReal) ≤ y (ix2 0 k)
  · simp [h]
  · simp [h]
/-- its sign, -/
theorem sign1_apply (k : Fin 64) : k1_pay6 x1 x2 x3 (ix2 0 k) = if 0 ≤ k1_pay4 x1 x2 x3 (ix2 0 k) then ((1 : ℝ) : EReal) else ((-1 : ℝ) : EReal) := by
  unfold k1_pay6
  split
  · next h => rw [Scan.select_pos _ _ _ _ ((pos1_iff x1 x2 x3 k).mpr h)]; exact Consts.one
  · next h => rw [Scan.select_neg _ _ _ _ (mt (pos1_iff x1 x2 x3 k).mp h)]; exact Consts.negOne
/-- its absolute value, -/
theorem abs1_apply (k : Fin 64) : k1_pay7 x1 x2 x3 (ix2 0 k) = max (k1_pay4 x1 x2 x3 (ix2 0 k)) (-(k1_pay4 x1 x2 x3 (ix2 0 k))) := by
  unfold k1_pay7
  rfl
/-- and the shift. -/
theorem shift1_apply (k : Fin 64) : k1_pay8 x1 x2 x3 x4 (ix2 0 k) = x4 (ix2 0 k) - k1_pay3 x1 (ix2 0 k) * k1_pay4 x1 x2 x3 (ix2 0 k) := by
  unfold k1_pay8
  rw [shapeCast_self]
  rfl

/-- The rows that are halves: the rest is padding. -/
theorem real_iff (q : Fin 1256) : k1_pay9 (ix2 q 0) = 1#1 ↔ q.val < 1250 := by
  have h : ∀ q : Fin 1256, IntOp.cmpi .slt (BitVec.ofNat 32 q.val) 1250#32 = 1#1 ↔ q.val < 1250 := by decide +kernel
  have e : k1_pay9 (ix2 q 0) = IntOp.cmpi .slt (BitVec.ofNat 32 q.val) 1250#32 := by
    unfold k1_pay9
    rw [show ∀ a b : IVec S1256x1 32, cmpi .slt a b (ix2 q 0) = IntOp.cmpi .slt (a (ix2 q 0)) (b (ix2 q 0)) from fun _ _ => rfl]
    pointwise
  rw [e]
  exact h q

theorem segF1_apply (q : Fin 1256) : segF1 x5 (ix2 q 0) = if q.val < 1250 then x5 (ix2 q 0) else 4294967289#32 := by
  unfold segF1 k1_pay10
  rw [shapeCast_self]
  split
  · next h => exact Scan.select_pos _ _ _ _ ((real_iff q).mpr h)
  · next h => exact Scan.select_neg _ _ _ _ (mt (real_iff q).mp h)
theorem segL1_apply (q : Fin 1256) : segL1 x6 (ix2 q 0) = if q.val < 1250 then x6 (ix2 q 0) else 4294967288#32 := by
  unfold segL1 k1_pay11
  rw [shapeCast_self]
  split
  · next h => exact Scan.select_pos _ _ _ _ ((real_iff q).mpr h)
  · next h => exact Scan.select_neg _ _ _ _ (mt (real_iff q).mp h)

/-- What the scans start from: a half's maximum where the scale is not negative, the negated minimum where it is; nothing
    in the padding. -/
theorem base1_le (q : Fin 1256) (k : Fin 64) (c : EReal) : base1 x1 x2 x3 x9 x10 (ix2 q k) ≤ c ↔
    (q.val < 1250 → if 0 ≤ k1_pay4 x1 x2 x3 (ix2 0 k) then x9 (ix3 q 0 k) ≤ c else -c ≤ x10 (ix3 q 0 k)) := by
  unfold base1 k1_pay13
  have hs : broadcastTo S1256x64 (shapeCast S1x64 (k1_pay5 x1 x2 x3) shapeCasts_S1x64_S1x64) broadcasts_S1x64_S1256x64 (ix2 q k) = k1_pay5 x1 x2 x3 (ix2 0 k) := by
    generalize k1_pay5 x1 x2 x3 = y
    pointwise
  have hm : broadcastTo S1256x64 (shapeCast S1256x1 k1_pay9 shapeCasts_S1256x1_S1256x1) broadcasts_S1256x1_S1256x64 (ix2 q k) = k1_pay9 (ix2 q 0) :=
    Scan.spread_apply _ _ q k
  have hx : ∀ x : Vec Ideal S1256x1x64 .f32, shapeCast S1256x64 (shapeCast S1256x1x64 x shapeCasts_S1256x1x64_S1256x1x64) shapeCasts_S1256x1x64_S1256x64 (ix2 q k) = x (ix3 q 0 k) := fun x => by
    pointwise
  by_cases hp : 0 ≤ k1_pay4 x1 x2 x3 (ix2 0 k)
  · rw [Scan.select_pos _ _ _ _ (hs.trans ((pos1_iff x1 x2 x3 k).mpr hp))]
    by_cases hq : q.val < 1250
    · rw [Scan.select_pos _ _ _ _ (hm.trans ((real_iff q).mpr hq)), hx]
      simp [hp, hq]
    · rw [Scan.select_neg _ _ _ _ (fun e => hq ((real_iff q).mp (hm.symm.trans e)))]
      exact ⟨fun _ h => absurd h hq, fun _ => neg_bot.trans_le bot_le⟩
  · rw [Scan.select_neg _ _ _ _ (fun e => hp ((pos1_iff x1 x2 x3 k).mp (hs.symm.trans e))), ValueIdx.subf_apply]
    have hz : (broadcast S1256x64 (Scalar.ofBits (F := Ideal) .f32 0x00000000#32) : FVec Ideal S1256x64 .f32) (ix2 q k) = (0 : EReal) := zero32
    rw [hz]
    by_cases hq : q.val < 1250
    · rw [Scan.select_pos _ _ _ _ (hm.trans ((real_iff q).mpr hq)), hx]
      rw [zero_sub, EReal.neg_le]
      simp [hp, hq]
    · rw [Scan.select_neg _ _ _ _ (fun e => hq ((real_iff q).mp (hm.symm.trans e)))]
      refine ⟨fun _ h => absurd h hq, fun _ => ?_⟩
      rw [zero_sub, EReal.neg_le]
      exact le_top.trans_eq pos_top.symm

theorem cast1 (x : FVec Ideal S1256x64 .f32) (q : Fin 1256) (k : Fin 64) : shapeCast S1256x1x64 x shapeCasts_S1256x64_S1256x1x64 (ix3 q 0 k) = x (ix2 q k) := by
  pointwise

/-- The head of a half: the scan at the half before, where that one ends in the segment this one begins with. -/
theorem head1_down (h9 : segF1 x5 (ix2 0 0) ≠ 4294967287#32) (q : Fin 1256) (k : Fin 64) (c : EReal) : head1 x1 x2 x3 x5 x6 x9 x10 (ix3 q 0 k) ≤ c ↔
    ∀ p : Fin 1256, p.val + 1 = q.val → segL1 x6 (ix2 p 0) = segF1 x5 (ix2 q 0) → down1 x1 x2 x3 x6 x9 x10 (ix2 p k) ≤ c := by
  unfold head1
  generalize down1 x1 x2 x3 x6 x9 x10 = D
  generalize segF1 x5 = f at h9 ⊢
  generalize segL1 x6 = l
  have e : k1_pay1 D (k1_pay28 f l) k1_pay29 = shapeCast S1256x1x64 (select (broadcastTo S1256x64 (shapeCast S1256x1
      (cmpi .eq (Scan.shDn 1256 1 1 1255 4294967287#32 l slices_S1256x1_o0_0_S1255x1 concatenates_S1x1_S1255x1_S1256x1_d0) f) shapeCasts_S1256x1_S1256x1) broadcasts_S1256x1_S1256x64)
      (Scan.shDn 1256 64 1 1255 (Named.named (F := Ideal) κ (φ := .f32) "neg" 0xFF61B1E6#32) D slices_S1256x64_o0_0_S1255x64 concatenates_S1x64_S1255x64_S1256x64_d0)
      (broadcast S1256x64 (Named.named (F := Ideal) κ (φ := .f32) "neg" 0xFF61B1E6#32))) shapeCasts_S1256x64_S1256x1x64 := by
    unfold k1_pay1 k1_pay28 k1_pay29; rfl
  rw [e, cast1]
  by_cases h0 : q.val = 0
  · obtain rfl : q = 0 := Fin.ext h0
    rw [Scan.select_neg _ _ _ _ (fun e => h9 (((Scan.cmpi_eq_one _ _ _).mp ((Scan.spread_apply _ _ (0 : Fin 1256) k).symm.trans e)).symm.trans (Scan.shDn_pad (0 : Fin 1256) 0 (by decide))))]
    exact ⟨fun _ p hp => absurd hp (by show ¬ (p.val + 1 = 0); omega), fun _ => neg_bot.trans_le bot_le⟩
  · have hp : (⟨q.val - 1, by omega⟩ : Fin 1256).val + 1 = q.val := by show q.val - 1 + 1 = q.val; omega
    generalize (⟨q.val - 1, by omega⟩ : Fin 1256) = p at hp
    have key : (∀ p : Fin 1256, p.val + 1 = q.val → l (ix2 p 0) = f (ix2 q 0) → D (ix2 p k) ≤ c) ↔ (l (ix2 p 0) = f (ix2 q 0) → D (ix2 p k) ≤ c) :=
      ⟨fun h => h p hp, fun h p' hp' => by obtain rfl : p' = p := Fin.ext (by omega); exact h⟩
    rw [key]
    have hsh := Scan.shDn_row (pad := 4294967287#32) (x := l) (hs := slices_S1256x1_o0_0_S1255x1) (hc := concatenates_S1x1_S1255x1_S1256x1_d0) q p 0 hp
    by_cases hs : l (ix2 p 0) = f (ix2 q 0)
    · rw [Scan.select_pos _ _ _ _ ((Scan.spread_apply _ _ q k).trans ((Scan.cmpi_eq_one _ _ _).mpr (hsh.trans hs))), Scan.shDn_row q p k hp]
      exact ⟨fun h _ => h, fun h => h hs⟩
    · rw [Scan.select_neg _ _ _ _ (fun e => hs (hsh.symm.trans ((Scan.cmpi_eq_one _ _ _).mp ((Scan.spread_apply _ _ q k).symm.trans e))))]
      exact ⟨fun _ h => absurd h hs, fun _ => neg_bot.trans_le bot_le⟩

/-- The tail of a half: the scan at the half after, where that one begins with the segment this one ends in. -/
theorem tail1_up (h9 : segL1 x6 (ix2 1255 0) ≠ 4294967287#32) (q : Fin 1256) (k : Fin 64) (c : EReal) : tail1 x1 x2 x3 x5 x6 x7 x8 (ix3 q 0 k) ≤ c ↔
    ∀ p : Fin 1256, q.val + 1 = p.val → segF1 x5 (ix2 p 0) = segL1 x6 (ix2 q 0) → up1 x1 x2 x3 x5 x7 x8 (ix2 p k) ≤ c := by
  unfold tail1
  generalize up1 x1 x2 x3 x5 x7 x8 = U
  generalize segL1 x6 = l at h9 ⊢
  generalize segF1 x5 = f
  have e : k1_pay2 f l U = shapeCast S1256x1x64 (select (broadcastTo S1256x64 (shapeCast S1256x1
      (cmpi .eq (Scan.shUp 1256 1 1 1255 4294967287#32 f slices_S1256x1_o1_0_S1255x1 concatenates_S1255x1_S1x1_S1256x1_d0) l) shapeCasts_S1256x1_S1256x1) broadcasts_S1256x1_S1256x64)
      (Scan.shUp 1256 64 1 1255 (Named.named (F := Ideal) κ (φ := .f32) "neg" 0xFF61B1E6#32) U slices_S1256x64_o1_0_S1255x64 concatenates_S1255x64_S1x64_S1256x64_d0)
      (broadcast S1256x64 (Named.named (F := Ideal) κ (φ := .f32) "neg" 0xFF61B1E6#32))) shapeCasts_S1256x64_S1256x1x64 := by
    unfold k1_pay2; rfl
  rw [e, cast1]
  by_cases h0 : q.val = 1255
  · obtain rfl : q = 1255 := Fin.ext h0
    rw [Scan.select_neg _ _ _ _ (fun e => h9 (((Scan.cmpi_eq_one _ _ _).mp ((Scan.spread_apply _ _ (1255 : Fin 1256) k).symm.trans e)).symm.trans (Scan.shUp_pad (1255 : Fin 1256) 0 (by decide))))]
    exact ⟨fun _ p hp => absurd hp (by show ¬ (1255 + 1 = p.val); omega), fun _ => neg_bot.trans_le bot_le⟩
  · have hp : q.val + 1 = (⟨q.val + 1, by omega⟩ : Fin 1256).val := rfl
    generalize (⟨q.val + 1, by omega⟩ : Fin 1256) = p at hp
    have key : (∀ p : Fin 1256, q.val + 1 = p.val → f (ix2 p 0) = l (ix2 q 0) → U (ix2 p k) ≤ c) ↔ (f (ix2 p 0) = l (ix2 q 0) → U (ix2 p k) ≤ c) :=
      ⟨fun h => h p hp, fun h p' hp' => by obtain rfl : p' = p := Fin.ext (by omega); exact h⟩
    rw [key]
    have hsh := Scan.shUp_row (pad := 4294967287#32) (x := f) (hs := slices_S1256x1_o1_0_S1255x1) (hc := concatenates_S1255x1_S1x1_S1256x1_d0) q p 0 hp
    by_cases hs : f (ix2 p 0) = l (ix2 q 0)
    · rw [Scan.select_pos _ _ _ _ ((Scan.spread_apply _ _ q k).trans ((Scan.cmpi_eq_one _ _ _).mpr (hsh.trans hs))), Scan.shUp_row q p k hp]
      exact ⟨fun h _ => h, fun h => h hs⟩
    · rw [Scan.select_neg _ _ _ _ (fun e => hs (hsh.symm.trans ((Scan.cmpi_eq_one _ _ _).mp ((Scan.spread_apply _ _ q k).symm.trans e))))]
      exact ⟨fun _ h => absurd h hs, fun _ => neg_bot.trans_le bot_le⟩

/-- The head of a half is the largest start among the halves up to the one before that end in the segment it begins with. -/
theorem head1_le (hseg : Scan.Consec (fun i : Fin 1256 => segL1 x6 (ix2 i 0))) (h9 : segF1 x5 (ix2 0 0) ≠ 4294967287#32)
    (q : Fin 1256) (k : Fin 64) (c : EReal) : head1 x1 x2 x3 x5 x6 x9 x10 (ix3 q 0 k) ≤ c ↔
    ∀ p : Fin 1256, p.val + 1 = q.val → segL1 x6 (ix2 p 0) = segF1 x5 (ix2 q 0) →
      ∀ j : Fin 1256, j ≤ p → segL1 x6 (ix2 j 0) = segL1 x6 (ix2 p 0) → base1 x1 x2 x3 x9 x10 (ix2 j k) ≤ c := by
  rw [head1_down _ _ _ _ _ _ _ h9]
  exact forall_congr' fun p => forall_congr' fun _ => forall_congr' fun _ => (down1_scan x1 x2 x3 x6 x9 x10 hseg k).all (by norm_num) p c
/-- The tail likewise, among the halves from the one after on that begin with the segment it ends in. -/
theorem tail1_le (hseg : Scan.Consec (fun i : Fin 1256 => segF1 x5 (ix2 i 0))) (h9 : segL1 x6 (ix2 1255 0) ≠ 4294967287#32)
    (q : Fin 1256) (k : Fin 64) (c : EReal) : tail1 x1 x2 x3 x5 x6 x7 x8 (ix3 q 0 k) ≤ c ↔
    ∀ p : Fin 1256, q.val + 1 = p.val → segF1 x5 (ix2 p 0) = segL1 x6 (ix2 q 0) →
      ∀ j : Fin 1256, p ≤ j → segF1 x5 (ix2 j 0) = segF1 x5 (ix2 p 0) → base1 x1 x2 x3 x7 x8 (ix2 j k) ≤ c := by
  rw [tail1_up _ _ _ _ _ _ _ h9]
  exact forall_congr' fun p => forall_congr' fun _ => forall_congr' fun _ => (up1_scan x1 x2 x3 x5 x7 x8 hseg k).all (by norm_num) p c

end Cert.KernelIdeal.Gen
-- ==== Proof.Value.Array1.lean ====
/- The second kernel's arrays: its grid has one point, so each output is the body's value of the whole input arrays. -/
module

public import proofs.«01_k».proof.Proof.Value.Block1
public import proofs.«01_k».proof.Proof.KernelIdeal.Region1
public import Idealize.ShloMosaic.Lib.Pipeline.ValueKit

@[expose] public section

noncomputable section

namespace Cert.KernelIdeal.Gen

open Idealize.ShloMosaic Idealize.ShloMosaic.TcCoe
open Idealize.ShloMosaic.Pipeline (Dat)

variable (V : (c : Dev nD) → (b : Ref sig .tc) → Buf (Elt Ideal) ((c : Thread nD τ).loc b)) (c : Dev nD)

/-- The only point. -/
abbrev pt1 : Fin cfg1.N := ⟨0, by decide⟩

theorem idx1_0 : ∀ t : Fin cfg1.N, win1_0.index t = ![0, 0] := (by decide +kernel : ∀ t : Fin grid1.N, _)
theorem iblk1_0 (t : Fin cfg1.N) : iblk1 V c 0 t = V c main_call2_v0_0 := by blk_ext! [iblk1, idx1_0]
theorem idx1_1 : ∀ t : Fin cfg1.N, win1_1.index t = ![0, 0] := (by decide +kernel : ∀ t : Fin grid1.N, _)
theorem iblk1_1 (t : Fin cfg1.N) : iblk1 V c 1 t = V c main_call2_v0_1 := by blk_ext! [iblk1, idx1_1]
theorem idx1_2 : ∀ t : Fin cfg1.N, win1_2.index t = ![0, 0] := (by decide +kernel : ∀ t : Fin grid1.N, _)
theorem iblk1_2 (t : Fin cfg1.N) : iblk1 V c 2 t = V c main_v8 := by blk_ext! [iblk1, idx1_2]
theorem idx1_3 : ∀ t : Fin cfg1.N, win1_3.index t = ![0, 0] := (by decide +kernel : ∀ t : Fin grid1.N, _)
theorem iblk1_3 (t : Fin cfg1.N) : iblk1 V c 3 t = V c main_v9 := by blk_ext! [iblk1, idx1_3]
theorem idx1_4 : ∀ t : Fin cfg1.N, win1_4.index t = ![0, 0] := (by decide +kernel : ∀ t : Fin grid1.N, _)
theorem iblk1_4 (t : Fin cfg1.N) : iblk1 V c 4 t = V c main_v6 := by blk_ext! [iblk1, idx1_4]
theorem idx1_5 : ∀ t : Fin cfg1.N, win1_5.index t = ![0, 0] := (by decide +kernel : ∀ t : Fin grid1.N, _)
theorem iblk1_5 (t : Fin cfg1.N) : iblk1 V c 5 t = V c main_v5 := by blk_ext! [iblk1, idx1_5]
theorem idx1_6 : ∀ t : Fin cfg1.N, win1_6.index t = ![0, 0, 0] := (by decide +kernel : ∀ t : Fin grid1.N, _)
theorem iblk1_6 (t : Fin cfg1.N) : iblk1 V c 6 t = V c main_call2_v0_2 := by blk_ext! [iblk1, idx1_6]
theorem idx1_7 : ∀ t : Fin cfg1.N, win1_7.index t = ![0, 0, 0] := (by decide +kernel : ∀ t : Fin grid1.N, _)
theorem iblk1_7 (t : Fin cfg1.N) : iblk1 V c 7 t = V c main_call2_v0_3 := by blk_ext! [iblk1, idx1_7]
theorem idx1_8 : ∀ t : Fin cfg1.N, win1_8.index t = ![0, 0, 0] := (by decide +kernel : ∀ t : Fin grid1.N, _)
theorem iblk1_8 (t : Fin cfg1.N) : iblk1 V c 8 t = V c main_call2_v0_4 := by blk_ext! [iblk1, idx1_8]
theorem idx1_9 : ∀ t : Fin cfg1.N, win1_9.index t = ![0, 0, 0] := (by decide +kernel : ∀ t : Fin grid1.N, _)
theorem iblk1_9 (t : Fin cfg1.N) : iblk1 V c 9 t = V c main_call2_v0_5 := by blk_ext! [iblk1, idx1_9]

/-- The absolute scale, -/
theorem arr1_abs : (dat1 V c).arrAt 10 cfg1.N = k1_pay7 (V c main_call2_v0_0) (V c main_call2_v0_1) (V c main_v8) := by
  refine (dat1 V c).arrAt_eq_of_after_last 10 pt1 (by decide +kernel) _ fun j => ?_
  blk_simp
  rw [after1_10, iblk1_0, iblk1_1, iblk1_2]

/-- the shift, -/
theorem arr1_shift : (dat1 V c).arrAt 11 cfg1.N = k1_pay8 (V c main_call2_v0_0) (V c main_call2_v0_1) (V c main_v8) (V c main_v9) := by
  refine (dat1 V c).arrAt_eq_of_after_last 11 pt1 (by decide +kernel) _ fun j => ?_
  blk_simp
  rw [after1_11, iblk1_0, iblk1_1, iblk1_2, iblk1_3]

/-- the sign, -/
theorem arr1_sign : (dat1 V c).arrAt 12 cfg1.N = k1_pay6 (V c main_call2_v0_0) (V c main_call2_v0_1) (V c main_v8) := by
  refine (dat1 V c).arrAt_eq_of_after_last 12 pt1 (by decide +kernel) _ fun j => ?_
  blk_simp
  rw [after1_12, iblk1_0, iblk1_1, iblk1_2]

/-- the heads -/
theorem arr1_head : (dat1 V c).arrAt 13 cfg1.N = head1 (V c main_call2_v0_0) (V c main_call2_v0_1) (V c main_v8)
    (V c main_v6) (V c main_v5) (V c main_call2_v0_4) (V c main_call2_v0_5) := by
  refine (dat1 V c).arrAt_eq_of_after_last 13 pt1 (by decide +kernel) _ fun j => ?_
  blk_simp
  rw [after1_13, iblk1_0, iblk1_1, iblk1_2, iblk1_4, iblk1_5, iblk1_8, iblk1_9]

/-- and the tails. -/
theorem arr1_tail : (dat1 V c).arrAt 14 cfg1.N = tail1 (V c main_call2_v0_0) (V c main_call2_v0_1) (V c main_v8)
    (V c main_v6) (V c main_v5) (V c main_call2_v0_2) (V c main_call2_v0_3) := by
  refine (dat1 V c).arrAt_eq_of_after_last 14 pt1 (by decide +kernel) _ fun j => ?_
  blk_simp
  rw [after1_14, iblk1_0, iblk1_1, iblk1_2, iblk1_4, iblk1_5, iblk1_6, iblk1_7]

end Cert.KernelIdeal.Gen
-- ==== Proof.Value.Scan2.lean ====
/- The third kernel's two scans over the rows of a block: each is eight levels, so each reaches every row of its half. -/
module

public import proofs.«01_k».proof.Proof.Value.Scan1
public import proofs.«01_k».proof.Proof.KernelIdeal.Body2

@[expose] public section

noncomputable section

namespace Cert.KernelIdeal.Gen

open Idealize.ShloMosaic

/-- The mask of a level of the third kernel's scans. -/
abbrev mask2 (d r : ℕ) (s : IVec S256x1 32) (hs1 : S256x1.Slices ![0, 0] ⟨2, ![r, 1]⟩)
    (hc1 : Shape.Concatenates [⟨2, ![d, 1]⟩, ⟨2, ![r, 1]⟩] S256x1 0) : FVec Ideal S256x1 .bf16 :=
  Scan.mask 256 d r 4294967295#32 (Scalar.ofBits (F := Ideal) .f32 0x00000000#32) (Named.named (F := Ideal) κ (φ := .f32) "neg" 0xFF61B1E6#32) s hs1 hc1 bitsLt_bf16_f32

/-- A level of the third kernel's downward scan. -/
abbrev lvDn2 (d r : ℕ) (s1 s2 : IVec S256x1 32) (cur : FVec Ideal S256x128 .bf16) (hs1 : S256x1.Slices ![0, 0] ⟨2, ![r, 1]⟩)
    (hc1 : Shape.Concatenates [⟨2, ![d, 1]⟩, ⟨2, ![r, 1]⟩] S256x1 0) (hs : S256x128.Slices ![0, 0] ⟨2, ![r, 128]⟩)
    (hc : Shape.Concatenates [⟨2, ![d, 128]⟩, ⟨2, ![r, 128]⟩] S256x128 0) : FVec Ideal S256x128 .bf16 :=
  Scan.adDn 256 d r (Named.named (F := Ideal) κ (φ := .bf16) "neg" 0xFF62#16) (mask2 d r s1 hs1 hc1) (mask2 d r s2 hs1 hc1) cur hs hc
    shapeCasts_S256x1_S256x1 broadcasts_S256x1_S256x64 concatenates_S256x64_S256x64_S256x128_d1

/-- A level of the third kernel's upward scan. -/
abbrev lvUp2 (d r : ℕ) (s1 s2 : IVec S256x1 32) (cur : FVec Ideal S256x128 .bf16) (hm1 : S256x1.Slices ![0, 0] ⟨2, ![r, 1]⟩)
    (hm2 : Shape.Concatenates [⟨2, ![d, 1]⟩, ⟨2, ![r, 1]⟩] S256x1 0) (hs1 : S256x1.Slices ![d, 0] ⟨2, ![r, 1]⟩)
    (hc1 : Shape.Concatenates [⟨2, ![r, 1]⟩, ⟨2, ![d, 1]⟩] S256x1 0) (hs : S256x128.Slices ![d, 0] ⟨2, ![r, 128]⟩)
    (hc : Shape.Concatenates [⟨2, ![r, 128]⟩, ⟨2, ![d, 128]⟩] S256x128 0) : FVec Ideal S256x128 .bf16 :=
  Scan.adUp 256 d r (Named.named (F := Ideal) κ (φ := .bf16) "neg" 0xFF62#16) (mask2 d r s1 hm1 hm2) (mask2 d r s2 hm1 hm2) cur hs1 hc1 hs hc
    shapeCasts_S256x1_S256x1 broadcasts_S256x1_S256x64 concatenates_S256x64_S256x64_S256x128_d1

theorem levels2_k10 (v : Vec Ideal S256x128 .f32) (s : Vec Ideal S512x1 .i32) : k2_pay10 (k2_pay5 v) (k2_pay8 s) (k2_pay9 s) =
  (lvDn2 1 255 (k2_pay3 s) (k2_pay4 s) (k2_pay5 v)
    slices_S256x1_o0_0_S255x1 concatenates_S1x1_S255x1_S256x1_d0 slices_S256x128_o0_0_S255x128 concatenates_S1x128_S255x128_S256x128_d0) := by
  unfold k2_pay10
  rfl
theorem levels2_k18 (a b : IVec S256x1 32) (c : FVec Ideal S256x128 .bf16) : k2_pay18 c (k2_pay14 (F := Ideal) a b) =
  (lvDn2 2 254 a b c
    slices_S256x1_o0_0_S254x1 concatenates_S2x1_S254x1_S256x1_d0 slices_S256x128_o0_0_S254x128 concatenates_S2x128_S254x128_S256x128_d0) := by
  unfold k2_pay18
  rfl
theorem levels2_k29 (a b : IVec S256x1 32) (c : FVec Ideal S256x128 .bf16) : k2_pay29 a b c (k2_pay22 (F := Ideal) a b) (k2_pay24 (F := Ideal)) =
  (lvDn2 8 248 a b (lvDn2 4 252 a b c
    slices_S256x1_o0_0_S252x1 concatenates_S4x1_S252x1_S256x1_d0 slices_S256x128_o0_0_S252x128 concatenates_S4x128_S252x128_S256x128_d0)
    slices_S256x1_o0_0_S248x1 concatenates_S8x1_S248x1_S256x1_d0 slices_S256x128_o0_0_S248x128 concatenates_S8x128_S248x128_S256x128_d0) := by
  unfold k2_pay29
  rfl
theorem levels2_k33 (a b : IVec S256x1 32) (c : FVec Ideal S256x128 .bf16) : k2_pay33 a b c =
  (lvDn2 16 240 a b c
    slices_S256x1_o0_0_S240x1 concatenates_S16x1_S240x1_S256x1_d0 slices_S256x128_o0_0_S240x128 concatenates_S16x128_S240x128_S256x128_d0) := by
  unfold k2_pay33
  rfl
theorem levels2_k38 (a b : IVec S256x1 32) (c : FVec Ideal S256x128 .bf16) : k2_pay38 b c (k2_pay35 a) (Scalar.ofBits (F := Ideal) .f32 0x00000000#32) =
  (lvDn2 32 224 a b c
    slices_S256x1_o0_0_S224x1 concatenates_S32x1_S224x1_S256x1_d0 slices_S256x128_o0_0_S224x128 concatenates_S32x128_S224x128_S256x128_d0) := by
  unfold k2_pay38
  rfl
theorem levels2_k44 (a b : IVec S256x1 32) (c : FVec Ideal S256x128 .bf16) : k2_pay44 b c (k2_pay40 (F := Ideal) a) k2_pay41 (k2_pay42 b) =
  (lvDn2 64 192 a b c
    slices_S256x1_o0_0_S192x1 concatenates_S64x1_S192x1_S256x1_d0 slices_S256x128_o0_0_S192x128 concatenates_S64x128_S192x128_S256x128_d0) := by
  unfold k2_pay44
  rfl
theorem levels2_k11 (v : Vec Ideal S256x128 .f32) (s : Vec Ideal S512x1 .i32) : k2_pay11 (k2_pay5 v) (k2_pay6 s) (k2_pay7 s) =
  (lvUp2 1 255 (k2_pay3 s) (k2_pay4 s) (k2_pay5 v)
    slices_S256x1_o0_0_S255x1 concatenates_S1x1_S255x1_S256x1_d0 slices_S256x1_o1_0_S255x1 concatenates_S255x1_S1x1_S256x1_d0 slices_S256x128_o1_0_S255x128 concatenates_S255x128_S1x128_S256x128_d0) := by
  unfold k2_pay11
  rfl
theorem levels2_k19 (a b : IVec S256x1 32) (c : FVec Ideal S256x128 .bf16) : k2_pay19 c (k2_pay15 (F := Ideal) a) (k2_pay16 (F := Ideal)) (k2_pay17 (F := Ideal) b) =
  (lvUp2 2 254 a b c
    slices_S256x1_o0_0_S254x1 concatenates_S2x1_S254x1_S256x1_d0 slices_S256x1_o2_0_S254x1 concatenates_S254x1_S2x1_S256x1_d0 slices_S256x128_o2_0_S254x128 concatenates_S254x128_S2x128_S256x128_d0) := by
  unfold k2_pay19
  rfl
theorem levels2_k25 (a b : IVec S256x1 32) (c : FVec Ideal S256x128 .bf16) : k2_pay25 c (k2_pay23 (F := Ideal) a b) =
  (lvUp2 4 252 a b c
    slices_S256x1_o0_0_S252x1 concatenates_S4x1_S252x1_S256x1_d0 slices_S256x1_o4_0_S252x1 concatenates_S252x1_S4x1_S256x1_d0 slices_S256x128_o4_0_S252x128 concatenates_S252x128_S4x128_S256x128_d0) := by
  unfold k2_pay25
  rfl
theorem levels2_k34 (a b : IVec S256x1 32) (c : FVec Ideal S256x128 .bf16) : k2_pay34 a b c (k2_pay28 (F := Ideal) a b) (Scan.shUp 256 128 8 248 (Named.named (F := Ideal) κ (φ := .bf16) "neg" 0xFF62#16) c slices_S256x128_o8_0_S248x128 concatenates_S248x128_S8x128_S256x128_d0) =
  (lvUp2 16 240 a b (lvUp2 8 248 a b c
    slices_S256x1_o0_0_S248x1 concatenates_S8x1_S248x1_S256x1_d0 slices_S256x1_o8_0_S248x1 concatenates_S248x1_S8x1_S256x1_d0 slices_S256x128_o8_0_S248x128 concatenates_S248x128_S8x128_S256x128_d0)
    slices_S256x1_o0_0_S240x1 concatenates_S16x1_S240x1_S256x1_d0 slices_S256x1_o16_0_S240x1 concatenates_S240x1_S16x1_S256x1_d0 slices_S256x128_o16_0_S240x128 concatenates_S240x128_S16x128_S256x128_d0) := by
  unfold k2_pay34
  rfl
theorem levels2_k39 (a b : IVec S256x1 32) (c : FVec Ideal S256x128 .bf16) : k2_pay39 b c (k2_pay35 a) (Scalar.ofBits (F := Ideal) .f32 0x00000000#32) =
  (lvUp2 32 224 a b c
    slices_S256x1_o0_0_S224x1 concatenates_S32x1_S224x1_S256x1_d0 slices_S256x1_o32_0_S224x1 concatenates_S224x1_S32x1_S256x1_d0 slices_S256x128_o32_0_S224x128 concatenates_S224x128_S32x128_S256x128_d0) := by
  unfold k2_pay39
  rfl
theorem levels2_k45 (a b : IVec S256x1 32) (c : FVec Ideal S256x128 .bf16) : k2_pay45 b c (k2_pay40 (F := Ideal) a) k2_pay41 (k2_pay42 b) =
  (lvUp2 64 192 a b c
    slices_S256x1_o0_0_S192x1 concatenates_S64x1_S192x1_S256x1_d0 slices_S256x1_o64_0_S192x1 concatenates_S192x1_S64x1_S256x1_d0 slices_S256x128_o64_0_S192x128 concatenates_S192x128_S64x128_S256x128_d0) := by
  unfold k2_pay45
  rfl
theorem levels2_k48 (a b : IVec S256x1 32) (c c' : FVec Ideal S256x128 .bf16) : k2_pay48 c c' (k2_pay46 (F := Ideal) a) (k2_pay47 (F := Ideal) b) =
  extf .f32 (maximumf (lvDn2 128 128 a b c
    slices_S256x1_o0_0_S128x1 concatenates_S128x1_S128x1_S256x1_d0 slices_S256x128_o0_0_S128x128 concatenates_S128x128_S128x128_S256x128_d0)
   (lvUp2 128 128 a b c'
    slices_S256x1_o0_0_S128x1 concatenates_S128x1_S128x1_S256x1_d0 slices_S256x1_o128_0_S128x1 concatenates_S128x1_S128x1_S256x1_d0 slices_S256x128_o128_0_S128x128 concatenates_S128x128_S128x128_S256x128_d0)) bitsLt_bf16_f32 := by
  unfold k2_pay48
  rfl

theorem reach2_k18 (a b : IVec S256x1 32) (k : Fin 128) (hseg : Scan.Consec (Scan.side a b k)) (z : Fin 256 → EReal) (c : FVec Ideal S256x128 .bf16)
    (h : Scan.Dn 2 (Scan.side a b k) z (fun i => c (ix2 i k))) :
    Scan.Dn 4 (Scan.side a b k) z (fun i => k2_pay18 c (k2_pay14 (F := Ideal) a b) (ix2 i k)) := by
  rw [levels2_k18]
  refine Scan.Dn.step (d := 2) hseg ?_ (Scan.adDn_step zero32 neg_bot neg16_bot a b _ k) rfl
  exact h
theorem reach2_k29 (a b : IVec S256x1 32) (k : Fin 128) (hseg : Scan.Consec (Scan.side a b k)) (z : Fin 256 → EReal) (c : FVec Ideal S256x128 .bf16)
    (h : Scan.Dn 4 (Scan.side a b k) z (fun i => c (ix2 i k))) :
    Scan.Dn 16 (Scan.side a b k) z (fun i => k2_pay29 a b c (k2_pay22 (F := Ideal) a b) (k2_pay24 (F := Ideal)) (ix2 i k)) := by
  rw [levels2_k29]
  refine Scan.Dn.step (d := 8) hseg ?_ (Scan.adDn_step zero32 neg_bot neg16_bot a b _ k) rfl
  refine Scan.Dn.step (d := 4) hseg ?_ (Scan.adDn_step zero32 neg_bot neg16_bot a b _ k) rfl
  exact h
theorem reach2_k33 (a b : IVec S256x1 32) (k : Fin 128) (hseg : Scan.Consec (Scan.side a b k)) (z : Fin 256 → EReal) (c : FVec Ideal S256x128 .bf16)
    (h : Scan.Dn 16 (Scan.side a b k) z (fun i => c (ix2 i k))) :
    Scan.Dn 32 (Scan.side a b k) z (fun i => k2_pay33 a b c (ix2 i k)) := by
  rw [levels2_k33]
  refine Scan.Dn.step (d := 16) hseg ?_ (Scan.adDn_step zero32 neg_bot neg16_bot a b _ k) rfl
  exact h
theorem reach2_k38 (a b : IVec S256x1 32) (k : Fin 128) (hseg : Scan.Consec (Scan.side a b k)) (z : Fin 256 → EReal) (c : FVec Ideal S256x128 .bf16)
    (h : Scan.Dn 32 (Scan.side a b k) z (fun i => c (ix2 i k))) :
    Scan.Dn 64 (Scan.side a b k) z (fun i => k2_pay38 b c (k2_pay35 a) (Scalar.ofBits (F := Ideal) .f32 0x00000000#32) (ix2 i k)) := by
  rw [levels2_k38]
  refine Scan.Dn.step (d := 32) hseg ?_ (Scan.adDn_step zero32 neg_bot neg16_bot a b _ k) rfl
  exact h
theorem reach2_k44 (a b : IVec S256x1 32) (k : Fin 128) (hseg : Scan.Consec (Scan.side a b k)) (z : Fin 256 → EReal) (c : FVec Ideal S256x128 .bf16)
    (h : Scan.Dn 64 (Scan.side a b k) z (fun i => c (ix2 i k))) :
    Scan.Dn 128 (Scan.side a b k) z (fun i => k2_pay44 b c (k2_pay40 (F := Ideal) a) k2_pay41 (k2_pay42 b) (ix2 i k)) := by
  rw [levels2_k44]
  refine Scan.Dn.step (d := 64) hseg ?_ (Scan.adDn_step zero32 neg_bot neg16_bot a b _ k) rfl
  exact h
theorem reach2_k19 (a b : IVec S256x1 32) (k : Fin 128) (hseg : Scan.Consec (Scan.side a b k)) (z : Fin 256 → EReal) (c : FVec Ideal S256x128 .bf16)
    (h : Scan.Up 2 (Scan.side a b k) z (fun i => c (ix2 i k))) :
    Scan.Up 4 (Scan.side a b k) z (fun i => k2_pay19 c (k2_pay15 (F := Ideal) a) (k2_pay16 (F := Ideal)) (k2_pay17 (F := Ideal) b) (ix2 i k)) := by
  rw [levels2_k19]
  refine Scan.Up.step (d := 2) hseg ?_ (Scan.adUp_step zero32 neg_bot neg16_bot a b _ k) rfl
  exact h
theorem reach2_k25 (a b : IVec S256x1 32) (k : Fin 128) (hseg : Scan.Consec (Scan.side a b k)) (z : Fin 256 → EReal) (c : FVec Ideal S256x128 .bf16)
    (h : Scan.Up 4 (Scan.side a b k) z (fun i => c (ix2 i k))) :
    Scan.Up 8 (Scan.side a b k) z (fun i => k2_pay25 c (k2_pay23 (F := Ideal) a b) (ix2 i k)) := by
  rw [levels2_k25]
  refine Scan.Up.step (d := 4) hseg ?_ (Scan.adUp_step zero32 neg_bot neg16_bot a b _ k) rfl
  exact h
theorem reach2_k34 (a b : IVec S256x1 32) (k : Fin 128) (hseg : Scan.Consec (Scan.side a b k)) (z : Fin 256 → EReal) (c : FVec Ideal S256x128 .bf16)
    (h : Scan.Up 8 (Scan.side a b k) z (fun i => c (ix2 i k))) :
    Scan.Up 32 (Scan.side a b k) z (fun i => k2_pay34 a b c (k2_pay28 (F := Ideal) a b) (Scan.shUp 256 128 8 248 (Named.named (F := Ideal) κ (φ := .bf16) "neg" 0xFF62#16) c slices_S256x128_o8_0_S248x128 concatenates_S248x128_S8x128_S256x128_d0) (ix2 i k)) := by
  rw [levels2_k34]
  refine Scan.Up.step (d := 16) hseg ?_ (Scan.adUp_step zero32 neg_bot neg16_bot a b _ k) rfl
  refine Scan.Up.step (d := 8) hseg ?_ (Scan.adUp_step zero32 neg_bot neg16_bot a b _ k) rfl
  exact h
theorem reach2_k39 (a b : IVec S256x1 32) (k : Fin 128) (hseg : Scan.Consec (Scan.side a b k)) (z : Fin 256 → EReal) (c : FVec Ideal S256x128 .bf16)
    (h : Scan.Up 32 (Scan.side a b k) z (fun i => c (ix2 i k))) :
    Scan.Up 64 (Scan.side a b k) z (fun i => k2_pay39 b c (k2_pay35 a) (Scalar.ofBits (F := Ideal) .f32 0x00000000#32) (ix2 i k)) := by
  rw [levels2_k39]
  refine Scan.Up.step (d := 32) hseg ?_ (Scan.adUp_step zero32 neg_bot neg16_bot a b _ k) rfl
  exact h
theorem reach2_k45 (a b : IVec S256x1 32) (k : Fin 128) (hseg : Scan.Consec (Scan.side a b k)) (z : Fin 256 → EReal) (c : FVec Ideal S256x128 .bf16)
    (h : Scan.Up 64 (Scan.side a b k) z (fun i => c (ix2 i k))) :
    Scan.Up 128 (Scan.side a b k) z (fun i => k2_pay45 b c (k2_pay40 (F := Ideal) a) k2_pay41 (k2_pay42 b) (ix2 i k)) := by
  rw [levels2_k45]
  refine Scan.Up.step (d := 64) hseg ?_ (Scan.adUp_step zero32 neg_bot neg16_bot a b _ k) rfl
  exact h
theorem reach2_k10 (v : Vec Ideal S256x128 .f32) (s : Vec Ideal S512x1 .i32) (k : Fin 128) (hseg : Scan.Consec (Scan.side (k2_pay3 s) (k2_pay4 s) k)) :
    Scan.Dn 2 (Scan.side (k2_pay3 s) (k2_pay4 s) k) (fun i => v (ix2 i k)) (fun i => k2_pay10 (k2_pay5 v) (k2_pay8 s) (k2_pay9 s) (ix2 i k)) := by
  rw [levels2_k10]
  refine Scan.Dn.step (d := 1) hseg ?_ (Scan.adDn_step zero32 neg_bot neg16_bot _ _ _ k) rfl
  exact Scan.Dn.one _ _
theorem reach2_k11 (v : Vec Ideal S256x128 .f32) (s : Vec Ideal S512x1 .i32) (k : Fin 128) (hseg : Scan.Consec (Scan.side (k2_pay3 s) (k2_pay4 s) k)) :
    Scan.Up 2 (Scan.side (k2_pay3 s) (k2_pay4 s) k) (fun i => v (ix2 i k)) (fun i => k2_pay11 (k2_pay5 v) (k2_pay6 s) (k2_pay7 s) (ix2 i k)) := by
  rw [levels2_k11]
  refine Scan.Up.step (d := 1) hseg ?_ (Scan.adUp_step zero32 neg_bot neg16_bot _ _ _ k) rfl
  exact Scan.Up.one _ _

/-- After seven levels the downward scan reaches 128 rows. -/
theorem fwd2_scan (v : Vec Ideal S256x128 .f32) (s : Vec Ideal S512x1 .i32) (k : Fin 128) (hseg : Scan.Consec (Scan.side (k2_pay3 s) (k2_pay4 s) k)) :
    Scan.Dn 128 (Scan.side (k2_pay3 s) (k2_pay4 s) k) (fun i => v (ix2 i k)) (fun i => fwd2 v s (ix2 i k)) :=
  reach2_k44 _ _ k hseg _ _ (reach2_k38 _ _ k hseg _ _ (reach2_k33 _ _ k hseg _ _ (reach2_k29 _ _ k hseg _ _
    (reach2_k18 _ _ k hseg _ _ (reach2_k10 v s k hseg)))))

/-- After seven levels the upward scan reaches 128 rows. -/
theorem bwd2_scan (v : Vec Ideal S256x128 .f32) (s : Vec Ideal S512x1 .i32) (k : Fin 128) (hseg : Scan.Consec (Scan.side (k2_pay3 s) (k2_pay4 s) k)) :
    Scan.Up 128 (Scan.side (k2_pay3 s) (k2_pay4 s) k) (fun i => v (ix2 i k)) (fun i => bwd2 v s (ix2 i k)) :=
  reach2_k45 _ _ k hseg _ _ (reach2_k39 _ _ k hseg _ _ (reach2_k34 _ _ k hseg _ _ (reach2_k25 _ _ k hseg _ _
    (reach2_k19 _ _ k hseg _ _ (reach2_k11 v s k hseg)))))

/-- The joined scan at row `i` is the maximum over the rows of its half with the row's segment. -/
theorem scan2_le (v : Vec Ideal S256x128 .f32) (s : Vec Ideal S512x1 .i32) (k : Fin 128) (hseg : Scan.Consec (Scan.side (k2_pay3 s) (k2_pay4 s) k))
    (i : Fin 256) (c : EReal) : scan2 v s (ix2 i k) ≤ c ↔
      ∀ j : Fin 256, Scan.side (k2_pay3 s) (k2_pay4 s) k j = Scan.side (k2_pay3 s) (k2_pay4 s) k i → v (ix2 j k) ≤ c := by
  unfold scan2
  rw [levels2_k48, ValueIdx.extf_apply]
  have hd := (Scan.Dn.step (d := 128) hseg (fwd2_scan v s k hseg) (Scan.adDn_step zero32 neg_bot neg16_bot (k2_pay3 s) (k2_pay4 s) (fwd2 v s) (hm1 := slices_S256x1_o0_0_S128x1)
    (hm2 := concatenates_S128x1_S128x1_S256x1_d0) (hlt := bitsLt_bf16_f32) (none := 4294967295#32) (hs := slices_S256x128_o0_0_S128x128) (hc := concatenates_S128x128_S128x128_S256x128_d0)
    (h := shapeCasts_S256x1_S256x1) (hb := broadcasts_S256x1_S256x64) (hw := concatenates_S256x64_S256x64_S256x128_d1) k) rfl).all (by norm_num) i c
  have hu := (Scan.Up.step (d := 128) hseg (bwd2_scan v s k hseg) (Scan.adUp_step zero32 neg_bot neg16_bot (k2_pay3 s) (k2_pay4 s) (bwd2 v s) (hm1 := slices_S256x1_o0_0_S128x1)
    (hm2 := concatenates_S128x1_S128x1_S256x1_d0) (hlt := bitsLt_bf16_f32) (none := 4294967295#32) (hs1 := slices_S256x1_o128_0_S128x1) (hc1 := concatenates_S128x1_S128x1_S256x1_d0)
    (hs := slices_S256x128_o128_0_S128x128) (hc := concatenates_S128x128_S128x128_S256x128_d0)
    (h := shapeCasts_S256x1_S256x1) (hb := broadcasts_S256x1_S256x64) (hw := concatenates_S256x64_S256x64_S256x128_d1) k) rfl).all (by norm_num) i c
  refine (max_le_iff (a := Scan.adDn 256 128 128 _ _ _ _ _ _ _ _ _ (ix2 i k)) (b := Scan.adUp 256 128 128 _ _ _ _ _ _ _ _ _ _ _ (ix2 i k)) (c := c)).trans ((and_congr hd hu).trans ?_)
  constructor
  · rintro ⟨h1, h2⟩ j hj
    rcases le_total j i with h | h
    · exact h1 j h hj
    · exact h2 j h hj
  · exact fun h => ⟨fun j _ hj => h j hj, fun j _ hj => h j hj⟩

end Cert.KernelIdeal.Gen
-- ==== Proof.Value.Block2.lean ====
/- The third kernel's block, read at an index: a row scaled, shifted and clamped at zero, and beside it the same of the
   maximum over the row's segment, as far as the block's half and the heads and tails handed in reach. -/
module

public import proofs.«01_k».proof.Proof.Value.Scan2
public import proofs.«01_k».proof.Proof.Value.Block0

@[expose] public section

noncomputable section

namespace Cert.KernelIdeal.Gen

open Idealize.ShloMosaic

/-- Lane `k` of half `b`: the two halves of a block lie side by side. -/
def lk (b : Fin 2) (k : Fin 64) : Fin 128 := ⟨64 * b.val + k.val, by omega⟩
/-- The left and the right part of an output row. -/
def left (k : Fin 64) : Fin 128 := ⟨k.val, by omega⟩
def right (k : Fin 64) : Fin 128 := ⟨64 + k.val, by omega⟩

theorem lk_lt (k : Fin 64) : (lk 0 k).val < 64 := by show 64 * 0 + k.val < 64; omega
theorem lk_ge (k : Fin 64) : ¬ (lk 1 k).val < 64 := by show ¬ 64 * 1 + k.val < 64; omega

section
variable (s : Vec Ideal S512x1 .i32)

theorem s2_lo (i : Fin 256) : k2_pay3 s (ix2 i 0) = s (ix2 (rk 0 i) 0) := by
  unfold k2_pay3 k2_pay2
  refine (extractStridedSlice_apply _ _ slices_S512x1_o0_0_S256x1 _ (ix2 (rk 0 i) (0 : Fin 1)) (fun a => match a with
    | ⟨0, _⟩ => (by show 256 * 0 + i.val = 0 + i.val; omega) | ⟨1, _⟩ => rfl)).trans ?_
  exact congrFun (shapeCast_self s shapeCasts_S512x1_S512x1) _
theorem s2_hi (i : Fin 256) : k2_pay4 s (ix2 i 0) = s (ix2 (rk 1 i) 0) := by
  unfold k2_pay4 k2_pay2
  refine (extractStridedSlice_apply _ _ slices_S512x1_o256_0_S256x1 _ (ix2 (rk 1 i) (0 : Fin 1)) (fun a => match a with
    | ⟨0, _⟩ => rfl | ⟨1, _⟩ => rfl)).trans ?_
  exact congrFun (shapeCast_self s shapeCasts_S512x1_S512x1) _

/-- The segment of row `i` of half `b`, in that half's lanes. -/
theorem side_eq (b : Fin 2) (k : Fin 64) (i : Fin 256) : Scan.side (k2_pay3 s) (k2_pay4 s) (lk b k) i = s (ix2 (rk b i) 0) := by
  unfold Scan.side
  obtain rfl | rfl : b = 1 ∨ b = 0 := by omega
  · rw [if_neg (lk_ge k), s2_hi]
  · rw [if_pos (lk_lt k), s2_lo]

end

/-- A (1,1,64) row where the mask is set, the neutral "neg" elsewhere. -/
def edge (m : IVec S256x1 1) (x : Vec Ideal S1x1x64 .f32) : FVec Ideal S256x64 .f32 :=
  select (broadcastTo S256x64 (shapeCast S256x1 m shapeCasts_S256x1_S256x1) broadcasts_S256x1_S256x64)
    (broadcastTo S256x64 (shapeCast S1x64 (shapeCast S1x64 x shapeCasts_S1x1x64_S1x64) shapeCasts_S1x64_S1x64) broadcasts_S1x64_S256x64)
    (broadcast S256x64 (Named.named (F := Ideal) κ (φ := .f32) "neg" 0xFF61B1E6#32))

theorem edge_le (m : IVec S256x1 1) (x : Vec Ideal S1x1x64 .f32) (i : Fin 256) (k : Fin 64) (c : EReal) :
    edge m x (ix2 i k) ≤ c ↔ (m (ix2 i 0) = 1#1 → x (ix3 0 0 k) ≤ c) := by
  unfold edge
  have hx : broadcastTo S256x64 (shapeCast S1x64 (shapeCast S1x64 x shapeCasts_S1x1x64_S1x64) shapeCasts_S1x64_S1x64) broadcasts_S1x64_S256x64 (ix2 i k) = x (ix3 0 0 k) := by
    pointwise
  by_cases hi : m (ix2 i 0) = 1#1
  · rw [masked_pos i k hi, hx]; exact ⟨fun h _ => h, fun h => h hi⟩
  · rw [masked_neg i k hi]; exact ⟨fun _ h => absurd h hi, fun _ => neg_bot.trans_le bot_le⟩

/-- The rows that share the first row's segment, and those that share the last row's. -/
def sameAs0 (s : IVec S256x1 32) : IVec S256x1 1 :=
  cmpi .eq s (broadcastTo S256x1 (extractStridedSlice S1x1 ![0, 0] s slices_S256x1_o0_0_S1x1) broadcasts_S1x1_S256x1)
def sameAs255 (s : IVec S256x1 32) : IVec S256x1 1 :=
  cmpi .eq s (broadcastTo S256x1 (extractStridedSlice S1x1 ![255, 0] s slices_S256x1_o255_0_S1x1) broadcasts_S1x1_S256x1)
theorem sameAs0_iff (s : IVec S256x1 32) (i : Fin 256) : sameAs0 s (ix2 i 0) = 1#1 ↔ s (ix2 i 0) = s (ix2 0 0) := by
  unfold sameAs0
  exact (Scan.cmpi_eq_one _ _ _).trans (by rw [row0])
theorem sameAs255_iff (s : IVec S256x1 32) (i : Fin 256) : sameAs255 s (ix2 i 0) = 1#1 ↔ s (ix2 i 0) = s (ix2 255 0) := by
  unfold sameAs255
  exact (Scan.cmpi_eq_one _ _ _).trans (by rw [row255])

/-- What the heads and tails add to the scan, half beside half. -/
def edges (s1 s2 : IVec S256x1 32) (x6 x7 x8 x9 : Vec Ideal S1x1x64 .f32) : FVec Ideal S256x128 .f32 :=
  concatenate S256x128 1 [⟨S256x64, maximumf (edge (sameAs0 s1) x6) (edge (sameAs255 s1) x8)⟩, ⟨S256x64, maximumf (edge (sameAs0 s2) x7) (edge (sameAs255 s2) x9)⟩]
    concatenates_S256x64_S256x64_S256x128_d1

/-- A (1,128) row spread over all rows. -/
def spread (x : Vec Ideal S1x128 .f32) : FVec Ideal S256x128 .f32 :=
  broadcastTo S256x128 (shapeCast S1x128 x shapeCasts_S1x128_S1x128) broadcasts_S1x128_S256x128
theorem spread_row (x : Vec Ideal S1x128 .f32) (i : Fin 256) (l : Fin 128) : spread x (ix2 i l) = x (ix2 0 l) := by
  unfold spread
  pointwise

/-- The scan joined with the heads and tails. -/
def top2 (v : Vec Ideal S256x128 .f32) (s : Vec Ideal S512x1 .i32) (x6 x7 x8 x9 : Vec Ideal S1x1x64 .f32) : FVec Ideal S256x128 .f32 :=
  maximumf (scan2 v s) (edges (k2_pay3 s) (k2_pay4 s) x6 x7 x8 x9)

theorem t2_eq (v : Vec Ideal S256x128 .f32) (s : Vec Ideal S512x1 .i32) (x4 : Vec Ideal S1x128 .f32) (x6 x7 x8 x9 : Vec Ideal S1x1x64 .f32) :
    t2 v s x4 x6 x7 x8 x9 = mulf (top2 v s x6 x7 x8 x9) (spread x4) := by
  unfold t2 top2 edges
  generalize scan2 v s = u
  rw [show k2_pay49 (F := Ideal) (k2_pay3 s) x6 = edge (sameAs0 (k2_pay3 s)) x6 from by unfold k2_pay49; rfl]
  unfold k2_pay53 k2_pay50 k2_pay51
  rfl

variable (v : Vec Ideal S256x128 .f32) (s : Vec Ideal S512x1 .i32) (x4 x5 : Vec Ideal S1x128 .f32) (x6 x7 x8 x9 : Vec Ideal S1x1x64 .f32)

/-- The head and the tail of half `b`. -/
def pick (b : Fin 2) (x y : Vec Ideal S1x1x64 .f32) : Vec Ideal S1x1x64 .f32 := if b = 0 then x else y

theorem edges_le (b : Fin 2) (i : Fin 256) (k : Fin 64) (c : EReal) :
    edges (k2_pay3 s) (k2_pay4 s) x6 x7 x8 x9 (ix2 i (lk b k)) ≤ c ↔
      (s (ix2 (rk b i) 0) = s (ix2 (rk b 0) 0) → pick b x6 x7 (ix3 0 0 k) ≤ c) ∧
      (s (ix2 (rk b i) 0) = s (ix2 (rk b 255) 0) → pick b x8 x9 (ix3 0 0 k) ≤ c) := by
  unfold edges
  obtain rfl | rfl : b = 1 ∨ b = 0 := by omega
  · have e := Scan.beside_right (maximumf (edge (sameAs0 (k2_pay3 s)) x6) (edge (sameAs255 (k2_pay3 s)) x8)) (maximumf (edge (sameAs0 (k2_pay4 s)) x7) (edge (sameAs255 (k2_pay4 s)) x9))
      concatenates_S256x64_S256x64_S256x128_d1 i (lk 1 k) (lk_ge k)
    have ek : (⟨(lk 1 k).val - 64, by omega⟩ : Fin 64) = k := Fin.ext (by show 64 * 1 + k.val - 64 = k.val; omega)
    rw [ek] at e
    refine (iff_of_eq (congrArg (· ≤ c) e)).trans ?_
    refine (max_le_iff (a := edge (sameAs0 (k2_pay4 s)) x7 (ix2 i k)) (b := edge (sameAs255 (k2_pay4 s)) x9 (ix2 i k)) (c := c)).trans ?_
    rw [edge_le, edge_le, sameAs0_iff, sameAs255_iff, s2_hi, s2_hi, s2_hi]
    rfl
  · have e := Scan.beside_left (maximumf (edge (sameAs0 (k2_pay3 s)) x6) (edge (sameAs255 (k2_pay3 s)) x8)) (maximumf (edge (sameAs0 (k2_pay4 s)) x7) (edge (sameAs255 (k2_pay4 s)) x9))
      concatenates_S256x64_S256x64_S256x128_d1 i (lk 0 k) (lk_lt k)
    have ek : (⟨(lk 0 k).val, lk_lt k⟩ : Fin 64) = k := Fin.ext (by show 64 * 0 + k.val = k.val; omega)
    rw [ek] at e
    refine (iff_of_eq (congrArg (· ≤ c) e)).trans ?_
    refine (max_le_iff (a := edge (sameAs0 (k2_pay3 s)) x6 (ix2 i k)) (b := edge (sameAs255 (k2_pay3 s)) x8 (ix2 i k)) (c := c)).trans ?_
    rw [edge_le, edge_le, sameAs0_iff, sameAs255_iff, s2_lo, s2_lo, s2_lo]
    rfl

/-- The joined maximum of row `i` of half `b`. -/
theorem top2_le (b : Fin 2) (k : Fin 64) (hseg : Scan.Consec (fun i : Fin 256 => s (ix2 (rk b i) 0))) (i : Fin 256) (c : EReal) :
    top2 v s x6 x7 x8 x9 (ix2 i (lk b k)) ≤ c ↔
      (∀ j : Fin 256, s (ix2 (rk b j) 0) = s (ix2 (rk b i) 0) → v (ix2 j (lk b k)) ≤ c) ∧
      (s (ix2 (rk b i) 0) = s (ix2 (rk b 0) 0) → pick b x6 x7 (ix3 0 0 k) ≤ c) ∧
      (s (ix2 (rk b i) 0) = s (ix2 (rk b 255) 0) → pick b x8 x9 (ix3 0 0 k) ≤ c) := by
  unfold top2
  have hs : Scan.side (k2_pay3 s) (k2_pay4 s) (lk b k) = fun i : Fin 256 => s (ix2 (rk b i) 0) := funext (side_eq s b k)
  refine (max_le_iff (a := scan2 v s (ix2 i (lk b k))) (b := edges (k2_pay3 s) (k2_pay4 s) x6 x7 x8 x9 (ix2 i (lk b k))) (c := c)).trans ?_
  rw [scan2_le v s (lk b k) (hs ▸ hseg), edges_le, hs]

theorem y2_apply (i : Fin 256) (l : Fin 128) : y2 v x4 x5 (ix2 i l) = max (v (ix2 i l) * x4 (ix2 0 l) + x5 (ix2 0 l)) 0 := by
  have e : y2 v x4 x5 = maximumf (addf (mulf v (spread x4)) (spread x5)) (broadcast S256x128 (Scalar.ofBits (F := Ideal) .f32 0x00000000#32)) := by
    unfold y2 k2_pay52; rfl
  rw [e, ValueIdx.maximumf_apply, ValueIdx.addf_apply, ValueIdx.mulf_apply, spread_row, spread_row]
  exact congrArg (max _) zero32

theorem pay54_apply (t : FVec Ideal S256x128 .f32) (i : Fin 256) (l : Fin 128) : k2_pay54 t x5 (ix2 i l) = max (t (ix2 i l) + x5 (ix2 0 l)) 0 := by
  have e : k2_pay54 t x5 = maximumf (addf t (spread x5)) (broadcast S256x128 (Scalar.ofBits (F := Ideal) .f32 0x00000000#32)) := by
    unfold k2_pay54; rfl
  rw [e, ValueIdx.maximumf_apply, ValueIdx.addf_apply, spread_row]
  exact congrArg (max _) zero32

/-- A quarter of a (256,128) array: the lanes of half `b`. -/
theorem quarter0 (x : FVec Ideal S256x128 .f32) (i : Fin 256) (k : Fin 64) : extractStridedSlice S256x64 ![0, 0] x slices_S256x128_o0_0_S256x64 (ix2 i k) = x (ix2 i (lk 0 k)) :=
  extractStridedSlice_apply _ x slices_S256x128_o0_0_S256x64 _ _ (fun a => match a with
    | ⟨0, _⟩ => (by show i.val = 0 + i.val; omega) | ⟨1, _⟩ => (by show 64 * 0 + k.val = 0 + k.val; omega))
theorem quarter1 (x : FVec Ideal S256x128 .f32) (i : Fin 256) (k : Fin 64) : extractStridedSlice S256x64 ![0, 64] x slices_S256x128_o0_64_S256x64 (ix2 i k) = x (ix2 i (lk 1 k)) :=
  extractStridedSlice_apply _ x slices_S256x128_o0_64_S256x64 _ _ (fun a => match a with
    | ⟨0, _⟩ => (by show i.val = 0 + i.val; omega) | ⟨1, _⟩ => rfl)

/-- The output block, in closed form. -/
def whole2 (y t : FVec Ideal S256x128 .f32) (p : S512x128.Idx) : EReal :=
  let b : Fin 2 := ⟨(p 0).val / 256, Nat.div_lt_of_lt_mul (p 0).isLt⟩
  let i : Fin 256 := ⟨(p 0).val % 256, Nat.mod_lt _ (by norm_num)⟩
  let k : Fin 64 := ⟨(p 1).val % 64, Nat.mod_lt _ (by norm_num)⟩
  if (p 1).val < 64 then y (ix2 i (lk b k)) else t (ix2 i (lk b k))

theorem whole2_eq (y t : FVec Ideal S256x128 .f32) (p : S512x128.Idx) (b : Fin 2) (i : Fin 256) (k : Fin 64) (h0 : (p 0).val = 256 * b.val + i.val) :
    ((p 1).val = k.val → whole2 y t p = y (ix2 i (lk b k))) ∧ ((p 1).val = 64 + k.val → whole2 y t p = t (ix2 i (lk b k))) := by
  have eb : (⟨(p 0).val / 256, Nat.div_lt_of_lt_mul (p 0).isLt⟩ : Fin 2) = b := Fin.ext (by show (p 0).val / 256 = b.val; omega)
  have ei : (⟨(p 0).val % 256, Nat.mod_lt _ (by norm_num)⟩ : Fin 256) = i := Fin.ext (by show (p 0).val % 256 = i.val; omega)
  unfold whole2
  refine ⟨fun h1 => ?_, fun h1 => ?_⟩
  · have ek : (⟨(p 1).val % 64, Nat.mod_lt _ (by norm_num)⟩ : Fin 64) = k := Fin.ext (by show (p 1).val % 64 = k.val; omega)
    dsimp only
    rw [if_pos (by omega), eb, ei, ek]
  · have ek : (⟨(p 1).val % 64, Nat.mod_lt _ (by norm_num)⟩ : Fin 64) = k := Fin.ext (by show (p 1).val % 64 = k.val; omega)
    dsimp only
    rw [if_neg (by omega), eb, ei, ek]

theorem out2_eq (p : S512x128.Idx) : out2 v s x4 x5 x6 x7 x8 x9 p = whole2 (y2 v x4 x5) (k2_pay54 (t2 v s x4 x6 x7 x8 x9) x5) p := by
  unfold out2
  generalize y2 v x4 x5 = y
  generalize t2 v s x4 x6 x7 x8 x9 = t
  refine View.canon_apply_of_pieces (Val := Elt Ideal) (whole2 y (k2_pay54 t x5)) _ ?_ p (cover2 _ _ _ _ p)
  intro pc hpc x
  rcases List.mem_cons.mp hpc with rfl | hpc
  · refine Eq.trans ?_ ((whole2_eq _ _ _ 1 (x 0) (x 1) (by show 256 + 1 * (x 0).val = _; show _ = 256 * 1 + (x 0).val; omega)).2 (by show 64 + 1 * (x 1).val = 64 + (x 1).val; omega)).symm
    exact (congrArg (k2_pay58 t x5) (eq_ix2 x)).trans (by unfold k2_pay58; exact quarter1 _ (x 0) (x 1))
  rcases List.mem_cons.mp hpc with rfl | hpc
  · refine Eq.trans ?_ ((whole2_eq _ _ _ 1 (x 0) (x 1) (by show 256 + 1 * (x 0).val = _; show _ = 256 * 1 + (x 0).val; omega)).1 (by show 0 + 1 * (x 1).val = (x 1).val; omega)).symm
    exact (congrArg (k2_pay57 y) (eq_ix2 x)).trans (by unfold k2_pay57; exact quarter1 _ (x 0) (x 1))
  rcases List.mem_cons.mp hpc with rfl | hpc
  · refine Eq.trans ?_ ((whole2_eq _ _ _ 0 (x 0) (x 1) (by show 0 + 1 * (x 0).val = _; show _ = 256 * 0 + (x 0).val; omega)).2 (by show 64 + 1 * (x 1).val = 64 + (x 1).val; omega)).symm
    exact (congrArg (k2_pay56 t x5) (eq_ix2 x)).trans (by unfold k2_pay56; exact quarter0 _ (x 0) (x 1))
  rcases List.mem_cons.mp hpc with rfl | hpc
  · refine Eq.trans ?_ ((whole2_eq _ _ _ 0 (x 0) (x 1) (by show 0 + 1 * (x 0).val = _; show _ = 256 * 0 + (x 0).val; omega)).1 (by show 0 + 1 * (x 1).val = (x 1).val; omega)).symm
    exact (congrArg (k2_pay55 y) (eq_ix2 x)).trans (by unfold k2_pay55; exact quarter0 _ (x 0) (x 1))
  nomatch hpc

/-- The output block at row `i` of half `b`: the left lanes, -/
theorem out2_left (b : Fin 2) (i : Fin 256) (k : Fin 64) : out2 v s x4 x5 x6 x7 x8 x9 (ix2 (rk b i) (left k)) =
    max (v (ix2 i (lk b k)) * x4 (ix2 0 (lk b k)) + x5 (ix2 0 (lk b k))) 0 := by
  rw [out2_eq, (whole2_eq _ _ _ b i k rfl).1 rfl, y2_apply]
/-- and the right lanes. -/
theorem out2_right (b : Fin 2) (i : Fin 256) (k : Fin 64) : out2 v s x4 x5 x6 x7 x8 x9 (ix2 (rk b i) (right k)) =
    max (top2 v s x6 x7 x8 x9 (ix2 i (lk b k)) * x4 (ix2 0 (lk b k)) + x5 (ix2 0 (lk b k))) 0 := by
  rw [out2_eq, (whole2_eq _ _ _ b i k rfl).2 rfl, pay54_apply, t2_eq, ValueIdx.mulf_apply, spread_row]

/-- The product stored in the slot: row `i` of half `b`, in that half's lanes. -/
theorem prod2_apply (x : FVec Ideal S512x128 .f32) (w : FVec Ideal S128x64 .f32) (b : Fin 2) (i : Fin 256) (k : Fin 64) :
    k2_pay1 (k2_pay59 x w w) (ix2 i (lk b k)) = ∑ j : Fin 128, x (ix2 (rk b i) j) * w (ix2 j k) := by
  unfold k2_pay1 k2_pay59
  rw [shapeCast_self, shapeCast_self]
  have hm : ∀ y : FVec Ideal S256x128 .f32, matmul dot_S256x128_S128x64_S256x64_1_0_0_1_n_n none y w (constant S256x64 .f32 0x00000000#32) (ix2 i k) = ∑ j : Fin 128, y (ix2 i j) * w (ix2 j k) := fun y => by
    refine (Ideal.matmul_plain_apply none y w (constant S256x64 .f32 0x00000000#32) i k).trans ?_
    exact (congrArg (· + _) Consts.zero).trans (zero_add _)
  obtain rfl | rfl : b = 1 ∨ b = 0 := by omega
  · have ek : (⟨(lk 1 k).val - 64, by omega⟩ : Fin 64) = k := Fin.ext (by show 64 * 1 + k.val - 64 = k.val; omega)
    refine (Scan.beside_right _ _ concatenates_S256x64_S256x64_S256x128_d1 i (lk 1 k) (lk_ge k)).trans ?_
    rw [ek, hm]
    refine Finset.sum_congr rfl fun j _ => congrArg (· * _) ?_
    exact extractStridedSlice_apply _ x slices_S512x128_o256_0_S256x128 _ _ (fun a => match a with
      | ⟨0, _⟩ => rfl | ⟨1, _⟩ => (by show j.val = 0 + j.val; omega))
  · have ek : (⟨(lk 0 k).val, lk_lt k⟩ : Fin 64) = k := Fin.ext (by show 64 * 0 + k.val = k.val; omega)
    refine (Scan.beside_left _ _ concatenates_S256x64_S256x64_S256x128_d1 i (lk 0 k) (lk_lt k)).trans ?_
    rw [ek, hm]
    refine Finset.sum_congr rfl fun j _ => congrArg (· * _) ?_
    exact extractStridedSlice_apply _ x slices_S512x128_o0_0_S256x128 _ _ (fun a => match a with
      | ⟨0, _⟩ => (by show 256 * 0 + i.val = 0 + i.val; omega) | ⟨1, _⟩ => (by show j.val = 0 + j.val; omega))

end Cert.KernelIdeal.Gen
-- ==== Proof.Value.Array2.lean ====
/- The third kernel's result array, read at an index: in the left lanes the row's own value, in the right lanes the
   value of the largest product of the row's segment, put together from the run's own rows, the head and the tail. -/
module

public import proofs.«01_k».proof.Proof.Value.Block2
public import proofs.«01_k».proof.Proof.Value.Array0
public import proofs.«01_k».proof.Proof.KernelIdeal.Region2
public import Idealize.ShloMosaic.Lib.Pipeline.ValueKit

@[expose] public section

noncomputable section

namespace Cert.KernelIdeal.Gen

open Idealize.ShloMosaic Idealize.ShloMosaic.TcCoe
open Idealize.ShloMosaic.Pipeline (Dat)

theorem idx2_0 : ∀ t : Fin cfg2.N, win2_0.index t = ![min t.val 624, 0] := (by decide +kernel : ∀ t : Fin grid2.N, _)
theorem idx2_1 : ∀ t : Fin cfg2.N, win2_1.index t = ![0, 0] := (by decide +kernel : ∀ t : Fin grid2.N, _)
theorem idx2_2 : ∀ t : Fin cfg2.N, win2_2.index t = ![t.val - 1, 0] := (by decide +kernel : ∀ t : Fin grid2.N, _)
theorem idx2_3 : ∀ t : Fin cfg2.N, win2_3.index t = ![0, 0] := (by decide +kernel : ∀ t : Fin grid2.N, _)
theorem idx2_4 : ∀ t : Fin cfg2.N, win2_4.index t = ![0, 0] := (by decide +kernel : ∀ t : Fin grid2.N, _)
theorem idx2_5 : ∀ t : Fin cfg2.N, win2_5.index t = ![2 * t.val - 2, 0, 0] := (by decide +kernel : ∀ t : Fin grid2.N, _)
theorem idx2_6 : ∀ t : Fin cfg2.N, win2_6.index t = ![2 * t.val - 1, 0, 0] := (by decide +kernel : ∀ t : Fin grid2.N, _)
theorem idx2_7 : ∀ t : Fin cfg2.N, win2_7.index t = ![2 * t.val - 2, 0, 0] := (by decide +kernel : ∀ t : Fin grid2.N, _)
theorem idx2_8 : ∀ t : Fin cfg2.N, win2_8.index t = ![2 * t.val - 1, 0, 0] := (by decide +kernel : ∀ t : Fin grid2.N, _)
theorem idx2_9 : ∀ t : Fin cfg2.N, win2_9.index t = ![t.val - 1, 0] := (by decide +kernel : ∀ t : Fin grid2.N, _)

variable (V : (c : Dev nD) → (b : Ref sig .tc) → Buf (Elt Ideal) ((c : Thread nD τ).loc b)) (c : Dev nD)

/-- The rows that point `t` fetches, -/
theorem iblk2_0_apply (t : Fin cfg2.N) (u : Fin 625) (hu : u.val = min t.val 624) (r : Fin 512) (j : Fin 128) :
    iblk2 V c 0 t (ix2 r j) = V c main_arg0 (ix2 (brow u r) j) := by
  blk_simp [iblk2]
  refine congrArg (V c main_arg0) ?_
  blk_ext [idx2_0]
  show _ = 512 * u.val + r.val
  omega

/-- the matrix, -/
theorem iblk2_1_eq (t : Fin cfg2.N) : iblk2 V c 1 t = V c main_call2_v3 := by blk_ext! [iblk2, idx2_1]

/-- the segment numbers of the block before, -/
theorem iblk2_2_apply (t : Fin cfg2.N) (u : Fin 625) (hu : u.val = t.val - 1) (r : Fin 512) :
    iblk2 V c 2 t (ix2 r 0) = V c main_v0 (ix2 (brow u r) 0) := by
  blk_simp [iblk2]
  refine congrArg (V c main_v0) ?_
  blk_ext [idx2_2]
  show _ = 512 * u.val + r.val
  omega

/-- the scale and the shift of every lane, -/
theorem iblk2_3_eq (t : Fin cfg2.N) : iblk2 V c 3 t = V c main_call2_v4 := by blk_ext! [iblk2, idx2_3]
theorem iblk2_4_eq (t : Fin cfg2.N) : iblk2 V c 4 t = V c main_call2_v5 := by blk_ext! [iblk2, idx2_4]

/-- the heads of the two halves -/
theorem heads2 (t : Fin cfg2.N) (ht : t.val ≠ 0) (u : Fin 625) (hu : u.val = t.val - 1) (b : Fin 2) (k : Fin 64) :
    pick b (iblk2 V c 5 t) (iblk2 V c 6 t) (ix3 0 0 k) = V c main_call2_v1_3 (ix3 (pl (half u b)) 0 k) := by
  obtain rfl | rfl : b = 1 ∨ b = 0 := by omega
  · show iblk2 V c 6 t (ix3 0 0 k) = _
    blk_simp [iblk2]
    refine congrArg (V c main_call2_v1_3) ?_
    blk_ext [idx2_6]
    show _ = 2 * u.val + 1
    omega
  · show iblk2 V c 5 t (ix3 0 0 k) = _
    blk_simp [iblk2]
    refine congrArg (V c main_call2_v1_3) ?_
    blk_ext [idx2_5]
    show _ = 2 * u.val + 0
    omega

/-- and their tails. -/
theorem tails2 (t : Fin cfg2.N) (ht : t.val ≠ 0) (u : Fin 625) (hu : u.val = t.val - 1) (b : Fin 2) (k : Fin 64) :
    pick b (iblk2 V c 7 t) (iblk2 V c 8 t) (ix3 0 0 k) = V c main_call2_v1_4 (ix3 (pl (half u b)) 0 k) := by
  obtain rfl | rfl : b = 1 ∨ b = 0 := by omega
  · show iblk2 V c 8 t (ix3 0 0 k) = _
    blk_simp [iblk2]
    refine congrArg (V c main_call2_v1_4) ?_
    blk_ext [idx2_8]
    show _ = 2 * u.val + 1
    omega
  · show iblk2 V c 7 t (ix3 0 0 k) = _
    blk_simp [iblk2]
    refine congrArg (V c main_call2_v1_4) ?_
    blk_ext [idx2_7]
    show _ = 2 * u.val + 0
    omega

/-- Product of the signed matrix at row `p`, column `k`. -/
abbrev zv (p : Fin 320000) (k : Fin 64) : EReal := dot (V c main_arg0) (V c main_call2_v3) p k

/-- The product that point `t` stores. -/
theorem xblk2_apply (t : Fin cfg2.N) (u : Fin 625) (hu : u.val = min t.val 624) (b : Fin 2) (i : Fin 256) (k : Fin 64) :
    xblk2 V c t (ix2 i (lk b k)) = zv V c (hrow (half u b) i) k := by
  unfold xblk2
  refine (prod2_apply _ _ b i k).trans ?_
  rw [← brow_rk]
  exact Finset.sum_congr rfl fun j _ => congrArg₂ _ (iblk2_0_apply V c t u hu (rk b i) j) (congrFun (iblk2_1_eq V c t) _)

/-- The head of run `q`, and its tail. -/
abbrev hd (q : Fin 1250) (k : Fin 64) : EReal := V c main_call2_v1_3 (ix3 (pl q) 0 k)
abbrev tl (q : Fin 1250) (k : Fin 64) : EReal := V c main_call2_v1_4 (ix3 (pl q) 0 k)

/-- `T` is the largest product that row `i` of run `q` meets: over the run's rows of its segment, and the head or the
    tail where it lies in the segment of the run's first or last row. -/
def Joined (q : Fin 1250) (i : Fin 256) (k : Fin 64) (T : EReal) : Prop := ∀ x, T ≤ x ↔
  (∀ j : Fin 256, sg V c (hrow q j) = sg V c (hrow q i) → zv V c (hrow q j) k ≤ x) ∧
  (sg V c (hrow q i) = sg V c (hrow q 0) → hd V c q k ≤ x) ∧
  (sg V c (hrow q i) = sg V c (hrow q 255) → tl V c q k ≤ x)

/-- What the result array is to hold: `α` and `β` the scale and the shift of a column. -/
def Res (α β : Fin 64 → EReal) (j : S320000x128.Idx) (v : EReal) : Prop :=
  ∀ (q : Fin 1250) (i : Fin 256) (k : Fin 64), (j 0).val = 256 * q.val + i.val →
    ((j 1).val = k.val → v = max (zv V c (hrow q i) k * α k + β k) 0) ∧
    ((j 1).val = 64 + k.val → ∃ T, Joined V c q i k T ∧ v = max (T * α k + β k) 0)

theorem flush2_pos (t : Fin cfg2.N) (hf : (cfg2.win 9).flush t = true) : t.val ≠ 0 := fun h =>
  of_decide_eq_false (flush_free2 9 t hf) ⟨by decide, h⟩

/-- An index of a block, and the row that it names. -/
theorem place2 (t : Fin cfg2.N) (y : S512x128.Idx) (q : Fin 1250) (i : Fin 256)
    (h1 : (t.val - 1) * 512 + (y 0).val = 256 * q.val + i.val) :
    ∃ (u : Fin 625) (b : Fin 2), u.val = t.val - 1 ∧ y = ix2 (rk b i) (y 1) ∧ q = half u b := by
  have ht : t.val < 626 := t.isLt
  have hy : (y 0).val < 512 := (y 0).isLt
  refine ⟨⟨t.val - 1, by omega⟩, ⟨(y 0).val / 256, by omega⟩, rfl, ?_, Fin.ext ?_⟩
  · funext a
    match a with
    | ⟨0, _⟩ => exact Fin.ext (by show (y 0).val = 256 * ((y 0).val / 256) + i.val; omega)
    | ⟨1, _⟩ => rfl
  · show q.val = 2 * (t.val - 1) + (y 0).val / 256
    omega

theorem result2 (hseg : ∀ q, Scan.Consec fun i : Fin 256 => sg V c (hrow q i)) (α β : Fin 64 → EReal)
    (hα : ∀ b k, V c main_call2_v4 (ix2 0 (lk b k)) = α k) (hβ : ∀ b k, V c main_call2_v5 (ix2 0 (lk b k)) = β k)
    (j : S320000x128.Idx) : Res V c α β j ((dat2 V c).arrAt 9 cfg2.N j) := by
  refine (dat2 V c).arrAt_forall_of_covers 9 (Res V c α β) (by decide +kernel) (fun t hf y q i k h1 => ?_) j
  have ht := flush2_pos t hf
  blk_simp [idx2_9] at h1 ⊢
  rw [after2_9]
  obtain ⟨u, b, hu, hy, rfl⟩ := place2 t y q i h1
  have hs : ∀ i, iblk2 V c 2 t (ix2 (rk b i) 0) = sg V c (hrow (half u b) i) := fun i => by
    rw [iblk2_2_apply V c t u hu, brow_rk]
  have hx : ∀ i, xblk2 V c (prev2 t) (ix2 i (lk b k)) = zv V c (hrow (half u b) i) k := fun i =>
    xblk2_apply V c (prev2 t) u (by show _ = min (t.val - 1) 624; omega) b i k
  have hsegb : Scan.Consec fun i : Fin 256 => iblk2 V c 2 t (ix2 (rk b i) 0) := by
    rw [show (fun i : Fin 256 => iblk2 V c 2 t (ix2 (rk b i) 0)) = fun i : Fin 256 => sg V c (hrow (half u b) i) from funext hs]
    exact hseg _
  have ha : iblk2 V c 3 t (ix2 0 (lk b k)) = α k := (congrFun (iblk2_3_eq V c t) _).trans (hα b k)
  have hb : iblk2 V c 4 t (ix2 0 (lk b k)) = β k := (congrFun (iblk2_4_eq V c t) _).trans (hβ b k)
  refine ⟨fun h2 => ?_, fun h2 => ?_⟩
  · rw [hy, show y 1 = left k from Fin.ext h2]
    refine (out2_left _ _ _ _ _ _ _ _ b i k).trans ?_
    rw [hx, ha, hb]
  · rw [hy, show y 1 = right k from Fin.ext h2]
    refine ⟨_, fun x => ?_, (out2_right _ _ _ _ _ _ _ _ b i k).trans (by rw [ha, hb])⟩
    refine (top2_le _ _ _ _ _ _ b k hsegb i x).trans ?_
    rw [hs i, hs 0, hs 255, heads2 V c t ht u hu, tails2 V c t ht u hu]
    refine and_congr (forall_congr' fun j => ?_) Iff.rfl
    rw [hs j, hx j]

end Cert.KernelIdeal.Gen
-- ==== Proof.Value.Host.lean ====
/- The host's work around the kernels, read at an index: the segment numbers as a column, the first and last segment
   number of every run, the transposed matrix, and the scale, shift and sign laid out for the third kernel. -/
module

public import proofs.«01_k».proof.Proof.Value.Array0
public import proofs.«01_k».proof.Proof.Value.Array1
public import proofs.«01_k».proof.Proof.Value.Array2
public import proofs.«01_k».proof.Proof.KernelIdeal.Run
public import Idealize.ShloMosaic.Lib.KernelVsHost

@[expose] public section

noncomputable section

namespace Cert.KernelIdeal.Run

open Cert.KernelIdeal.Gen
open Idealize.ShloMosaic Idealize.ShloMosaic.TcCoe

variable (m : (ℓ : Loc nD τ sig) → Buf (Elt Ideal) ℓ) (c : Dev nD)

/-- The five arguments as they start. -/
abbrev xs : Vec Ideal S320000x128 .f32 := m ((c : Thread nD τ).loc main_arg0)
abbrev segs : Vec Ideal S320000 .i32 := m ((c : Thread nD τ).loc main_arg1)
abbrev mat : Vec Ideal S64x128 .f32 := m ((c : Thread nD τ).loc main_arg2)
abbrev gam : Vec Ideal S64 .f32 := m ((c : Thread nD τ).loc main_arg3)
abbrev bet : Vec Ideal S64 .f32 := m ((c : Thread nD τ).loc main_arg4)

theorem W1_v0 : W1 m c (Proc.devRef .tc main_v0) = shapeCast S320000x1 (segs m c) shapeCasts_S320000_S320000x1 := by
  unfold W1
  simp only [hostOps0]
  after_results_simp <;> rfl

theorem W1_v1 : W1 m c (Proc.devRef .tc main_v1) = Host.slice S1250 ![0] ![256] (segs m c) slicesBy_S320000_S1250_0s256 := by
  unfold W1
  simp only [hostOps0]
  after_results_simp <;> rfl

theorem W3_v3 : W3 m c (Proc.devRef .tc main_v3) = Host.slice S1250 ![255] ![256] (segs m c) slicesBy_S320000_S1250_255s256 := by
  have e : W2 m c (Proc.devRef .tc main_arg1) = segs m c := W2_args m c _ (by simp)
  rw [← e]
  unfold W3
  simp only [hostOps0_2]
  after_results_simp <;> rfl

theorem W2_v2 : ∃ v, W2 m c (Proc.devRef .tc main_v2) = pad S1256 ![0] ![6] ![0] (Host.slice S1250 ![0] ![256] (segs m c) slicesBy_S320000_S1250_0s256) v pads_S1250_S1256_060 h_S_ := by
  refine ⟨W1 m c (Proc.devRef .tc main_c), ?_⟩
  rw [← W1_v1]
  unfold W2
  simp only [hostOps0_1, StableHlo.TRef.unary, StableHlo.TRef.binary, StableHlo.TRef.toBuf, StableHlo.TRef.ofBuf, cast_eq]
  after_results_simp <;> rfl

theorem W4_v4 : ∃ v, W4 m c (Proc.devRef .tc main_v4) = pad S1256 ![0] ![6] ![0] (Host.slice S1250 ![255] ![256] (segs m c) slicesBy_S320000_S1250_255s256) v pads_S1250_S1256_060 h_S_ := by
  refine ⟨W3 m c (Proc.devRef .tc main_c_0), ?_⟩
  rw [← W3_v3]
  unfold W4
  simp only [hostOps0_3, StableHlo.TRef.unary, StableHlo.TRef.binary, StableHlo.TRef.toBuf, StableHlo.TRef.ofBuf, cast_eq]
  after_results_simp <;> rfl

/-- A padded strided slice, at a run. -/
theorem run_apply (o : Fin 256) (h : S320000.SlicesBy ![o.val] ![256] S1250) (x : Vec Ideal S320000 .i32) (v : Vec Ideal S_ .i32) (q : Fin 1250) :
    pad S1256 ![0] ![6] ![0] (Host.slice S1250 ![o.val] ![256] x h) v pads_S1250_S1256_060 h_S_ (ix1 (pl q)) = x (ix1 (hrow q o)) := by
  refine (pad_apply_of_inside _ _ _ _ _ _ _ (ix1 (pl q)) (ix1 q) (fun a => ?_)).trans ?_
  · match a with
    | ⟨0, _⟩ => show q.val = 0 + q.val * (0 + 1); omega
  · rw [Host.slice_apply]
    refine congrArg x ?_
    funext a
    match a with
    | ⟨0, _⟩ => exact Fin.ext (by show o.val + 256 * q.val = 256 * q.val + o.val; omega)

/-- A list as a column. -/
theorem column_apply (y : Vec Ideal S1256 .i32) (q : Fin 1256) : shapeCast S1256x1 y shapeCasts_S1256_S1256x1 (ix2 q 0) = y (ix1 q) := by
  pointwise

/-- The first segment number of run `q`, -/
theorem first_apply (q : Fin 1250) : W5 m c (Proc.devRef .tc main_v6) (ix2 (pl q) 0) = segs m c (ix1 (hrow q 0)) := by
  have e2 : W4 m c (Proc.devRef .tc main_v2) = W2 m c (Proc.devRef .tc main_v2) :=
    (W4_of m c main_v2 (by decide)).trans (W3_of m c main_v2 (by decide))
  have e : W5 m c (Proc.devRef .tc main_v6) = shapeCast S1256x1 (W4 m c (Proc.devRef .tc main_v2)) shapeCasts_S1256_S1256x1 := by
    unfold W5
    simp only [hostOps0_4]
    after_results_simp <;> rfl
  obtain ⟨v, hv⟩ := W2_v2 m c
  rw [e, e2, hv]
  exact (column_apply _ _).trans (run_apply 0 slicesBy_S320000_S1250_0s256 (segs m c) v q)

/-- the last one, -/
theorem last_apply (q : Fin 1250) : W5 m c (Proc.devRef .tc main_v5) (ix2 (pl q) 0) = segs m c (ix1 (hrow q 255)) := by
  have e : W5 m c (Proc.devRef .tc main_v5) = shapeCast S1256x1 (W4 m c (Proc.devRef .tc main_v4)) shapeCasts_S1256_S1256x1 := by
    unfold W5
    simp only [hostOps0_4]
    after_results_simp <;> rfl
  obtain ⟨v, hv⟩ := W4_v4 m c
  rw [e, hv]
  exact (column_apply _ _).trans (run_apply 255 slicesBy_S320000_S1250_255s256 (segs m c) v q)

/-- every row's, -/
theorem seg_apply (p : Fin 320000) : W5 m c (Proc.devRef .tc main_v0) (ix2 p 0) = segs m c (ix1 p) := by
  have e : W5 m c (Proc.devRef .tc main_v0) = W1 m c (Proc.devRef .tc main_v0) :=
    (W5_of m c main_v0 (by decide)).trans ((W4_of m c main_v0 (by decide)).trans ((W3_of m c main_v0 (by decide)).trans (W2_of m c main_v0 (by decide))))
  rw [e, W1_v0]
  generalize segs m c = y
  pointwise

/-- the matrix on its side, -/
theorem mat_apply (j : Fin 128) (k : Fin 64) : W5 m c (Proc.devRef .tc main_v7) (ix2 j k) = mat m c (ix2 k j) := by
  have e : W5 m c (Proc.devRef .tc main_v7) = transpose S128x64 [1, 0] (mat m c) transposes_S64x128_S128x64_1_0 := by
    rw [← show W4 m c (Proc.devRef .tc main_arg2) = mat m c from W4_args m c _ (by simp)]
    unfold W5
    simp only [hostOps0_4]
    after_results_simp <;> rfl
  rw [e]
  generalize mat m c = y
  pointwise

/-- and the two vectors as rows. -/
theorem gam_apply (k : Fin 64) : W5 m c (Proc.devRef .tc main_v8) (ix2 0 k) = gam m c (ix1 k) := by
  have e : W5 m c (Proc.devRef .tc main_v8) = shapeCast S1x64 (gam m c) shapeCasts_S64_S1x64 := by
    rw [← show W4 m c (Proc.devRef .tc main_arg3) = gam m c from W4_args m c _ (by simp)]
    unfold W5
    simp only [hostOps0_4]
    after_results_simp <;> rfl
  rw [e]
  generalize gam m c = y
  pointwise
theorem bet_apply (k : Fin 64) : W5 m c (Proc.devRef .tc main_v9) (ix2 0 k) = bet m c (ix1 k) := by
  have e : W5 m c (Proc.devRef .tc main_v9) = shapeCast S1x64 (bet m c) shapeCasts_S64_S1x64 := by
    rw [← show W4 m c (Proc.devRef .tc main_arg4) = bet m c from W4_args m c _ (by simp)]
    unfold W5
    simp only [hostOps0_4]
    after_results_simp <;> rfl
  rw [e]
  generalize bet m c = y
  pointwise

/-- A matrix times a row laid over it. -/
theorem times_row (y : FVec Ideal S128x64 .f32) (z : FVec Ideal S1x64 .f32) (j : Fin 128) (k : Fin 64) :
    mulf y (broadcastInDim S128x64 ![0, 1] bcast_S1x64_S128x64_0_1 z) (ix2 j k) = y (ix2 j k) * z (ix2 0 k) := by
  pointwise

/-- The matrix and the three rows that the third kernel's operands are made of. -/
abbrev mat7 : Vec Ideal S128x64 .f32 := W7 m c (Proc.devRef .tc main_v7)
abbrev abs7 : Vec Ideal S1x64 .f32 := W7 m c (Proc.devRef .tc main_call2_v1_0)
abbrev shift7 : Vec Ideal S1x64 .f32 := W7 m c (Proc.devRef .tc main_call2_v1_1)
abbrev sign7 : Vec Ideal S1x64 .f32 := W7 m c (Proc.devRef .tc main_call2_v1_2)

/-- The signed matrix that the third kernel multiplies by, -/
theorem signed_apply (j : Fin 128) (k : Fin 64) : W8 m c (Proc.devRef .tc main_call2_v3) (ix2 j k) = mat7 m c (ix2 j k) * sign7 m c (ix2 0 k) := by
  unfold W8
  simp only [hostOps2, StableHlo.TRef.unary, StableHlo.TRef.binary, StableHlo.TRef.toBuf, StableHlo.TRef.ofBuf, cast_eq]
  after_results_simp
  exact times_row (mat7 m c) (sign7 m c) j k

/-- A row of 64 lanes next to itself, at a lane of either half. -/
theorem twice_apply (y : Vec Ideal S1x64 .f32) (b : Fin 2) (k : Fin 64) :
    concatenate S1x128 1 [⟨S1x64, y⟩, ⟨S1x64, y⟩] concatenates_S1x64_S1x64_S1x128_d1 (ix2 0 (lk b k)) = y (ix2 0 k) := by
  obtain rfl | rfl : b = 1 ∨ b = 0 := by omega
  · refine (Scan.beside_right _ _ concatenates_S1x64_S1x64_S1x128_d1 0 (lk 1 k) (lk_ge k)).trans ?_
    exact congrArg y (congrArg (ix2 0) (Fin.ext (by show 64 * 1 + k.val - 64 = k.val; omega)))
  · refine (Scan.beside_left _ _ concatenates_S1x64_S1x64_S1x128_d1 0 (lk 0 k) (lk_lt k)).trans ?_
    exact congrArg y (congrArg (ix2 0) (Fin.ext (by show 64 * 0 + k.val = k.val; omega)))

/-- the scale of every lane -/
theorem scales_apply (b : Fin 2) (k : Fin 64) : W8 m c (Proc.devRef .tc main_call2_v4) (ix2 0 (lk b k)) =
    abs7 m c (ix2 0 k) := by
  unfold W8
  simp only [hostOps2, StableHlo.TRef.unary, StableHlo.TRef.binary, StableHlo.TRef.toBuf, StableHlo.TRef.ofBuf, cast_eq]
  after_results_simp
  exact twice_apply _ b k

/-- and its shift. -/
theorem shifts_apply (b : Fin 2) (k : Fin 64) : W8 m c (Proc.devRef .tc main_call2_v5) (ix2 0 (lk b k)) =
    shift7 m c (ix2 0 k) := by
  unfold W8
  simp only [hostOps2, StableHlo.TRef.unary, StableHlo.TRef.binary, StableHlo.TRef.toBuf, StableHlo.TRef.ofBuf, cast_eq]
  after_results_simp
  exact twice_apply _ b k

end Cert.KernelIdeal.Run
-- ==== Proof.Math.Groups.lean ====
/- Segments over runs: where the segment numbers ascend, the rows of a row's segment are those of its own run together with
   the runs before, reached through the run's first row, and the runs after, reached through its last. -/
module

public import proofs.«01_k».proof.Proof.Value.Array0

@[expose] public section

namespace Cert.Groups

open Cert.KernelIdeal.Gen

/-- The run of a row and the row's place in it. -/
theorem exists_hrow (p : Fin 320000) : ∃ q i, p = hrow q i :=
  ⟨⟨p.val / 256, by omega⟩, ⟨p.val % 256, by omega⟩, Fin.ext (by show p.val = 256 * (p.val / 256) + p.val % 256; omega)⟩

theorem hrow_le {q q' : Fin 1250} {i i' : Fin 256} (h : q.val < q'.val ∨ (q.val = q'.val ∧ i.val ≤ i'.val)) : hrow q i ≤ hrow q' i' := by
  show 256 * q.val + i.val ≤ 256 * q'.val + i'.val
  omega

variable (s : Fin 320000 → BitVec 32) (hs : ∀ p p', p ≤ p' → (s p).toNat ≤ (s p').toNat) (z : Fin 320000 → EReal)

include hs

/-- Between two rows of a segment there are only rows of it. -/
theorem between {a b c : Fin 320000} (h1 : a ≤ b) (h2 : b ≤ c) (h : s a = s c) : s b = s a := by
  have e1 := hs a b h1
  have e2 := hs b c h2
  rw [← h] at e2
  exact BitVec.eq_of_toNat_eq (Nat.le_antisymm e2 e1)

/-- What the head of run `q` is below: the earlier runs that end with the segment that the run begins with. -/
def HeadLe (q : Fin 1250) (x : EReal) : Prop :=
  ∀ q' : Fin 1250, q'.val + 1 = q.val → s (hrow q' 255) = s (hrow q 0) → ∀ j : Fin 1250, j ≤ q' → s (hrow j 255) = s (hrow q' 255) →
    ∀ i, s (hrow j i) = s (hrow j 255) → z (hrow j i) ≤ x

/-- What its tail is below: the later runs that begin with the segment that the run ends with. -/
def TailLe (q : Fin 1250) (x : EReal) : Prop :=
  ∀ q' : Fin 1250, q.val + 1 = q'.val → s (hrow q' 0) = s (hrow q 255) → ∀ j : Fin 1250, q' ≤ j → s (hrow j 0) = s (hrow q' 0) →
    ∀ i, s (hrow j i) = s (hrow j 0) → z (hrow j i) ≤ x

/-- A run's own rows, its head and its tail make up the whole segment. -/
theorem whole (q : Fin 1250) (i : Fin 256) (x : EReal) :
    ((∀ j : Fin 256, s (hrow q j) = s (hrow q i) → z (hrow q j) ≤ x) ∧
      (s (hrow q i) = s (hrow q 0) → HeadLe s z q x) ∧ (s (hrow q i) = s (hrow q 255) → TailLe s z q x)) ↔
    ∀ p, s p = s (hrow q i) → z p ≤ x := by
  constructor
  · rintro ⟨h1, h2, h3⟩ p hp
    obtain ⟨j, r, rfl⟩ := exists_hrow p
    rcases lt_trichotomy j.val q.val with h | h | h
    · have e0 : s (hrow q 0) = s (hrow j r) := between s hs (hrow_le (.inl h)) (hrow_le (.inr ⟨rfl, Nat.zero_le _⟩)) hp
      have hq' : q.val - 1 < 1250 := by omega
      have e1 : s (hrow ⟨q.val - 1, hq'⟩ 255) = s (hrow j r) :=
        between s hs (hrow_le (by show j.val < q.val - 1 ∨ (j.val = q.val - 1 ∧ r.val ≤ 255); omega)) (hrow_le (.inl (by show q.val - 1 < q.val; omega))) hp
      have e2 : s (hrow j 255) = s (hrow j r) :=
        between s hs (hrow_le (.inr ⟨rfl, by show r.val ≤ 255; omega⟩)) (hrow_le (.inl h)) hp
      exact h2 (hp.symm.trans e0.symm) ⟨q.val - 1, hq'⟩ (by show q.val - 1 + 1 = q.val; omega) (e1.trans e0.symm) j
        (by show j.val ≤ q.val - 1; omega) (e2.trans e1.symm) r e2.symm
    · obtain rfl : j = q := Fin.ext h
      exact h1 r hp
    · have e0 : s (hrow q 255) = s (hrow q i) := between s hs (hrow_le (.inr ⟨rfl, by show i.val ≤ 255; omega⟩)) (hrow_le (.inl h)) hp.symm
      have hq' : q.val + 1 < 1250 := by omega
      have e1 : s (hrow ⟨q.val + 1, hq'⟩ 0) = s (hrow q i) :=
        between s hs (hrow_le (.inl (by show q.val < q.val + 1; omega))) (hrow_le (by show q.val + 1 < j.val ∨ (q.val + 1 = j.val ∧ 0 ≤ r.val); omega)) hp.symm
      have e2 : s (hrow j 0) = s (hrow q i) := between s hs (hrow_le (.inl h)) (hrow_le (.inr ⟨rfl, Nat.zero_le _⟩)) hp.symm
      exact h3 e0.symm ⟨q.val + 1, hq'⟩ rfl (e1.trans e0.symm) j (by show q.val + 1 ≤ j.val; omega) (e2.trans e1.symm) r (hp.trans e2.symm)
  · intro h
    refine ⟨fun j hj => h _ hj, fun hi q' _ e j _ e' r hr => h _ ?_, fun hi q' _ e j _ e' r hr => h _ ?_⟩
    · exact hr.trans (e'.trans (e.trans hi.symm))
    · exact hr.trans (e'.trans (e.trans hi.symm))

/-- Within a run the rows of a segment are consecutive, -/
theorem consec_run (q : Fin 1250) : Scan.Consec fun i : Fin 256 => s (hrow q i) := fun a b c h1 h2 h =>
  between s hs (hrow_le (.inr ⟨rfl, h1⟩)) (hrow_le (.inr ⟨rfl, h2⟩)) h

/-- and so are the runs, going by a row of theirs, followed by padding that no segment has for its number. -/
theorem consec_runs (r : Fin 256) (d : BitVec 32) (hd : ∀ p, s p ≠ d) (g : Fin 1256 → BitVec 32)
    (hg : ∀ q : Fin 1250, g (pl q) = s (hrow q r)) (hp : ∀ q : Fin 1256, ¬ q.val < 1250 → g q = d) : Scan.Consec g := by
  have key : ∀ q : Fin 1256, ∀ h : q.val < 1250, g q = s (hrow ⟨q.val, h⟩ r) := fun q h => hg ⟨q.val, h⟩
  intro a b c h1 h2 h
  have h1' : a.val ≤ b.val := h1
  have h2' : b.val ≤ c.val := h2
  by_cases hc : c.val < 1250
  · rw [key a (by omega), key c hc] at h
    rw [key a (by omega), key b (by omega)]
    refine between s hs (hrow_le ?_) (hrow_le ?_) h
    · show a.val < b.val ∨ (a.val = b.val ∧ r.val ≤ r.val); omega
    · show b.val < c.val ∨ (b.val = c.val ∧ r.val ≤ r.val); omega
  · by_cases ha : a.val < 1250
    · exact absurd ((key a ha).symm.trans (h.trans (hp c hc))) (hd _)
    · rw [hp a ha, hp b (by omega)]

end Cert.Groups
-- ==== Proof.Math.Equation.lean ====
/- The equation between the two ways of normalising a column: the kernel's scale and shift, with the sign moved into the
   matrix, and the reference's difference from the mean over the deviation. -/
module

public import proofs.«01_k».proof.Proof.Math.Consts
public import Mathlib.Data.EReal.Operations
public import Mathlib.Tactic.Ring
public import Mathlib.Tactic.FieldSimp
public import Mathlib.Tactic.Positivity

@[expose] public section

noncomputable section

namespace Cert.Equation

open Idealize.ShloMosaic

/-- A finite sum of reals, as an extended real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The mean of the squares less the square of the mean is the mean of the squared differences from the mean. -/
theorem variance {ι : Type} [Fintype ι] (n : ℝ) (hn : n ≠ 0) (hc : (Fintype.card ι : ℝ) = n) (x : ι → ℝ) :
    (∑ i, x i * x i) / n - (∑ i, x i) / n * ((∑ i, x i) / n) = (∑ i, (x i - (∑ i, x i) / n) * (x i - (∑ i, x i) / n)) / n := by
  have h : ∀ μ : ℝ, ∑ i, (x i - μ) * (x i - μ) = (∑ i, x i * x i) - 2 * μ * (∑ i, x i) + n * (μ * μ) := fun μ => by
    have e : ∀ i, (x i - μ) * (x i - μ) = x i * x i - 2 * μ * x i + μ * μ := fun i => by ring
    rw [Finset.sum_congr rfl fun i _ => e i, Finset.sum_add_distrib, Finset.sum_sub_distrib, ← Finset.mul_sum, Finset.sum_const,
      Finset.card_univ, nsmul_eq_mul, hc]
  rw [h]
  field_simp
  ring

/-- Division of a real by a nonzero real. -/
theorem div_real (x : ℝ) {y : ℝ} (h : y ≠ 0) : Ideal.div (x : EReal) (y : EReal) = ((x / y : ℝ) : EReal) := by
  rw [Ideal.div_coe h, ← EReal.coe_mul, mul_one_div]

theorem sqrt_real {x : ℝ} (h : 0 ≤ x) : Ideal.sqrt (x : EReal) = ((Real.sqrt x : ℝ) : EReal) := by
  rw [Ideal.sqrt_coe, if_neg (not_lt.mpr h)]

theorem rsqrt_real {x : ℝ} (h : 0 < x) : Ideal.rsqrt (x : EReal) = (((Real.sqrt x)⁻¹ : ℝ) : EReal) := by
  rw [Ideal.rsqrt_coe, if_neg (not_lt.mpr h.le), if_neg h.ne']

/-- The sign of a real as the kernel takes it. -/
def sign (s : ℝ) : ℝ := if 0 ≤ s then 1 else -1

theorem sign_mul_abs (s : ℝ) : sign s * max s (-s) = s := by
  unfold sign
  split
  · next h => rw [max_eq_left (by linarith), one_mul]
  · next h => rw [max_eq_right (by linarith)]; ring

section column

variable {ι : Type} [Fintype ι] (n e : ℝ) (hn : 0 < n) (hc : (Fintype.card ι : ℝ) = n) (he : 0 < e) (x : ι → ℝ) (γ : ℝ)

/-- Mean, -/
def mean : ℝ := (∑ i, x i) / n
/-- variance -/
def var : ℝ := (∑ i, (x i - mean n x) * (x i - mean n x)) / n
/-- and scale of a column. -/
def scale : ℝ := γ * (Real.sqrt (var n x + e))⁻¹

theorem mean_eq (hn : 0 < n) : Ideal.div (∑ i, ((x i : ℝ) : EReal)) (n : EReal) = ((mean n x : ℝ) : EReal) := by
  rw [coe_sum, div_real _ hn.ne']; rfl

theorem var_nonneg (hn : 0 < n) : 0 ≤ var n x := div_nonneg (Finset.sum_nonneg fun i _ => mul_self_nonneg _) hn.le

include hn hc he in
/-- The kernel's scale. -/
theorem scale_eq : (γ : EReal) * Ideal.rsqrt (Ideal.div (∑ i, ((x i : ℝ) : EReal) * ((x i : ℝ) : EReal)) (n : EReal)
    - ((mean n x : ℝ) : EReal) * ((mean n x : ℝ) : EReal) + (e : EReal)) = ((scale n e x γ : ℝ) : EReal) := by
  have h : ∑ i, ((x i : ℝ) : EReal) * ((x i : ℝ) : EReal) = ((∑ i, x i * x i : ℝ) : EReal) := by
    rw [← coe_sum]; exact Finset.sum_congr rfl fun i _ => (EReal.coe_mul _ _).symm
  rw [h, div_real _ hn.ne', ← EReal.coe_mul, ← EReal.coe_sub, ← EReal.coe_add]
  have hv : (∑ i, x i * x i) / n - mean n x * mean n x = var n x := variance n hn.ne' hc x
  rw [hv, rsqrt_real (by have := var_nonneg n x hn; linarith), ← EReal.coe_mul]
  rfl

include hn he in
/-- The reference's deviation. -/
theorem sigma_eq : Ideal.sqrt (Ideal.div (∑ i, (((x i : ℝ) : EReal) - ((mean n x : ℝ) : EReal)) * (((x i : ℝ) : EReal) - ((mean n x : ℝ) : EReal))) (n : EReal) + (e : EReal))
    = ((Real.sqrt (var n x + e) : ℝ) : EReal) := by
  have h : ∑ i, (((x i : ℝ) : EReal) - ((mean n x : ℝ) : EReal)) * (((x i : ℝ) : EReal) - ((mean n x : ℝ) : EReal))
      = ((∑ i, (x i - mean n x) * (x i - mean n x) : ℝ) : EReal) := by
    rw [← coe_sum]; exact Finset.sum_congr rfl fun i _ => by rw [EReal.coe_mul, EReal.coe_sub]
  rw [h, div_real _ hn.ne', ← EReal.coe_add]
  exact sqrt_real (by have := var_nonneg n x hn; unfold var at this; linarith)

include hn he in
/-- Scale and shift give the normalised value, whatever the shift `β`. -/
theorem affine (i : ι) (β : EReal) :
    ((x i * sign (scale n e x γ) : ℝ) : EReal) * ((max (scale n e x γ) (-(scale n e x γ)) : ℝ) : EReal)
        + (β - ((mean n x : ℝ) : EReal) * ((scale n e x γ : ℝ) : EReal))
      = (γ : EReal) * Ideal.div (((x i : ℝ) : EReal) - ((mean n x : ℝ) : EReal)) ((Real.sqrt (var n x + e) : ℝ) : EReal) + β := by
  have hs : 0 < Real.sqrt (var n x + e) := Real.sqrt_pos.mpr (by have := var_nonneg n x hn; linarith)
  rw [← EReal.coe_sub, div_real _ hs.ne', ← EReal.coe_mul, ← EReal.coe_mul, ← EReal.coe_mul, mul_assoc, sign_mul_abs]
  rw [sub_eq_add_neg, add_comm β, ← add_assoc, ← EReal.coe_neg, ← EReal.coe_add]
  refine congrArg (fun t : ℝ => (t : EReal) + β) ?_
  unfold scale
  field_simp
  ring

end column

/-- The largest of finitely many values, one at least, is one of them. -/
theorem attained {ι : Type} [Fintype ι] (S : ι → Prop) (p : ι) (hp : S p) (z : ι → EReal) (T : EReal)
    (hT : ∀ x, T ≤ x ↔ ∀ i, S i → z i ≤ x) : ∃ i, S i ∧ T = z i ∧ ∀ j, S j → z j ≤ z i := by
  classical
  obtain ⟨i, hi, hmax⟩ := Finset.exists_max_image (Finset.univ.filter S) z ⟨p, by simp [hp]⟩
  have hi' : S i := by simpa using hi
  have hm : ∀ j, S j → z j ≤ z i := fun j hj => hmax j (by simp [hj])
  exact ⟨i, hi', le_antisymm ((hT _).mpr hm) ((hT T).mp le_rfl i hi'), hm⟩

/-- The value of the largest is the largest of the values: scale not negative, shift, cut at zero. -/
theorem mono {a b : EReal} {s : ℝ} (hs : 0 ≤ s) (h : a ≤ b) (β : EReal) : max (a * (s : EReal) + β) 0 ≤ max (b * (s : EReal) + β) 0 :=
  max_le_max (add_le_add (mul_le_mul_of_nonneg_right h (by exact_mod_cast hs)) le_rfl) le_rfl

end Cert.Equation
-- ==== Proof.Value.Kernel.lean ====
/- What the whole kernel computes from its arguments, where these are finite and the segment numbers ascend: the scale, the
   shift and the sign of every column, and the heads and tails of every run. -/
module

public import proofs.«01_k».proof.Proof.Value.Host
public import proofs.«01_k».proof.Proof.Math.Groups
public import proofs.«01_k».proof.Proof.Math.Equation

@[expose] public section

noncomputable section

namespace Cert.KernelIdeal.Run

open Cert.KernelIdeal.Gen Cert.Equation
open Idealize.ShloMosaic Idealize.ShloMosaic.TcCoe

variable (m : (ℓ : Loc nD τ sig) → Buf (Elt Ideal) ℓ) (c : Dev nD)

/-- The second kernel's operands. -/
abbrev sum6 : Vec Ideal S1x64 .f32 := W6 m c (Proc.devRef .tc main_call2_v0_0)
abbrev sq6 : Vec Ideal S1x64 .f32 := W6 m c (Proc.devRef .tc main_call2_v0_1)
abbrev gam6 : Vec Ideal S1x64 .f32 := W6 m c (Proc.devRef .tc main_v8)
abbrev bet6 : Vec Ideal S1x64 .f32 := W6 m c (Proc.devRef .tc main_v9)
abbrev first6 : Vec Ideal S1256x1 .i32 := W6 m c (Proc.devRef .tc main_v6)
abbrev last6 : Vec Ideal S1256x1 .i32 := W6 m c (Proc.devRef .tc main_v5)
abbrev pmax6 : Vec Ideal S1256x1x64 .f32 := W6 m c (Proc.devRef .tc main_call2_v0_2)
abbrev pmin6 : Vec Ideal S1256x1x64 .f32 := W6 m c (Proc.devRef .tc main_call2_v0_3)
abbrev smax6 : Vec Ideal S1256x1x64 .f32 := W6 m c (Proc.devRef .tc main_call2_v0_4)
abbrev smin6 : Vec Ideal S1256x1x64 .f32 := W6 m c (Proc.devRef .tc main_call2_v0_5)

theorem sum6_apply (k : Fin 64) : sum6 m c (ix2 0 k) = ∑ p, xv (X5 m) c p k :=
  (congrFun (W6_arr m c 3) (ix2 0 k)).trans (sum_all (X5 m) c k)
theorem sq6_apply (k : Fin 64) : sq6 m c (ix2 0 k) = ∑ p, xv (X5 m) c p k * xv (X5 m) c p k :=
  (congrFun (W6_arr m c 4) (ix2 0 k)).trans (sum_squares (X5 m) c k)
theorem gam6_apply (k : Fin 64) : gam6 m c (ix2 0 k) = gam m c (ix1 k) :=
  (congrFun (W6_of_ne m c main_v8 (by decide +kernel)) _).trans (gam_apply m c k)
theorem bet6_apply (k : Fin 64) : bet6 m c (ix2 0 k) = bet m c (ix1 k) :=
  (congrFun (W6_of_ne m c main_v9 (by decide +kernel)) _).trans (bet_apply m c k)
theorem first6_apply (q : Fin 1250) : first6 m c (ix2 (pl q) 0) = segs m c (ix1 (hrow q 0)) :=
  (congrFun (W6_of_ne m c main_v6 (by decide +kernel)) _).trans (first_apply m c q)
theorem last6_apply (q : Fin 1250) : last6 m c (ix2 (pl q) 0) = segs m c (ix1 (hrow q 255)) :=
  (congrFun (W6_of_ne m c main_v5 (by decide +kernel)) _).trans (last_apply m c q)
theorem pmax6_at (j : S1256x1x64.Idx) : MaxAt (X5 m) c 0 j (pmax6 m c j) :=
  (congrArg (MaxAt (X5 m) c 0 j) (congrFun (W6_arr m c 5) j)).mpr (max_first (X5 m) c j)
theorem pmin6_at (j : S1256x1x64.Idx) : MinAt (X5 m) c 0 j (pmin6 m c j) :=
  (congrArg (MinAt (X5 m) c 0 j) (congrFun (W6_arr m c 6) j)).mpr (min_first (X5 m) c j)
theorem smax6_at (j : S1256x1x64.Idx) : MaxAt (X5 m) c 255 j (smax6 m c j) :=
  (congrArg (MaxAt (X5 m) c 255 j) (congrFun (W6_arr m c 7) j)).mpr (max_last (X5 m) c j)
theorem smin6_at (j : S1256x1x64.Idx) : MinAt (X5 m) c 255 j (smin6 m c j) :=
  (congrArg (MinAt (X5 m) c 255 j) (congrFun (W6_arr m c 8) j)).mpr (min_last (X5 m) c j)

theorem sg5 (p : Fin 320000) : sg (X5 m) c p = segs m c (ix1 p) := seg_apply m c p
theorem sg8 (p : Fin 320000) : sg (X8 m) c p = segs m c (ix1 p) := by
  have e : W8 m c (Proc.devRef .tc main_v0) = W5 m c (Proc.devRef .tc main_v0) :=
    (W8_of m c main_v0 (by decide)).trans ((W7_of_ne m c main_v0 (by decide +kernel)).trans (W6_of m c main_v0 (by decide +kernel)))
  exact (congrFun e _).trans (seg_apply m c p)

theorem mat7_apply (j : Fin 128) (k : Fin 64) : mat7 m c (ix2 j k) = mat m c (ix2 k j) := by
  have e : W7 m c (Proc.devRef .tc main_v7) = W5 m c (Proc.devRef .tc main_v7) :=
    (W7_of_ne m c main_v7 (by decide +kernel)).trans (W6_of m c main_v7 (by decide +kernel))
  exact (congrFun e _).trans (mat_apply m c j k)

variable (x : S320000x128.Idx → ℝ) (w : S64x128.Idx → ℝ) (g : S64.Idx → ℝ) (e : ℝ)

/-- The products as reals. -/
def prod (p : Fin 320000) (k : Fin 64) : ℝ := ∑ j : Fin 128, x (ix2 p j) * w (ix2 k j)

/-- The scale of column `k`. -/
def sc (k : Fin 64) : ℝ := scale 320000 e (fun p => prod x w p k) (g (ix1 k))

/-- The signed products. -/
def signed (p : Fin 320000) (k : Fin 64) : EReal := ((prod x w p k * sign (sc x w g e k) : ℝ) : EReal)

variable (hx : ∀ i, xs m c i = ((x i : ℝ) : EReal)) (hw : ∀ i, mat m c i = ((w i : ℝ) : EReal)) (hg : ∀ i, gam m c i = ((g i : ℝ) : EReal))
variable (he : 0 < e) (hE : Ideal.ofBits .f32 0x3A83126F#32 = (e : EReal))

include hx hw

theorem xv5 (p : Fin 320000) (k : Fin 64) : xv (X5 m) c p k = ((prod x w p k : ℝ) : EReal) := by
  unfold prod
  rw [← coe_sum]
  refine Finset.sum_congr rfl fun j _ => ?_
  rw [EReal.coe_mul, ← hx, ← hw]
  exact congrArg₂ _ (congrFun (W5_args m c main_arg0 (by simp)) _) (mat_apply m c j k)

theorem mean6 (k : Fin 64) : k1_pay3 (sum6 m c) (ix2 0 k) = ((mean 320000 fun p => prod x w p k : ℝ) : EReal) := by
  rw [mean1_apply, sum6_apply, Consts.count]
  rw [show ∑ p, xv (X5 m) c p k = ∑ p, ((prod x w p k : ℝ) : EReal) from Finset.sum_congr rfl fun p _ => xv5 m c x w hx hw p k]
  exact mean_eq 320000 (fun p => prod x w p k) (by norm_num)

include hg he hE

theorem scale6 (k : Fin 64) : k1_pay4 (sum6 m c) (sq6 m c) (gam6 m c) (ix2 0 k) = ((sc x w g e k : ℝ) : EReal) := by
  rw [scale1_apply, mean6 m c x w hx hw, gam6_apply, hg, sq6_apply, Consts.count, hE]
  rw [show ∑ p, xv (X5 m) c p k * xv (X5 m) c p k = ∑ p, ((prod x w p k : ℝ) : EReal) * ((prod x w p k : ℝ) : EReal) from
    Finset.sum_congr rfl fun p _ => by rw [xv5 m c x w hx hw p k]]
  exact scale_eq 320000 e (by norm_num) (by simp) he (fun p => prod x w p k) (g (ix1 k))

theorem sign7_apply (k : Fin 64) : sign7 m c (ix2 0 k) = ((sign (sc x w g e k) : ℝ) : EReal) := by
  refine (congrFun ((W7_arr m c 12).trans (arr1_sign (X6 m) c)) (ix2 0 k)).trans ?_
  refine (sign1_apply (sum6 m c) (sq6 m c) (gam6 m c) k).trans ?_
  rw [scale6 m c x w g e hx hw hg he hE]
  unfold sign
  by_cases h : 0 ≤ sc x w g e k
  · rw [if_pos h, if_pos (by exact_mod_cast h)]
  · rw [if_neg h, if_neg (by exact_mod_cast h)]

theorem abs7_apply (k : Fin 64) : abs7 m c (ix2 0 k) = ((max (sc x w g e k) (-(sc x w g e k)) : ℝ) : EReal) := by
  refine (congrFun ((W7_arr m c 10).trans (arr1_abs (X6 m) c)) (ix2 0 k)).trans ?_
  refine (abs1_apply (sum6 m c) (sq6 m c) (gam6 m c) k).trans ?_
  rw [scale6 m c x w g e hx hw hg he hE, EReal.coe_strictMono.monotone.map_max, EReal.coe_neg]

theorem shift7_apply (k : Fin 64) : shift7 m c (ix2 0 k) =
    bet m c (ix1 k) - ((mean 320000 fun p => prod x w p k : ℝ) : EReal) * ((sc x w g e k : ℝ) : EReal) := by
  refine (congrFun ((W7_arr m c 11).trans (arr1_shift (X6 m) c)) (ix2 0 k)).trans ?_
  refine (shift1_apply (sum6 m c) (sq6 m c) (gam6 m c) (bet6 m c) k).trans ?_
  rw [scale6 m c x w g e hx hw hg he hE, mean6 m c x w hx hw, bet6_apply]

/-- The third kernel's products are the signed ones. -/
theorem zv8 (p : Fin 320000) (k : Fin 64) : zv (X8 m) c p k = signed x w g e p k := by
  unfold signed prod
  rw [Finset.sum_mul, ← coe_sum]
  refine Finset.sum_congr rfl fun j _ => ?_
  rw [mul_assoc, EReal.coe_mul, EReal.coe_mul, ← hx, ← hw, ← sign7_apply m c x w g e hx hw hg he hE k, ← mat7_apply]
  exact congrArg₂ _ (congrFun (W8_args m c main_arg0 (by simp)) _) (signed_apply m c j k)

/-- What the scans start from, at a run. -/
theorem base_le (a : Fin 256) (mx mn : Vec Ideal S1256x1x64 .f32) (hmx : ∀ j, MaxAt (X5 m) c a j (mx j)) (hmn : ∀ j, MinAt (X5 m) c a j (mn j))
    (q : Fin 1250) (k : Fin 64) (y : EReal) : base1 (sum6 m c) (sq6 m c) (gam6 m c) mx mn (ix2 (pl q) k) ≤ y ↔
      ∀ i, segs m c (ix1 (hrow q i)) = segs m c (ix1 (hrow q a)) → signed x w g e (hrow q i) k ≤ y := by
  have hz : ∀ i : Fin 256, sg (X5 m) c (hrow q i) = segs m c (ix1 (hrow q i)) := fun i => sg5 m c _
  refine (base1_le _ _ _ _ _ (pl q) k y).trans ((forall_prop_of_true (p := (pl q).val < 1250) q.isLt).trans ?_)
  rw [scale6 m c x w g e hx hw hg he hE]
  by_cases h : 0 ≤ sc x w g e k
  · rw [if_pos (by exact_mod_cast h)]
    refine (hmx (ix3 (pl q) 0 k) q k rfl rfl y).trans (forall_congr' fun i => ?_)
    rw [hz, hz, xv5 m c x w hx hw]
    unfold signed sign
    rw [if_pos h, mul_one]
  · rw [if_neg (by exact_mod_cast h)]
    refine (hmn (ix3 (pl q) 0 k) q k rfl rfl (-y)).trans (forall_congr' fun i => ?_)
    rw [hz, hz, xv5 m c x w hx hw]
    unfold signed sign
    rw [if_neg h, mul_neg_one, EReal.coe_neg, EReal.neg_le]

end Cert.KernelIdeal.Run
-- ==== Proof.Value.Join.lean ====
/- The heads and tails of the runs, and with them the maximum over a whole segment. -/
module

public import proofs.«01_k».proof.Proof.Value.Kernel

@[expose] public section

noncomputable section

namespace Cert.KernelIdeal.Run

open Cert.KernelIdeal.Gen Cert.Equation Cert.Groups
open Idealize.ShloMosaic Idealize.ShloMosaic.TcCoe

variable (m : (ℓ : Loc nD τ sig) → Buf (Elt Ideal) ℓ) (c : Dev nD)
variable (x : S320000x128.Idx → ℝ) (w : S64x128.Idx → ℝ) (g : S64.Idx → ℝ) (e : ℝ)

/-- The segment of a row. -/
def seg (p : Fin 320000) : BitVec 32 := segs m c (ix1 p)

variable (lt : ∀ p, (seg m c p).toNat < 10000) (asc : ∀ p p', p ≤ p' → (seg m c p).toNat ≤ (seg m c p').toNat)

theorem segF_run (q : Fin 1250) : segF1 (first6 m c) (ix2 (pl q) 0) = seg m c (hrow q 0) :=
  (segF1_apply (first6 m c) (pl q)).trans ((if_pos q.isLt).trans (first6_apply m c q))
theorem segL_run (q : Fin 1250) : segL1 (last6 m c) (ix2 (pl q) 0) = seg m c (hrow q 255) :=
  (segL1_apply (last6 m c) (pl q)).trans ((if_pos q.isLt).trans (last6_apply m c q))
theorem segF_pad (q : Fin 1256) (h : ¬ q.val < 1250) : segF1 (first6 m c) (ix2 q 0) = 4294967289#32 :=
  (segF1_apply (first6 m c) q).trans (if_neg h)
theorem segL_pad (q : Fin 1256) (h : ¬ q.val < 1250) : segL1 (last6 m c) (ix2 q 0) = 4294967288#32 :=
  (segL1_apply (last6 m c) q).trans (if_neg h)

include lt in
theorem seg_ne (p : Fin 320000) (d : BitVec 32) (hd : 10000 ≤ d.toNat) : seg m c p ≠ d := fun h => by
  have := lt p
  rw [h] at this
  omega

theorem pl_of {p : Fin 1256} (h : p.val < 1250) : ∃ q : Fin 1250, p = pl q := ⟨⟨p.val, h⟩, Fin.ext rfl⟩

variable (hx : ∀ i, xs m c i = ((x i : ℝ) : EReal)) (hw : ∀ i, mat m c i = ((w i : ℝ) : EReal)) (hg : ∀ i, gam m c i = ((g i : ℝ) : EReal))
variable (he : 0 < e) (hE : Ideal.ofBits .f32 0x3A83126F#32 = (e : EReal))

include lt asc hx hw hg he hE

/-- The head of a run bounds what the earlier runs of its first segment hold. -/
theorem head_le (q : Fin 1250) (k : Fin 64) (y : EReal) :
    hd (X8 m) c q k ≤ y ↔ HeadLe (seg m c) (fun p => signed x w g e p k) q y := by
  have e0 : hd (X8 m) c q k = head1 (sum6 m c) (sq6 m c) (gam6 m c) (first6 m c) (last6 m c) (smax6 m c) (smin6 m c) (ix3 (pl q) 0 k) :=
    congrFun ((W8_of m c main_call2_v1_3 (by decide)).trans ((W7_arr m c 13).trans (arr1_head (X6 m) c))) _
  have hb := base_le m c x w g e hx hw hg he hE 255 (smax6 m c) (smin6 m c) (smax6_at m c) (smin6_at m c)
  rw [e0]
  refine (head1_le _ _ _ _ _ _ _ ?_ ?_ (pl q) k y).trans ?_
  · exact consec_runs (seg m c) asc 255 4294967288#32 (fun p => seg_ne m c lt p _ (by decide)) _ (segL_run m c) (segL_pad m c)
  · rw [show (0 : Fin 1256) = pl 0 from rfl, segF_run]
    exact seg_ne m c lt _ _ (by decide)
  · constructor
    · intro H q' hq e1 j hj e2 i hi
      refine (hb j k y).1 (H (pl q') hq ?_ (pl j) hj ?_) i hi
      · rw [segL_run, segF_run, e1]
      · rw [segL_run, segL_run, e2]
    · intro H p hp e1 j hj e2
      have hq := q.isLt
      have hp' : p.val < 1250 := by
        have : p.val + 1 = q.val := hp
        omega
      obtain ⟨p, rfl⟩ := pl_of hp'
      obtain ⟨j, rfl⟩ := pl_of (lt_of_le_of_lt (show j.val ≤ p.val from hj) p.isLt)
      rw [segL_run, segF_run] at e1
      rw [segL_run, segL_run] at e2
      exact (hb j k y).2 fun i hi => H p hp e1 j hj e2 i hi

/-- The tail of a run bounds what the later runs of its last segment hold. -/
theorem tail_le (q : Fin 1250) (k : Fin 64) (y : EReal) :
    tl (X8 m) c q k ≤ y ↔ TailLe (seg m c) (fun p => signed x w g e p k) q y := by
  have e0 : tl (X8 m) c q k = tail1 (sum6 m c) (sq6 m c) (gam6 m c) (first6 m c) (last6 m c) (pmax6 m c) (pmin6 m c) (ix3 (pl q) 0 k) :=
    congrFun ((W8_of m c main_call2_v1_4 (by decide)).trans ((W7_arr m c 14).trans (arr1_tail (X6 m) c))) _
  have hb := base_le m c x w g e hx hw hg he hE 0 (pmax6 m c) (pmin6 m c) (pmax6_at m c) (pmin6_at m c)
  rw [e0]
  refine (tail1_le _ _ _ _ _ _ _ ?_ ?_ (pl q) k y).trans ?_
  · exact consec_runs (seg m c) asc 0 4294967289#32 (fun p => seg_ne m c lt p _ (by decide)) _ (segF_run m c) (segF_pad m c)
  · rw [segL_pad m c 1255 (by decide)]
    decide
  · constructor
    · intro H q' hq e1 j hj e2 i hi
      refine (hb j k y).1 (H (pl q') hq ?_ (pl j) hj ?_) i hi
      · rw [segL_run, segF_run, e1]
      · rw [segF_run, segF_run, e2]
    · intro H p hp e1 j hj e2
      have hp' : p.val < 1250 := by
        by_contra hn
        rw [segF_pad m c p hn, segL_run] at e1
        exact seg_ne m c lt _ _ (by decide) e1.symm
      obtain ⟨p, rfl⟩ := pl_of hp'
      have hj' : j.val < 1250 := by
        by_contra hn
        rw [segF_pad m c j hn, segF_run] at e2
        exact seg_ne m c lt _ _ (by decide) e2.symm
      obtain ⟨j, rfl⟩ := pl_of hj'
      rw [segL_run, segF_run] at e1
      rw [segF_run, segF_run] at e2
      exact (hb j k y).2 fun i hi => H p hp e1 j hj e2 i hi

/-- A run's own rows, its head and its tail together: the greatest of the whole segment. -/
theorem joined_le (q : Fin 1250) (i : Fin 256) (k : Fin 64) (T : EReal) (hT : Joined (X8 m) c q i k T) (y : EReal) :
    T ≤ y ↔ ∀ p, seg m c p = seg m c (hrow q i) → signed x w g e p k ≤ y := by
  refine (hT y).trans (Iff.trans ?_ (whole (seg m c) asc (fun p => signed x w g e p k) q i y))
  have hz : ∀ p, sg (X8 m) c p = seg m c p := sg8 m c
  simp only [hz, zv8 m c x w g e hx hw hg he hE, head_le m c x w g e lt asc hx hw hg he hE, tail_le m c x w g e lt asc hx hw hg he hE]

end Cert.KernelIdeal.Run
-- ==== Proof.Value.Reference.lean ====
/- What the reference computes, read at an index: the linear map, the batch norm, and the segment maximum. -/
module

public import proofs.«01_k».proof.Proof.Math.Shift
public import proofs.«01_k».proof.Proof.Math.Consts
public import Idealize.ShloMosaic.Lib.Routing.Ops
public import proofs.«01_k».proof.Proof.Gen.ReferenceIdeal.Run

@[expose] public section

noncomputable section

namespace Cert.ReferenceIdeal.Value

open Idealize.ShloMosaic Facts₀ Facts

section Parts
variable (a0 : FVec Ideal S320000x128 .f32) (a1 : IVec S320000 32) (a2 : FVec Ideal S64x128 .f32) (a3 a4 : FVec Ideal S64 .f32)

/-- The linear map of the points. -/
def lin : FVec Ideal S320000x64 .f32 :=
  Host.dotGeneral dot_S320000x128_S128x64_S320000x64_1_0_0_1_n_n none a0 (transpose S128x64 [1, 0] a2 transposes_S64x128_S128x64_1_0)

/-- A row of 64 spread over the points. -/
def rows (v : FVec Ideal S64 .f32) : FVec Ideal S320000x64 .f32 :=
  broadcastInDim S320000x64 ![0, 1] bcast_S1x64_S320000x64_0_1 (broadcastInDim S1x64 ![1] bcast_S64_S1x64_1 v)

/-- The mean over the points. -/
def avg (x : FVec Ideal S320000x64 .f32) : FVec Ideal S64 .f32 :=
  Host.divf (Host.reduceAdd x (constant S_ .f32 0x00000000#32) reducesTo_S320000x64_S64_d0 h_S_) (broadcastInDim S64 ![] bcast_S_S64 (constant S_ .f32 0x489C4000#32))

/-- The points less their mean. -/
def dev : FVec Ideal S320000x64 .f32 := subf (lin a0 a2) (rows (avg (lin a0 a2)))

/-- The deviation of the batch norm. -/
def sigma : FVec Ideal S64 .f32 :=
  Host.sqrt (addf (avg (mulf (dev a0 a2) (dev a0 a2))) (broadcastInDim S64 ![] bcast_S_S64 (constant S_ .f32 0x3A83126F#32)))

/-- The normalised points, scaled, shifted and cut at zero. -/
def norm : FVec Ideal S320000x64 .f32 :=
  maximumf (addf (mulf (rows a3) (Host.divf (dev a0 a2) (rows (sigma a0 a2)))) (rows a4)) (broadcastInDim S320000x64 ![] bcast_S_S320000x64 (constant S_ .f32 0x00000000#32))

/-- Which points a segment holds. -/
def member : IVec S10000x320000x1 1 :=
  cmpi .eq (broadcastInDim S10000x320000x1 ![0, 1, 2] bcast_S1x320000x1_S10000x320000x1_0_1_2 (broadcastInDim S1x320000x1 ![1] bcast_S320000_S1x320000x1_1 a1))
    (broadcastInDim S10000x320000x1 ![0, 1, 2] bcast_S10000x1x1_S10000x320000x1_0_1_2 (broadcastInDim S10000x1x1 ![0] bcast_S10000_S10000x1x1_0 (iotaInDim S10000 32 0)))

/-- The points of a segment, minus infinity elsewhere. -/
def masked (y : FVec Ideal S320000x64 .f32) : FVec Ideal S10000x320000x64 .f32 :=
  select (broadcastInDim S10000x320000x64 ![0, 1, 2] bcast_S10000x320000x1_S10000x320000x64_0_1_2 (member a1))
    (broadcastInDim S10000x320000x64 ![0, 1, 2] bcast_S1x320000x64_S10000x320000x64_0_1_2 (broadcastInDim S1x320000x64 ![1, 2] bcast_S320000x64_S1x320000x64_1_2 y))
    (broadcastInDim S10000x320000x64 ![] bcast_S_S10000x320000x64 (id (constant S_ .f32 0xFF800000#32)))

/-- The segment maximum, cut at zero. -/
def segMax (y : FVec Ideal S320000x64 .f32) : FVec Ideal S10000x64 .f32 :=
  maximumf (Host.reduce FloatOps.maximumf (masked a1 y) (constant S_ .f32 0xFF800000#32) reducesTo_S10000x320000x64_S10000x64_d1 h_S_)
    (broadcastInDim S10000x64 ![] bcast_S_S10000x64 (constant S_ .f32 0x00000000#32))

/-- The segment numbers as a column of row indices. -/
def rowIdx : IVec S320000x1 32 :=
  broadcastInDim S320000x1 ![0] bcast_S320000_S320000x1_0 (select (cmpi .slt a1 (broadcastInDim S320000 ![] bcast_S_S320000 (constantI S_ 32 0#32)))
    (addi a1 (broadcastInDim S320000 ![] bcast_S_S320000 (constantI S_ 32 10000#32))) a1)

/-- Each point's segment maximum. -/
def back (y : FVec Ideal S320000x64 .f32) : FVec Ideal S320000x64 .f32 :=
  Host.gather gather_S10000x64_S320000x1_S320000x64_1_0_n_n_0_1_164 (segMax a1 y) (rowIdx a1)

theorem res_eq (m : (ℓ : Loc nD τ sig) → Buf (Elt Ideal) ℓ) (c : Dev nD) : res_main_v47 (F := Ideal) m c =
    concatenate S320000x128 1 [⟨S320000x64, norm (m ((c.tc : Thread nD τ).loc main_arg0)) (m ((c.tc : Thread nD τ).loc main_arg2)) (m ((c.tc : Thread nD τ).loc main_arg3)) (m ((c.tc : Thread nD τ).loc main_arg4))⟩,
      ⟨S320000x64, back (m ((c.tc : Thread nD τ).loc main_arg1)) (norm (m ((c.tc : Thread nD τ).loc main_arg0)) (m ((c.tc : Thread nD τ).loc main_arg2)) (m ((c.tc : Thread nD τ).loc main_arg3)) (m ((c.tc : Thread nD τ).loc main_arg4)))⟩]
      concatenates_S320000x64_S320000x64_S320000x128_d1 := by
  unfold res_main_v47
  rfl

theorem lin_apply (p : Fin 320000) (k : Fin 64) : lin a0 a2 (ix2 p k) = ∑ j : Fin 128, a0 (ix2 p j) * a2 (ix2 k j) := by
  pointwise [lin]

theorem rows_apply (v : FVec Ideal S64 .f32) (p : Fin 320000) (k : Fin 64) : rows v (ix2 p k) = v (ix1 k) := by
  pointwise [rows]

theorem avg_apply (x : FVec Ideal S320000x64 .f32) (k : Fin 64) :
    avg x (ix1 k) = Ideal.div (∑ p : Fin 320000, x (ix2 p k)) (Ideal.ofBits .f32 0x489C4000#32) := by
  pointwise [avg]

theorem dev_apply (p : Fin 320000) (k : Fin 64) : dev a0 a2 (ix2 p k) = lin a0 a2 (ix2 p k) - avg (lin a0 a2) (ix1 k) := by
  unfold dev
  rw [ValueIdx.subf_apply, rows_apply]

theorem sigma_apply (k : Fin 64) : sigma a0 a2 (ix1 k) =
    Ideal.sqrt (avg (mulf (dev a0 a2) (dev a0 a2)) (ix1 k) + Ideal.ofBits .f32 0x3A83126F#32) := by
  unfold sigma
  rfl

theorem norm_apply (p : Fin 320000) (k : Fin 64) : norm a0 a2 a3 a4 (ix2 p k) =
    max (a3 (ix1 k) * Ideal.div (dev a0 a2 (ix2 p k)) (sigma a0 a2 (ix1 k)) + a4 (ix1 k)) 0 := by
  unfold norm
  rw [ValueIdx.maximumf_apply, ValueIdx.addf_apply, ValueIdx.mulf_apply, ValueIdx.hostDivf_apply, rows_apply, rows_apply, rows_apply, ValueIdx.broadcastInDim_scalar_apply]
  rw [ValueIdx.constant_apply]
  show max _ (Ideal.ofBits .f32 0x00000000#32) = _
  simp only [Ideal.ofBits_zero_f32]

theorem masked_apply (y : FVec Ideal S320000x64 .f32) (g : Fin 10000) (p : Fin 320000) (k : Fin 64) :
    masked a1 y (ix3 g p k) = if a1 (ix1 p) = BitVec.ofNat 32 g.val then y (ix2 p k) else ⊥ := by
  have hm : broadcastInDim S10000x320000x64 ![0, 1, 2] bcast_S10000x320000x1_S10000x320000x64_0_1_2 (member a1) (ix3 g p k) = member a1 (ix3 g p 0) := by
    pointwise
  have h1 : broadcastInDim S10000x320000x1 ![0, 1, 2] bcast_S1x320000x1_S10000x320000x1_0_1_2 (broadcastInDim S1x320000x1 ![1] bcast_S320000_S1x320000x1_1 a1) (ix3 g p 0) = a1 (ix1 p) := by
    pointwise
  have h2 : broadcastInDim S10000x320000x1 ![0, 1, 2] bcast_S10000x1x1_S10000x320000x1_0_1_2 (broadcastInDim S10000x1x1 ![0] bcast_S10000_S10000x1x1_0 (iotaInDim S10000 32 0)) (ix3 g p 0) = BitVec.ofNat 32 g.val := by
    pointwise
    try rfl
  have h3 : broadcastInDim S10000x320000x64 ![0, 1, 2] bcast_S1x320000x64_S10000x320000x64_0_1_2 (broadcastInDim S1x320000x64 ![1, 2] bcast_S320000x64_S1x320000x64_1_2 y) (ix3 g p k) = y (ix2 p k) := by
    pointwise
  unfold masked
  split
  · next h =>
    rw [Scan.select_pos _ _ _ _ (hm.trans ((Scan.cmpi_eq_one _ _ _).mpr (h1.trans (h.trans h2.symm)))), h3]
  · next h =>
    rw [Scan.select_neg _ _ _ _ (fun e => h (h1.symm.trans (((Scan.cmpi_eq_one _ _ _).mp (hm.symm.trans e)).trans h2)))]
    rw [ValueIdx.broadcastInDim_scalar_apply]
    exact Consts.negInf

/-- The segment maximum: over the points whose number it is. -/
theorem segMax_le (y : FVec Ideal S320000x64 .f32) (g : Fin 10000) (k : Fin 64) (c : EReal) :
    segMax a1 y (ix2 g k) ≤ c ↔ (∀ p : Fin 320000, a1 (ix1 p) = BitVec.ofNat 32 g.val → y (ix2 p k) ≤ c) ∧ 0 ≤ c := by
  unfold segMax
  have hr : S10000x320000x64.Reduces [1] S10000x64 := by decide
  have hcomm : Std.Commutative (FloatOps.maximumf (F := Ideal) (φ := .f32)) := inferInstanceAs (Std.Commutative (max : EReal → EReal → EReal))
  have hassoc : Std.Associative (FloatOps.maximumf (F := Ideal) (φ := .f32)) := inferInstanceAs (Std.Associative (max : EReal → EReal → EReal))
  rw [ValueIdx.maximumf_apply, ValueIdx.broadcastInDim_scalar_apply, Host.reduce_eq_fold_single _ _ _ _ hr]
  have h0 : (constant S_ .f32 0x00000000#32 : FVec Ideal S_ .f32) ValueIdx.ix0 = (0 : EReal) := by
    show Ideal.ofBits .f32 0x00000000#32 = 0
    simp
  rw [h0]
  refine (max_le_iff (a := Finset.fold (max : EReal → EReal → EReal) (Ideal.ofBits .f32 0xFF800000#32) (masked a1 y ∘ hr.lift (ix2 g k)) Finset.univ) (b := (0 : EReal)) (c := c)).trans ?_
  refine and_congr_left fun _ => ?_
  rw [Finset.fold_max_le]
  have hb := Consts.negInf
  have hl : ∀ p : Fin 320000, hr.lift (ix2 g k) p = ix3 g p k := fun p => by
    funext a
    match a with
    | ⟨0, _⟩ => rfl
    | ⟨1, _⟩ => rfl
    | ⟨2, _⟩ => rfl
  have hv : ∀ p : Fin 320000, (masked a1 y ∘ hr.lift (ix2 g k)) p = if a1 (ix1 p) = BitVec.ofNat 32 g.val then y (ix2 p k) else ⊥ := fun p =>
    (congrArg (masked a1 y) (hl p)).trans (masked_apply a1 y g p k)
  constructor
  · rintro ⟨_, h⟩ p hp
    have := (hv p).symm.trans_le (h p (Finset.mem_univ _))
    rwa [if_pos hp] at this
  · refine fun h => ⟨hb ▸ bot_le, fun (p : Fin 320000) _ => (hv p).trans_le ?_⟩
    split
    · next hp => exact h p hp
    · exact bot_le

/-- A point reads its own segment's maximum. -/
theorem back_apply (y : FVec Ideal S320000x64 .f32) (p : Fin 320000) (k : Fin 64) (g : Fin 10000) (hg : a1 (ix1 p) = BitVec.ofNat 32 g.val) :
    back a1 y (ix2 p k) = segMax a1 y (ix2 g k) := by
  have hi : rowIdx a1 (ix2 p (0 : Fin 1)) = BitVec.ofNat 32 g.val := by
    unfold rowIdx
    have h0 : ∀ x : IVec S320000 32, broadcastInDim S320000x1 ![0] bcast_S320000_S320000x1_0 x (ix2 p (0 : Fin 1)) = x (ix1 p) := fun x => by pointwise
    rw [h0, Scan.select_neg, hg]
    rw [show cmpi .slt a1 (broadcastInDim S320000 ![] bcast_S_S320000 (constantI S_ 32 0#32)) (ix1 p) = BitVec.ofBool ((a1 (ix1 p)).slt 0#32) from rfl, hg]
    have : (BitVec.ofNat 32 g.val).slt 0#32 = false := by
      have hg' := g.isLt
      rw [BitVec.slt, decide_eq_false_iff_not, StableHlo.Predicate.toInt_ofNat_small _ (by omega)]
      show ¬ ((g.val : ℤ) < 0)
      omega
    rw [this]
    decide
  exact Routing.gather_row _ rfl rfl rfl rfl rfl _ _ p k g hi (by norm_num)

/-- Each point's entry of the reference's second half. -/
theorem back_le (y : FVec Ideal S320000x64 .f32) (p : Fin 320000) (k : Fin 64) (hp : (a1 (ix1 p)).toNat < 10000) (c : EReal) :
    back a1 y (ix2 p k) ≤ c ↔ (∀ p' : Fin 320000, a1 (ix1 p') = a1 (ix1 p) → y (ix2 p' k) ≤ c) ∧ 0 ≤ c := by
  have hg : a1 (ix1 p) = BitVec.ofNat 32 (⟨(a1 (ix1 p)).toNat, hp⟩ : Fin 10000).val := by simp
  rw [back_apply a1 y p k _ hg, segMax_le, ← hg]

end Parts

end Cert.ReferenceIdeal.Value
-- ==== Proof.Value.Pre.lean ====
/- The precondition, read: the points, the matrix and the scale are finite, the segment numbers lie between 0 and 9999 and
   ascend along the rows. -/
module

public import proofs.«01_k».proof.Pre_well_formed
public import proofs.«01_k».proof.Proof.Math.Consts
public import Idealize.ShloMosaic.Lib.ReduceAll
public import Idealize.ShloMosaic.Lib.Pointwise
public import Idealize.ShloMosaic.Lib.WordCmp

@[expose] public section

noncomputable section

namespace Cert.Pre_well_formed

open Idealize.ShloMosaic
open Facts

variable [Facts]

theorem and1 (a b : IVec S_ 1) (i : S_.Idx) : andi a b i = 1#1 ↔ a i = 1#1 ∧ b i = 1#1 := by
  show a i &&& b i = 1#1 ↔ _
  generalize a i = x
  generalize b i = y
  revert x y
  decide

/-- A number whose absolute value lies below plus infinity is a real. -/
theorem real_of_abs (x : EReal) (h : BitVec.ofBool (decide (max x (-x) < Ideal.ofBits .f32 0x7F800000#32)) = 1#1) : ∃ r : ℝ, x = (r : EReal) := by
  rw [Consts.posInf] at h
  have h' : max x (-x) < ⊤ := by
    by_contra hn
    simp [hn] at h
  induction x with
  | bot => simp at h'
  | top => simp at h'
  | coe r => exact ⟨r, rfl⟩

instance : Subsingleton S_.Idx := ⟨fun a b => funext fun i => i.elim0⟩

variable (a0 : FVec Ideal S320000x128 .f32) (a1 : IVec S320000 32) (a2 : FVec Ideal S64x128 .f32) (a3 a4 : FVec Ideal S64 .f32)

/-- What the precondition says. -/
structure Good : Prop where
  x (i) : ∃ r : ℝ, a0 i = (r : EReal)
  w (i) : ∃ r : ℝ, a2 i = (r : EReal)
  g (i) : ∃ r : ℝ, a3 i = (r : EReal)
  lt (p) : (a1 (ix1 p)).toNat < 10000
  asc (p p') : p ≤ p' → (a1 (ix1 p)).toNat ≤ (a1 (ix1 p')).toNat

theorem step {x y : BitVec 32} (hx : x.toNat < 10000) (hy : y.toNat < 10000) (h : IntOp.cmpi .sle x y = 1#1) : x.toNat ≤ y.toNat := by
  rw [WordCmp.cmpi_sle_of_lt (by omega) (by omega)] at h
  by_contra hn
  simp [hn] at h

theorem range {x : BitVec 32} (h0 : IntOp.cmpi .sge x 0#32 = 1#1) (h1 : IntOp.cmpi .slt x 10000#32 = 1#1) : x.toNat < 10000 := by
  rw [WordCmp.cmpi_sge_eq] at h0
  rw [WordCmp.cmpi_slt_eq] at h1
  have a0 : (0#32).toInt ≤ x.toInt := by
    by_contra hn
    simp only [hn, decide_false] at h0
    exact absurd h0 (by decide)
  have a1 : x.toInt < (10000#32).toInt := by
    by_contra hn
    simp only [hn, decide_false] at h1
    exact absurd h1 (by decide)
  have e0 : (0#32).toInt = 0 := by decide
  have e1 : (10000#32).toInt = 10000 := by decide
  rw [e0] at a0
  rw [e1] at a1
  rw [BitVec.toInt_eq_toNat_cond] at a0 a1
  have := x.isLt
  split at a0 <;> omega

theorem good (h : fn (F := Ideal) a0 a1 a2 a3 a4 = fun _ => 1#1) : Good a0 a1 a2 a3 := by
  have h := congrFun h ValueIdx.ix0
  unfold fn fn_part1 at h
  dsimp only at h
  rw [and1, and1, and1, and1] at h
  obtain ⟨⟨⟨⟨h0, h2⟩, h3⟩, h1⟩, h4⟩ := h
  have hlt : ∀ p, (a1 (ix1 p)).toNat < 10000 := fun p => by
    have e := Host.reduce_andi_all _ _ _ _ _ h1 (ix1 p)
    have e' : IntOp.cmpi .sge (a1 (ix1 p)) 0#32 &&& IntOp.cmpi .slt (a1 (ix1 p)) 10000#32 = 1#1 := e
    have hab : ∀ a b : BitVec 1, a &&& b = 1#1 → a = 1#1 ∧ b = 1#1 := by decide
    exact range (hab _ _ e').1 (hab _ _ e').2
  refine ⟨fun i => real_of_abs _ (Host.reduce_andi_all _ _ _ _ _ h0 i), fun i => real_of_abs _ (Host.reduce_andi_all _ _ _ _ _ h2 i),
    fun i => real_of_abs _ (Host.reduce_andi_all _ _ _ _ _ h3 i), hlt, fun p p' hp => ?_⟩
  have next : ∀ n : ℕ, ∀ h : n + 1 < 320000, (a1 (ix1 ⟨n, by omega⟩)).toNat ≤ (a1 (ix1 ⟨n + 1, h⟩)).toNat := fun n h => by
    have e := Host.reduce_andi_all _ _ _ _ _ h4 (ix1 (⟨n, by omega⟩ : Fin 319999))
    refine step (hlt _) (hlt _) (Eq.trans ?_ e)
    have e0 : extractStridedSlice S319999 ![0] a1 slices_S320000_S319999_0 (ix1 (⟨n, by omega⟩ : Fin 319999)) = a1 (ix1 ⟨n, by omega⟩) :=
      extractStridedSlice_apply _ _ _ _ (ix1 (⟨n, by omega⟩ : Fin 320000)) fun a => match a with | ⟨0, _⟩ => (by show n = 0 + n; omega)
    have e1 : extractStridedSlice S319999 ![1] a1 slices_S320000_S319999_1 (ix1 (⟨n, by omega⟩ : Fin 319999)) = a1 (ix1 ⟨n + 1, h⟩) :=
      extractStridedSlice_apply _ _ _ _ (ix1 (⟨n + 1, h⟩ : Fin 320000)) fun a => match a with | ⟨0, _⟩ => (by show n + 1 = 1 + n; omega)
    exact (congrArg₂ (IntOp.cmpi .sle) e0 e1).symm
  have all : ∀ d n : ℕ, ∀ h : n + d < 320000, (a1 (ix1 ⟨n, by omega⟩)).toNat ≤ (a1 (ix1 ⟨n + d, h⟩)).toNat := fun d => by
    induction d with
    | zero => exact fun n h => Nat.le_refl _
    | succ d ih => exact fun n h => (ih n (by omega)).trans (next (n + d) h)
  have hp' : p.val ≤ p'.val := hp
  have := all (p'.val - p.val) p.val (by omega)
  have e : (⟨p.val + (p'.val - p.val), by omega⟩ : Fin 320000) = p' := Fin.ext (by show p.val + (p'.val - p.val) = p'.val; omega)
  rwa [e] at this

end Cert.Pre_well_formed
-- ==== Proof.Value.Equal.lean ====
/- The equation: the array that the kernel returns is the array that the reference returns. -/
module

public import proofs.«01_k».proof.Proof.Value.Join
public import proofs.«01_k».proof.Proof.Value.Reference
public import proofs.«01_k».proof.Proof.Value.Pre

@[expose] public section

noncomputable section

namespace Cert.KernelIdeal.Run

open Cert.KernelIdeal.Gen Cert.Equation Cert.Groups
open Idealize.ShloMosaic Idealize.ShloMosaic.TcCoe
open Cert.ReferenceIdeal.Value (lin avg dev sigma norm back)

section Reference

variable (a0 : Vec Ideal S320000x128 .f32) (a2 : Vec Ideal S64x128 .f32) (a3 a4 : Vec Ideal S64 .f32)
variable (x : S320000x128.Idx → ℝ) (w : S64x128.Idx → ℝ) (g : S64.Idx → ℝ) (e : ℝ)
variable (hx : ∀ i, a0 i = ((x i : ℝ) : EReal)) (hw : ∀ i, a2 i = ((w i : ℝ) : EReal)) (hg : ∀ i, a3 i = ((g i : ℝ) : EReal))
variable (he : 0 < e) (hE : Ideal.ofBits .f32 0x3A83126F#32 = (e : EReal))

include hx hw

theorem lin_real (p : Fin 320000) (k : Fin 64) : lin a0 a2 (ix2 p k) = ((prod x w p k : ℝ) : EReal) := by
  refine (Cert.ReferenceIdeal.Value.lin_apply a0 a2 p k).trans ?_
  unfold prod
  rw [← coe_sum]
  refine Finset.sum_congr rfl fun j _ => ?_
  rw [EReal.coe_mul, hx, hw]

theorem avg_real (k : Fin 64) : avg (lin a0 a2) (ix1 k) = ((mean 320000 fun p => prod x w p k : ℝ) : EReal) := by
  refine (Cert.ReferenceIdeal.Value.avg_apply _ k).trans ?_
  rw [show ∑ p, lin a0 a2 (ix2 p k) = ∑ p, ((prod x w p k : ℝ) : EReal) from Finset.sum_congr rfl fun p _ => lin_real a0 a2 x w hx hw p k, Consts.count]
  exact mean_eq 320000 (fun p => prod x w p k) (by norm_num)

theorem dev_real (p : Fin 320000) (k : Fin 64) : dev a0 a2 (ix2 p k) =
    ((prod x w p k : ℝ) : EReal) - ((mean 320000 fun p => prod x w p k : ℝ) : EReal) := by
  refine (Cert.ReferenceIdeal.Value.dev_apply a0 a2 p k).trans ?_
  rw [lin_real a0 a2 x w hx hw, avg_real a0 a2 x w hx hw]

include he hE in
theorem sigma_real (k : Fin 64) : sigma a0 a2 (ix1 k) = ((Real.sqrt (var 320000 (fun p => prod x w p k) + e) : ℝ) : EReal) := by
  refine (Cert.ReferenceIdeal.Value.sigma_apply a0 a2 k).trans ?_
  have h := Cert.ReferenceIdeal.Value.avg_apply (mulf (dev a0 a2) (dev a0 a2)) k
  rw [show ∑ p, mulf (dev a0 a2) (dev a0 a2) (ix2 p k) = ∑ p, (((prod x w p k : ℝ) : EReal) - ((mean 320000 fun p => prod x w p k : ℝ) : EReal))
      * (((prod x w p k : ℝ) : EReal) - ((mean 320000 fun p => prod x w p k : ℝ) : EReal)) from
    Finset.sum_congr rfl fun p _ => by rw [ValueIdx.mulf_apply, dev_real a0 a2 x w hx hw], Consts.count] at h
  rw [h, hE]
  exact sigma_eq 320000 e (by norm_num) he (fun p => prod x w p k)

include hg he hE in
/-- The reference's normalised value is the scaled and shifted signed product, cut at zero. -/
theorem norm_real (p : Fin 320000) (k : Fin 64) : norm a0 a2 a3 a4 (ix2 p k) =
    max (signed x w g e p k * ((max (sc x w g e k) (-(sc x w g e k)) : ℝ) : EReal)
      + (a4 (ix1 k) - ((mean 320000 fun p => prod x w p k : ℝ) : EReal) * ((sc x w g e k : ℝ) : EReal))) 0 := by
  refine (Cert.ReferenceIdeal.Value.norm_apply a0 a2 a3 a4 p k).trans ?_
  rw [dev_real a0 a2 x w hx hw, sigma_real a0 a2 x w e hx hw he hE, hg]
  exact congrArg (max · 0) (affine 320000 e (by norm_num) he (fun p => prod x w p k) (g (ix1 k)) p (a4 (ix1 k))).symm

end Reference

variable (m : (ℓ : Loc nD τ sig) → Buf (Elt Ideal) ℓ) (c : Dev nD)

/-- The two arrays are equal. -/
theorem equal (h : Cert.Pre_well_formed.Good (xs m c) (segs m c) (mat m c) (gam m c)) :
    (dat2 (X8 m) c).arrAt 9 cfg2.N = concatenate S320000x128 1 [⟨Cert.ReferenceIdeal.S320000x64, norm (xs m c) (mat m c) (gam m c) (bet m c)⟩,
      ⟨Cert.ReferenceIdeal.S320000x64, back (segs m c) (norm (xs m c) (mat m c) (gam m c) (bet m c))⟩] Cert.ReferenceIdeal.Gen.facts.concatenates_S320000x64_S320000x64_S320000x128_d1 := by
  obtain ⟨e, he, hE⟩ := Consts.eps
  choose x hx using h.x
  choose w hw using h.w
  choose g hg using h.g
  have lt : ∀ p, (seg m c p).toNat < 10000 := h.lt
  have asc : ∀ p p', p ≤ p' → (seg m c p).toNat ≤ (seg m c p').toNat := h.asc
  have hn := norm_real (xs m c) (mat m c) (gam m c) (bet m c) x w g e hx hw hg he hE
  have hs : ∀ p, sg (X8 m) c p = seg m c p := sg8 m c
  have R := result2 (X8 m) c (fun q => by simpa only [hs] using consec_run (seg m c) asc q)
    (fun k => ((max (sc x w g e k) (-(sc x w g e k)) : ℝ) : EReal))
    (fun k => bet m c (ix1 k) - ((mean 320000 fun p => prod x w p k : ℝ) : EReal) * ((sc x w g e k : ℝ) : EReal))
    (fun b k => (scales_apply m c b k).trans (abs7_apply m c x w g e hx hw hg he hE k))
    (fun b k => (shifts_apply m c b k).trans (shift7_apply m c x w g e hx hw hg he hE k))
  funext j
  obtain ⟨p, l, rfl⟩ : ∃ (p : Fin 320000) (l : Fin 128), j = ix2 p l := ⟨j 0, j 1, eq_ix2 j⟩
  obtain ⟨q, i, rfl⟩ := exists_hrow p
  by_cases hl : l.val < 64
  · refine Eq.trans ?_ (Scan.beside_left _ _ _ (hrow q i) l hl).symm
    rw [hn, ← zv8 m c x w g e hx hw hg he hE]
    exact (R (ix2 (hrow q i) l) q i ⟨l.val, hl⟩ rfl).1 rfl
  · refine Eq.trans ?_ (Scan.beside_right _ _ _ (hrow q i) l hl).symm
    have hl' := l.isLt
    obtain ⟨T, hT, hv⟩ := (R (ix2 (hrow q i) l) q i ⟨l.val - 64, by omega⟩ rfl).2 (by show l.val = 64 + (l.val - 64); omega)
    refine hv.trans ?_
    generalize (⟨l.val - 64, by omega⟩ : Fin 64) = k at hT ⊢
    have hT' := joined_le m c x w g e lt asc hx hw hg he hE q i k T hT
    obtain ⟨p, hp, rfl, hmax⟩ := attained (fun p => seg m c p = seg m c (hrow q i)) (hrow q i) rfl (fun p => signed x w g e p k) T hT'
    refine eq_of_forall_ge_iff fun y => ?_
    refine Iff.trans ?_ (Cert.ReferenceIdeal.Value.back_le (segs m c) _ (hrow q i) k (lt _) y).symm
    constructor
    · intro H
      refine ⟨fun p' hp' => ?_, le_trans (le_max_right _ _) H⟩
      rw [hn]
      exact (mono (le_max_iff.2 ((le_total 0 _).imp id neg_nonneg.2)) (hmax p' hp') _).trans H
    · rintro ⟨H, -⟩
      have := H p hp
      rwa [hn] at this

end Cert.KernelIdeal.Run
-- ==== Proof.Algebraic.lean ====
/- The value claim: from equal arguments that meet the precondition, kernel and reference return the same array. -/
module

public import proofs.«01_k».proof.Defs
public import proofs.«01_k».proof.Proof.Gen.Pre_well_formed
public import proofs.«01_k».proof.Proof.Value.Equal

@[expose] public section

noncomputable section

namespace Cert.Values

open Idealize.ShloMosaic Idealize.SL.Sem

/-- The reference's result, computed from the kernel's arguments, is the kernel's. -/
theorem reference_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hm : Cert.Pre_KernelIdeal_well_formed m) (c : Dev Cert.KernelIdeal.nD)
    (h : m' ((c.tc : Thread Cert.ReferenceIdeal.nD Cert.ReferenceIdeal.τ).loc Cert.ReferenceIdeal.main_arg0) = Cert.KernelIdeal.Run.xs m c
      ∧ m' ((c.tc : Thread Cert.ReferenceIdeal.nD Cert.ReferenceIdeal.τ).loc Cert.ReferenceIdeal.main_arg1) = Cert.KernelIdeal.Run.segs m c
      ∧ m' ((c.tc : Thread Cert.ReferenceIdeal.nD Cert.ReferenceIdeal.τ).loc Cert.ReferenceIdeal.main_arg2) = Cert.KernelIdeal.Run.mat m c
      ∧ m' ((c.tc : Thread Cert.ReferenceIdeal.nD Cert.ReferenceIdeal.τ).loc Cert.ReferenceIdeal.main_arg3) = Cert.KernelIdeal.Run.gam m c
      ∧ m' ((c.tc : Thread Cert.ReferenceIdeal.nD Cert.ReferenceIdeal.τ).loc Cert.ReferenceIdeal.main_arg4) = Cert.KernelIdeal.Run.bet m c) :
    Cert.ReferenceIdeal.Value.res_main_v47 (F := Ideal) m' c
      = (Cert.KernelIdeal.Gen.dat2 (Cert.KernelIdeal.Run.X8 m) c).arrAt 9 Cert.KernelIdeal.cfg2.N := by
  refine (Cert.ReferenceIdeal.Value.res_eq m' c).trans ?_
  rw [h.1, h.2.1, h.2.2.1, h.2.2.2.1, h.2.2.2.2]
  exact (Cert.KernelIdeal.Run.equal m c (Cert.Pre_well_formed.good _ _ _ _ _ (hm c))).symm

/-- Kernel and reference agree at the extended reals. -/
theorem algebraic : Cert.algebraic_KernelIdeal_ReferenceIdeal_pre_well_formed := fun m ρ m' ρ' hm h =>
  ⟨_, (θ_run Cert.KernelIdeal.defs _ _).mono (fun _ r c => ⟨r.1 c, r.2.1 c⟩) (Cert.KernelIdeal.Run.run_result (F := Ideal) m ρ),
    (θ_run Cert.ReferenceIdeal.defs _ _).mono (fun _ r c => ⟨(r c).1.trans (reference_eq m m' hm c (h c)), (r c).2⟩)
      (Cert.ReferenceIdeal.Value.run (F := Ideal) m' ρ')⟩

end Cert.Values

end
-- ==== Proof.lean ====
/- The proof of the certificate's claims, assembled from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_well_formed
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All claims. -/
theorem claim : Cert.Claim := ⟨Cert.Kernel.Gen.facts, Cert.KernelIdeal.Gen.facts, Cert.ReferenceIdeal.Gen.facts, Cert.Pre_well_formed.Gen.facts,
  Cert.Frames.frame_p, Cert.Frames.frame_pi, fun m ρ _ => Cert.Frames.frame_pi m ρ trivial,
  Cert.Frames.frame_ri, fun m ρ _ => Cert.Frames.frame_ri m ρ trivial, Cert.Frames.preserves, Cert.Values.algebraic⟩

end Cert.Proof

end
